-- ==== Defs.lean ====
def Pre_Kernel [hPre_even_Kernel : Cert.Pre_even_Kernel.Facts] (m : (ℓ : Loc Cert.Kernel.nD Cert.Kernel.τ Cert.Kernel.sig) → Buf (Elt Bits) ℓ) : Prop :=
  ∀ c : Dev Cert.Kernel.nD,
    (Cert.Pre_even_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_even_Kernel : Cert.Pre_even_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_even_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_ReferenceIdeal [hPre_even_ReferenceIdeal : Cert.Pre_even_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_even_Kernel : Cert.Pre_even_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even_ReferenceIdeal [hReferenceIdeal : Cert.ReferenceIdeal.Facts] [hPre_even_ReferenceIdeal : Cert.Pre_even_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_even_Kernel : Cert.Pre_even_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![8192, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![8192]⟩ (Layout.meshBlock [2, 2, 4] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 1024]⟩ ⟨2, ![8192, 1024]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_even_Kernel : Cert.Pre_even_Kernel.Facts) (hPre_even_ReferenceIdeal : Cert.Pre_even_ReferenceIdeal.Facts),
    quiescent_Kernel (hKernel := hKernel) (hPre_even_Kernel := hPre_even_Kernel)
    ∧ quiescent_KernelIdeal (hKernelIdeal := hKernelIdeal) (hPre_even_Kernel := hPre_even_Kernel)
    ∧ quiescent_ReferenceIdeal (hReferenceIdeal := hReferenceIdeal)
    ∧ quiescent_ReferenceIdeal_pre_even_ReferenceIdeal (hReferenceIdeal := hReferenceIdeal) (hPre_even_ReferenceIdeal := hPre_even_ReferenceIdeal)
    ∧ preserves_Kernel_KernelIdeal
    ∧ algebraic_KernelIdeal_ReferenceIdeal (hKernelIdeal := hKernelIdeal) (hReferenceIdeal := hReferenceIdeal) (hPre_even_Kernel := hPre_even_Kernel)
-- ==== Pre_even_Kernel.lean ====
abbrev S2048x1024 : Shape := ⟨2, ![2048, 1024]⟩
abbrev S2048 : Shape := ⟨1, ![2048]⟩
abbrev S_ : Shape := ⟨0, ![]⟩
abbrev S1 : Shape := ⟨1, ![1]⟩
abbrev S4 : Shape := ⟨1, ![4]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0
  bcast_S_S4 : S_.BroadcastsInDim S4 (![] : Fin 0 → Fin S4.rank)

variable [Facts]

def fn_part1 {F : FTy → Type} [FloatOps F] (main_v3 : IVec S_ 32) (main_v7 : IVec S_ 32) (main_v11 : IVec S_ 32) (main_v15 : IVec S_ 32) : IVec S4 1 :=
  let main_v16 : IVec S1 32 := broadcastInDim S1 ![] bcast_S_S1 main_v3
  let main_v17 : IVec S1 32 := broadcastInDim S1 ![] bcast_S_S1 main_v7
  let main_v18 : IVec S1 32 := broadcastInDim S1 ![] bcast_S_S1 main_v11
  let main_v19 : IVec S1 32 := broadcastInDim S1 ![] bcast_S_S1 main_v15
  let main_v20 : IVec S4 32 := concatenate S4 0 [⟨S1, main_v16⟩, ⟨S1, main_v17⟩, ⟨S1, main_v18⟩, ⟨S1, main_v19⟩] concatenates_S1_S1_S1_S1_S4_d0
  let main_c_7 : IVec S_ 32 := constantI S_ 32 512#32
  let main_v21 : IVec S4 32 := broadcastInDim S4 ![] bcast_S_S4 main_c_7
  let main_v22 : IVec S4 1 := cmpi .eq main_v20 main_v21
  main_v22

def fn {F : FTy → Type} [FloatOps F] (main_arg0 : FVec F S2048x1024 .f32) (main_arg1 : IVec S2048 32) : IVec S4 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 32 := (extui 32 · natLt_1_32) main_v5
  let main_c_2 : IVec S_ 32 := constantI S_ 32 0#32
  let main_v7 : IVec S_ 32 := (fun x v => Host.reduce IntOp.addi x v reducesTo_S2048_S_d0 h_S_) main_v6 main_c_2
  let main_c_3 : IVec S_ 32 := constantI S_ 32 2#32
  let main_v8 : IVec S2048 32 := broadcastInDim S2048 ![] bcast_S_S2048 main_c_3
  let main_v9 : IVec S2048 1 := cmpi .eq main_arg1 main_v8
  let main_v10 : IVec S2048 32 := (extui 32 · natLt_1_32) main_v9
  let main_c_4 : IVec S_ 32 := constantI S_ 32 0#32
  let main_v11 : IVec S_ 32 := (fun x v => Host.reduce IntOp.addi x v reducesTo_S2048_S_d0 h_S_) main_v10 main_c_4
  let main_c_5 : IVec S_ 32 := constantI S_ 32 3#32
  let main_v12 : IVec S2048 32 := broadcastInDim S2048 ![] bcast_S_S2048 main_c_5
  let main_v13 : IVec S2048 1 := cmpi .eq main_arg1 main_v12
  let main_v14 : IVec S2048 32 := (extui 32 · natLt_1_32) main_v13
  let main_c_6 : IVec S_ 32 := constantI S_ 32 0#32
  let main_v15 : IVec S_ 32 := (fun x v => Host.reduce IntOp.addi x v reducesTo_S2048_S_d0 h_S_) main_v14 main_c_6
  fn_part1 (F := F) main_v3 main_v7 main_v11 main_v15
-- ==== Pre_even_ReferenceIdeal.lean ====
abbrev S8192x1024 : Shape := ⟨2, ![8192, 1024]⟩
abbrev S8192 : Shape := ⟨1, ![8192]⟩
abbrev S_ : Shape := ⟨0, ![]⟩
abbrev S1 : Shape := ⟨1, ![1]⟩
abbrev S4 : Shape := ⟨1, ![4]⟩

class Facts : Prop where
  bcast_S_S8192 : S_.BroadcastsInDim S8192 (![] : Fin 0 → Fin S8192.rank)
  natLt_1_32 : 1 < 32
  reducesTo_S8192_S_d0 : S8192.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0
  bcast_S_S4 : S_.BroadcastsInDim S4 (![] : Fin 0 → Fin S4.rank)

variable [Facts]

def fn_part1 {F : FTy → Type} [FloatOps F] (main_v3 : IVec S_ 32) (main_v7 : IVec S_ 32) (main_v11 : IVec S_ 32) (main_v15 : IVec S_ 32) : IVec S4 1 :=
  let main_v16 : IVec S1 32 := broadcastInDim S1 ![] bcast_S_S1 main_v3
  let main_v17 : IVec S1 32 := broadcastInDim S1 ![] bcast_S_S1 main_v7
  let main_v18 : IVec S1 32 := broadcastInDim S1 ![] bcast_S_S1 main_v11
  let main_v19 : IVec S1 32 := broadcastInDim S1 ![] bcast_S_S1 main_v15
  let main_v20 : IVec S4 32 := concatenate S4 0 [⟨S1, main_v16⟩, ⟨S1, main_v17⟩, ⟨S1, main_v18⟩, ⟨S1, main_v19⟩] concatenates_S1_S1_S1_S1_S4_d0
  let main_c_7 : IVec S_ 32 := constantI S_ 32 512#32
  let main_v21 : IVec S4 32 := broadcastInDim S4 ![] bcast_S_S4 main_c_7
  let main_v22 : IVec S4 1 := cmpi .eq main_v20 main_v21
  main_v22

def fn {F : FTy → Type} [FloatOps F] (main_arg0 : FVec F S8192x1024 .f32) (main_arg1 : IVec S8192 32) : IVec S4 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_c_0 : IVec S_ 32 := constantI S_ 32 0#32
  let main_v3 : IVec S_ 32 := (fun x v => Host.reduce IntOp.addi x v reducesTo_S8192_S_d0 h_S_) main_v2 main_c_0
  let main_c_1 : IVec S_ 32 := constantI S_ 32 1#32
  let main_v4 : IVec S8192 32 := broadcastInDim S8192 ![] bcast_S_S8192 main_c_1
  let main_v5 : IVec S8192 1 := cmpi .eq main_arg1 main_v4
  let main_v6 : IVec S8192 32 := (extui 32 · natLt_1_32) main_v5
  let main_c_2 : IVec S_ 32 := constantI S_ 32 0#32
  let main_v7 : IVec S_ 32 := (fun x v => Host.reduce IntOp.addi x v reducesTo_S8192_S_d0 h_S_) main_v6 main_c_2
  let main_c_3 : IVec S_ 32 := constantI S_ 32 2#32
  let main_v8 : IVec S8192 32 := broadcastInDim S8192 ![] bcast_S_S8192 main_c_3
  let main_v9 : IVec S8192 1 := cmpi .eq main_arg1 main_v8
  let main_v10 : IVec S8192 32 := (extui 32 · natLt_1_32) main_v9
  let main_c_4 : IVec S_ 32 := constantI S_ 32 0#32
  let main_v11 : IVec S_ 32 := (fun x v => Host.reduce IntOp.addi x v reducesTo_S8192_S_d0 h_S_) main_v10 main_c_4
  let main_c_5 : IVec S_ 32 := constantI S_ 32 3#32
  let main_v12 : IVec S8192 32 := broadcastInDim S8192 ![] bcast_S_S8192 main_c_5
  let main_v13 : IVec S8192 1 := cmpi .eq main_arg1 main_v12
  let main_v14 : IVec S8192 32 := (extui 32 · natLt_1_32) main_v13
  let main_c_6 : IVec S_ 32 := constantI S_ 32 0#32
  let main_v15 : IVec S_ 32 := (fun x v => Host.reduce IntOp.addi x v reducesTo_S8192_S_d0 h_S_) main_v14 main_c_6
  fn_part1 (F := F) main_v3 main_v7 main_v11 main_v15
-- ==== Kernel.lean ====
abbrev S2048x1024 : Shape := ⟨2, ![2048, 1024]⟩
abbrev S2048 : Shape := ⟨1, ![2048]⟩
abbrev S16x128 : Shape := ⟨2, ![16, 128]⟩
abbrev S4x128 : Shape := ⟨2, ![4, 128]⟩
abbrev S4 : Shape := ⟨1, ![4]⟩
abbrev S_ : Shape := ⟨0, ![]⟩
abbrev S2 : Shape := ⟨1, ![2]⟩
abbrev S1 : Shape := ⟨1, ![1]⟩
abbrev S1x128 : Shape := ⟨2, ![1, 128]⟩
abbrev S1x16x128 : Shape := ⟨3, ![1, 16, 128]⟩
abbrev S1x1x1 : Shape := ⟨3, ![1, 1, 1]⟩
abbrev S1x1 : Shape := ⟨2, ![1, 1]⟩
abbrev S1x1024 : Shape := ⟨2, ![1, 1024]⟩

abbrev nBuf : Space → Nat
  | .hbm => 4
  | .vmem => 4
  | .smem => 3
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S16x128, .i32⟩
  | .hbm, ⟨3, _⟩ => ⟨S2048x1024, .f32⟩
  | .local _ .vmem, ⟨0, _⟩ => ⟨S2048x1024, .f32⟩
  | .local _ .vmem, ⟨1, _⟩ => ⟨S16x128, .i32⟩
  | .local _ .vmem, ⟨2, _⟩ => ⟨S2048x1024, .f32⟩
  | .local _ .vmem, ⟨3, _⟩ => ⟨S4x128, .i32⟩
  | .local _ .smem, ⟨0, _⟩ => ⟨S4x128, .i32⟩
  | .local _ .smem, ⟨1, _⟩ => ⟨S16x128, .i32⟩
  | .local _ .smem, ⟨2, _⟩ => ⟨S4, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.smem, 0, rfl⟩
abbrev cc0_scratch2 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v98 : Index := Scalar.indexCast v8
  let c0_46 : Index := 0#32
  ![v98.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_53 : BitVec 32 := 0#32
  ![v8.toNat, 0]
def k0_dev4 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v104 : BitVec 32 := Scalar.muli v2 c8_i32_49
  let v105 : BitVec 32 := Scalar.addi c0_i32_50 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v106 : BitVec 32 := Scalar.muli v5 c4_i32_51
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v102 : BitVec 32 := Scalar.addi v8 c1_i32_47
  let c4_i32_48 : BitVec 32 := 4#32
  let v103 : BitVec 32 := Scalar.remsi v102 c4_i32_48
  let c1_i32_52 : BitVec 32 := 1#32
  let v108 : BitVec 32 := Scalar.muli v103 c1_i32_52
  let v109 : BitVec 32 := Scalar.addi v107 v108
  v109.toNat
def k0_dev5 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v114 : BitVec 32 := Scalar.muli v2 c8_i32_57
  let v115 : BitVec 32 := Scalar.addi c0_i32_58 v114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v116 : BitVec 32 := Scalar.muli v5 c4_i32_59
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v112 : BitVec 32 := Scalar.addi v8 c2_i32_55
  let c4_i32_56 : BitVec 32 := 4#32
  let v113 : BitVec 32 := Scalar.remsi v112 c4_i32_56
  let c1_i32_60 : BitVec 32 := 1#32
  let v118 : BitVec 32 := Scalar.muli v113 c1_i32_60
  let v119 : BitVec 32 := Scalar.addi v117 v118
  v119.toNat
def k0_dev6 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v124 : BitVec 32 := Scalar.muli v2 c8_i32_65
  let v125 : BitVec 32 := Scalar.addi c0_i32_66 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v126 : BitVec 32 := Scalar.muli v5 c4_i32_67
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v122 : BitVec 32 := Scalar.addi v8 c3_i32_63
  let c4_i32_64 : BitVec 32 := 4#32
  let v123 : BitVec 32 := Scalar.remsi v122 c4_i32_64
  let c1_i32_68 : BitVec 32 := 1#32
  let v128 : BitVec 32 := Scalar.muli v123 c1_i32_68
  let v129 : BitVec 32 := Scalar.addi v127 v128
  v129.toNat
@[reducible] def k0_t1_loop : Scf.Loop 32 :=
  let c0_i32_174 : BitVec 32 := 0#32
  let c128_i32 : BitVec 32 := 128#32
  let v236 : BitVec 32 := Scalar.addi c0_i32_174 c128_i32
  let c1_i32_175 : BitVec 32 := 1#32
  ⟨c0_i32_174, v236, c1_i32_175⟩
def k0_off3 (k0_t1 : Fin k0_t1_loop.trips) : Fin 2 → Nat :=
  let c0_266 : Index := 0#32
  let c0_i32_174 : BitVec 32 := 0#32
  let c1_i32_175 : BitVec 32 := 1#32
  let arg13 : BitVec 32 := Scf.iv c0_i32_174 c1_i32_175 k0_t1
  let v306 : Index := Scalar.indexCast arg13
  ![0, v306.toNat]
def k0_off4 (v307 : BitVec 32) : Fin 1 → Nat :=
  let v308 : Index := Scalar.indexCast v307
  ![v308.toNat]

def k0_off5 (v309 : BitVec 32) : Fin 2 → Nat :=
  let c0_i32_280 : BitVec 32 := 0#32
  ![v309.toNat, 0]
def k0_cond1 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_268 : BitVec 32 := 0#32
  let v317 : BitVec 1 := Scalar.cmpi .ne v316 c0_i32_268
  v317

def k0_off6 (k0_t1 : Fin k0_t1_loop.trips) : Fin 2 → Nat :=
  let c0_i32_265 : BitVec 32 := 0#32
  let c0_i32_174 : BitVec 32 := 0#32
  let c1_i32_175 : BitVec 32 := 1#32
  let arg13 : BitVec 32 := Scf.iv c0_i32_174 c1_i32_175 k0_t1
  let v305 : BitVec 32 := Scalar.addi c0_i32_265 arg13
  let c0_i32_281 : BitVec 32 := 0#32
  ![v305.toNat, 0]
def k0_dev7 (d0 : Dev nD) (v307 : BitVec 32) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v338 : BitVec 32 := Scalar.muli v2 c8_i32_276
  let v339 : BitVec 32 := Scalar.addi c0_i32_277 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v340 : BitVec 32 := Scalar.muli v5 c4_i32_278
  let v341 : BitVec 32 := Scalar.addi v339 v340
  let c1_i32_279 : BitVec 32 := 1#32
  let v342 : BitVec 32 := Scalar.muli v307 c1_i32_279
  let v343 : BitVec 32 := Scalar.addi v341 v342
  v343.toNat

def k0_chk1 (d0 : Dev nD) (v307 : BitVec 32) : Prop :=
  (∀ a, (k0_off4 v307) a + S1.size a ≤ S4.size a) ∧
  (∀ (k0_h1 : k0_cond1 d0 v307 = 1#1), (k0_dev7 d0 v307) < nD)
theorem k0_off4_inb : ∀ (d0 : Dev nD) (v307 : BitVec 32) (k0_hw1 : k0_chk1 d0 v307), ∀ a, (k0_off4 v307) a + S1.size a ≤ S4.size a := fun d0 v307 k0_hw1 => k0_hw1.1
theorem k0_dev7_lt : ∀ (d0 : Dev nD) (v307 : BitVec 32) (k0_hw1 : k0_chk1 d0 v307), ∀ (k0_h1 : k0_cond1 d0 v307 = 1#1), (k0_dev7 d0 v307) < nD := fun d0 v307 k0_hw1 k0_h1 => k0_hw1.2 k0_h1

def k0_off7 (v309 : BitVec 32) : Fin 2 → Nat :=
  let c0_i32_276 : BitVec 32 := 0#32
  ![v309.toNat, 0]
def k0_cond2 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_269 : BitVec 32 := 0#32
  let v320 : BitVec 1 := Scalar.cmpi .ne v319 c0_i32_269
  v320

def k0_chk2 (d0 : Dev nD) (v307 : BitVec 32) (v309 : BitVec 32) : Prop :=
  (∀ (k0_h1 : k0_cond1 d0 v307 = 1#1), ∀ a, (k0_off5 v309) a + S1x1024.size a ≤ S2048x1024.size a) ∧
  (∀ (k0_h2 : k0_cond2 d0 v307 = 1#1), ∀ a, (k0_off7 v309) a + S1x1024.size a ≤ S2048x1024.size a)
theorem k0_off5_inb : ∀ (d0 : Dev nD) (v307 : BitVec 32) (v309 : BitVec 32) (k0_hw2 : k0_chk2 d0 v307 v309), ∀ (k0_h1 : k0_cond1 d0 v307 = 1#1), ∀ a, (k0_off5 v309) a + S1x1024.size a ≤ S2048x1024.size a := fun d0 v307 v309 k0_hw2 k0_h1 => k0_hw2.1 k0_h1
theorem k0_off7_inb : ∀ (d0 : Dev nD) (v307 : BitVec 32) (v309 : BitVec 32) (k0_hw2 : k0_chk2 d0 v307 v309), ∀ (k0_h2 : k0_cond2 d0 v307 = 1#1), ∀ a, (k0_off7 v309) a + S1x1024.size a ≤ S2048x1024.size a := fun d0 v307 v309 k0_hw2 k0_h2 => k0_hw2.2 k0_h2

def k0_off8 (k0_t1 : Fin k0_t1_loop.trips) : Fin 2 → Nat :=
  let c0_i32_265 : BitVec 32 := 0#32
  let c0_i32_174 : BitVec 32 := 0#32
  let c1_i32_175 : BitVec 32 := 1#32
  let arg13 : BitVec 32 := Scf.iv c0_i32_174 c1_i32_175 k0_t1
  let v305 : BitVec 32 := Scalar.addi c0_i32_265 arg13
  let c0_i32_277 : BitVec 32 := 0#32
  ![v305.toNat, 0]
@[reducible] def k0_t2_loop : Scf.Loop 32 :=
  let c0_i32_177 : BitVec 32 := 0#32
  let c128_i32_178 : BitVec 32 := 128#32
  let v238 : BitVec 32 := Scalar.addi c0_i32_177 c128_i32_178
  let c1_i32_179 : BitVec 32 := 1#32
  ⟨c0_i32_177, v238, c1_i32_179⟩
def k0_off9 (k0_t2 : Fin k0_t2_loop.trips) : Fin 2 → Nat :=
  let c1_266 : Index := 1#32
  let c0_i32_177 : BitVec 32 := 0#32
  let c1_i32_179 : BitVec 32 := 1#32
  let arg13 : BitVec 32 := Scf.iv c0_i32_177 c1_i32_179 k0_t2
  let v306 : Index := Scalar.indexCast arg13
  ![1, v306.toNat]
def k0_off10 (v307 : BitVec 32) : Fin 1 → Nat :=
  let v308 : Index := Scalar.indexCast v307
  ![v308.toNat]

def k0_off11 (v309 : BitVec 32) : Fin 2 → Nat :=
  let c0_i32_280 : BitVec 32 := 0#32
  ![v309.toNat, 0]
def k0_cond5 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_268 : BitVec 32 := 0#32
  let v317 : BitVec 1 := Scalar.cmpi .ne v316 c0_i32_268
  v317

def k0_off12 (k0_t2 : Fin k0_t2_loop.trips) : Fin 2 → Nat :=
  let c128_i32_265 : BitVec 32 := 128#32
  let c0_i32_177 : BitVec 32 := 0#32
  let c1_i32_179 : BitVec 32 := 1#32
  let arg13 : BitVec 32 := Scf.iv c0_i32_177 c1_i32_179 k0_t2
  let v305 : BitVec 32 := Scalar.addi c128_i32_265 arg13
  let c0_i32_281 : BitVec 32 := 0#32
  ![v305.toNat, 0]
def k0_dev8 (d0 : Dev nD) (v307 : BitVec 32) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v338 : BitVec 32 := Scalar.muli v2 c8_i32_276
  let v339 : BitVec 32 := Scalar.addi c0_i32_277 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v340 : BitVec 32 := Scalar.muli v5 c4_i32_278
  let v341 : BitVec 32 := Scalar.addi v339 v340
  let c1_i32_279 : BitVec 32 := 1#32
  let v342 : BitVec 32 := Scalar.muli v307 c1_i32_279
  let v343 : BitVec 32 := Scalar.addi v341 v342
  v343.toNat

def k0_chk3 (d0 : Dev nD) (v307 : BitVec 32) : Prop :=
  (∀ a, (k0_off10 v307) a + S1.size a ≤ S4.size a) ∧
  (∀ (k0_h5 : k0_cond5 d0 v307 = 1#1), (k0_dev8 d0 v307) < nD)
theorem k0_off10_inb : ∀ (d0 : Dev nD) (v307 : BitVec 32) (k0_hw3 : k0_chk3 d0 v307), ∀ a, (k0_off10 v307) a + S1.size a ≤ S4.size a := fun d0 v307 k0_hw3 => k0_hw3.1
theorem k0_dev8_lt : ∀ (d0 : Dev nD) (v307 : BitVec 32) (k0_hw3 : k0_chk3 d0 v307), ∀ (k0_h5 : k0_cond5 d0 v307 = 1#1), (k0_dev8 d0 v307) < nD := fun d0 v307 k0_hw3 k0_h5 => k0_hw3.2 k0_h5

def k0_off13 (v309 : BitVec 32) : Fin 2 → Nat :=
  let c0_i32_276 : BitVec 32 := 0#32
  ![v309.toNat, 0]
def k0_cond6 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_269 : BitVec 32 := 0#32
  let v320 : BitVec 1 := Scalar.cmpi .ne v319 c0_i32_269
  v320

def k0_chk4 (d0 : Dev nD) (v307 : BitVec 32) (v309 : BitVec 32) : Prop :=
  (∀ (k0_h5 : k0_cond5 d0 v307 = 1#1), ∀ a, (k0_off11 v309) a + S1x1024.size a ≤ S2048x1024.size a) ∧
  (∀ (k0_h6 : k0_cond6 d0 v307 = 1#1), ∀ a, (k0_off13 v309) a + S1x1024.size a ≤ S2048x1024.size a)
theorem k0_off11_inb : ∀ (d0 : Dev nD) (v307 : BitVec 32) (v309 : BitVec 32) (k0_hw4 : k0_chk4 d0 v307 v309), ∀ (k0_h5 : k0_cond5 d0 v307 = 1#1), ∀ a, (k0_off11 v309) a + S1x1024.size a ≤ S2048x1024.size a := fun d0 v307 v309 k0_hw4 k0_h5 => k0_hw4.1 k0_h5
theorem k0_off13_inb : ∀ (d0 : Dev nD) (v307 : BitVec 32) (v309 : BitVec 32) (k0_hw4 : k0_chk4 d0 v307 v309), ∀ (k0_h6 : k0_cond6 d0 v307 = 1#1), ∀ a, (k0_off13 v309) a + S1x1024.size a ≤ S2048x1024.size a := fun d0 v307 v309 k0_hw4 k0_h6 => k0_hw4.2 k0_h6

def k0_off14 (k0_t2 : Fin k0_t2_loop.trips) : Fin 2 → Nat :=
  let c128_i32_265 : BitVec 32 := 128#32
  let c0_i32_177 : BitVec 32 := 0#32
  let c1_i32_179 : BitVec 32 := 1#32
  let arg13 : BitVec 32 := Scf.iv c0_i32_177 c1_i32_179 k0_t2
  let v305 : BitVec 32 := Scalar.addi c128_i32_265 arg13
  let c0_i32_277 : BitVec 32 := 0#32
  ![v305.toNat, 0]
@[reducible] def k0_t3_loop : Scf.Loop 32 :=
  let c0_i32_181 : BitVec 32 := 0#32
  let c128_i32_182 : BitVec 32 := 128#32
  let v240 : BitVec 32 := Scalar.addi c0_i32_181 c128_i32_182
  let c1_i32_183 : BitVec 32 := 1#32
  ⟨c0_i32_181, v240, c1_i32_183⟩
def k0_off15 (k0_t3 : Fin k0_t3_loop.trips) : Fin 2 → Nat :=
  let c2_265 : Index := 2#32
  let c0_i32_181 : BitVec 32 := 0#32
  let c1_i32_183 : BitVec 32 := 1#32
  let arg13 : BitVec 32 := Scf.iv c0_i32_181 c1_i32_183 k0_t3
  let v306 : Index := Scalar.indexCast arg13
  ![2, v306.toNat]
def k0_off16 (v307 : BitVec 32) : Fin 1 → Nat :=
  let v308 : Index := Scalar.indexCast v307
  ![v308.toNat]

def k0_off17 (v309 : BitVec 32) : Fin 2 → Nat :=
  let c0_i32_279 : BitVec 32 := 0#32
  ![v309.toNat, 0]
def k0_cond9 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_267 : BitVec 32 := 0#32
  let v317 : BitVec 1 := Scalar.cmpi .ne v316 c0_i32_267
  v317

def k0_off18 (k0_t3 : Fin k0_t3_loop.trips) : Fin 2 → Nat :=
  let c256_i32 : BitVec 32 := 256#32
  let c0_i32_181 : BitVec 32 := 0#32
  let c1_i32_183 : BitVec 32 := 1#32
  let arg13 : BitVec 32 := Scf.iv c0_i32_181 c1_i32_183 k0_t3
  let v305 : BitVec 32 := Scalar.addi c256_i32 arg13
  let c0_i32_280 : BitVec 32 := 0#32
  ![v305.toNat, 0]
def k0_dev9 (d0 : Dev nD) (v307 : BitVec 32) : Nat :=
  let c0_i32_276 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_275 : BitVec 32 := 8#32
  let v338 : BitVec 32 := Scalar.muli v2 c8_i32_275
  let v339 : BitVec 32 := Scalar.addi c0_i32_276 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v340 : BitVec 32 := Scalar.muli v5 c4_i32_277
  let v341 : BitVec 32 := Scalar.addi v339 v340
  let c1_i32_278 : BitVec 32 := 1#32
  let v342 : BitVec 32 := Scalar.muli v307 c1_i32_278
  let v343 : BitVec 32 := Scalar.addi v341 v342
  v343.toNat

def k0_chk5 (d0 : Dev nD) (v307 : BitVec 32) : Prop :=
  (∀ a, (k0_off16 v307) a + S1.size a ≤ S4.size a) ∧
  (∀ (k0_h9 : k0_cond9 d0 v307 = 1#1), (k0_dev9 d0 v307) < nD)
theorem k0_off16_inb : ∀ (d0 : Dev nD) (v307 : BitVec 32) (k0_hw5 : k0_chk5 d0 v307), ∀ a, (k0_off16 v307) a + S1.size a ≤ S4.size a := fun d0 v307 k0_hw5 => k0_hw5.1
theorem k0_dev9_lt : ∀ (d0 : Dev nD) (v307 : BitVec 32) (k0_hw5 : k0_chk5 d0 v307), ∀ (k0_h9 : k0_cond9 d0 v307 = 1#1), (k0_dev9 d0 v307) < nD := fun d0 v307 k0_hw5 k0_h9 => k0_hw5.2 k0_h9

def k0_off19 (v309 : BitVec 32) : Fin 2 → Nat :=
  let c0_i32_275 : BitVec 32 := 0#32
  ![v309.toNat, 0]
def k0_cond10 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_268 : BitVec 32 := 0#32
  let v320 : BitVec 1 := Scalar.cmpi .ne v319 c0_i32_268
  v320

def k0_chk6 (d0 : Dev nD) (v307 : BitVec 32) (v309 : BitVec 32) : Prop :=
  (∀ (k0_h9 : k0_cond9 d0 v307 = 1#1), ∀ a, (k0_off17 v309) a + S1x1024.size a ≤ S2048x1024.size a) ∧
  (∀ (k0_h10 : k0_cond10 d0 v307 = 1#1), ∀ a, (k0_off19 v309) a + S1x1024.size a ≤ S2048x1024.size a)
theorem k0_off17_inb : ∀ (d0 : Dev nD) (v307 : BitVec 32) (v309 : BitVec 32) (k0_hw6 : k0_chk6 d0 v307 v309), ∀ (k0_h9 : k0_cond9 d0 v307 = 1#1), ∀ a, (k0_off17 v309) a + S1x1024.size a ≤ S2048x1024.size a := fun d0 v307 v309 k0_hw6 k0_h9 => k0_hw6.1 k0_h9
theorem k0_off19_inb : ∀ (d0 : Dev nD) (v307 : BitVec 32) (v309 : BitVec 32) (k0_hw6 : k0_chk6 d0 v307 v309), ∀ (k0_h10 : k0_cond10 d0 v307 = 1#1), ∀ a, (k0_off19 v309) a + S1x1024.size a ≤ S2048x1024.size a := fun d0 v307 v309 k0_hw6 k0_h10 => k0_hw6.2 k0_h10

def k0_off20 (k0_t3 : Fin k0_t3_loop.trips) : Fin 2 → Nat :=
  let c256_i32 : BitVec 32 := 256#32
  let c0_i32_181 : BitVec 32 := 0#32
  let c1_i32_183 : BitVec 32 := 1#32
  let arg13 : BitVec 32 := Scf.iv c0_i32_181 c1_i32_183 k0_t3
  let v305 : BitVec 32 := Scalar.addi c256_i32 arg13
  let c0_i32_276 : BitVec 32 := 0#32
  ![v305.toNat, 0]
@[reducible] def k0_t4_loop : Scf.Loop 32 :=
  let c0_i32_185 : BitVec 32 := 0#32
  let c128_i32_186 : BitVec 32 := 128#32
  let v242 : BitVec 32 := Scalar.addi c0_i32_185 c128_i32_186
  let c1_i32_187 : BitVec 32 := 1#32
  ⟨c0_i32_185, v242, c1_i32_187⟩
def k0_off21 (k0_t4 : Fin k0_t4_loop.trips) : Fin 2 → Nat :=
  let c3_265 : Index := 3#32
  let c0_i32_185 : BitVec 32 := 0#32
  let c1_i32_187 : BitVec 32 := 1#32
  let arg13 : BitVec 32 := Scf.iv c0_i32_185 c1_i32_187 k0_t4
  let v306 : Index := Scalar.indexCast arg13
  ![3, v306.toNat]
def k0_off22 (v307 : BitVec 32) : Fin 1 → Nat :=
  let v308 : Index := Scalar.indexCast v307
  ![v308.toNat]

def k0_off23 (v309 : BitVec 32) : Fin 2 → Nat :=
  let c0_i32_279 : BitVec 32 := 0#32
  ![v309.toNat, 0]
def k0_cond13 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_267 : BitVec 32 := 0#32
  let v317 : BitVec 1 := Scalar.cmpi .ne v316 c0_i32_267
  v317

def k0_off24 (k0_t4 : Fin k0_t4_loop.trips) : Fin 2 → Nat :=
  let c384_i32 : BitVec 32 := 384#32
  let c0_i32_185 : BitVec 32 := 0#32
  let c1_i32_187 : BitVec 32 := 1#32
  let arg13 : BitVec 32 := Scf.iv c0_i32_185 c1_i32_187 k0_t4
  let v305 : BitVec 32 := Scalar.addi c384_i32 arg13
  let c0_i32_280 : BitVec 32 := 0#32
  ![v305.toNat, 0]
def k0_dev10 (d0 : Dev nD) (v307 : BitVec 32) : Nat :=
  let c0_i32_276 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_275 : BitVec 32 := 8#32
  let v338 : BitVec 32 := Scalar.muli v2 c8_i32_275
  let v339 : BitVec 32 := Scalar.addi c0_i32_276 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v340 : BitVec 32 := Scalar.muli v5 c4_i32_277
  let v341 : BitVec 32 := Scalar.addi v339 v340
  let c1_i32_278 : BitVec 32 := 1#32
  let v342 : BitVec 32 := Scalar.muli v307 c1_i32_278
  let v343 : BitVec 32 := Scalar.addi v341 v342
  v343.toNat

def k0_chk7 (d0 : Dev nD) (v307 : BitVec 32) : Prop :=
  (∀ a, (k0_off22 v307) a + S1.size a ≤ S4.size a) ∧
  (∀ (k0_h13 : k0_cond13 d0 v307 = 1#1), (k0_dev10 d0 v307) < nD)
theorem k0_off22_inb : ∀ (d0 : Dev nD) (v307 : BitVec 32) (k0_hw7 : k0_chk7 d0 v307), ∀ a, (k0_off22 v307) a + S1.size a ≤ S4.size a := fun d0 v307 k0_hw7 => k0_hw7.1
theorem k0_dev10_lt : ∀ (d0 : Dev nD) (v307 : BitVec 32) (k0_hw7 : k0_chk7 d0 v307), ∀ (k0_h13 : k0_cond13 d0 v307 = 1#1), (k0_dev10 d0 v307) < nD := fun d0 v307 k0_hw7 k0_h13 => k0_hw7.2 k0_h13

def k0_off25 (v309 : BitVec 32) : Fin 2 → Nat :=
  let c0_i32_275 : BitVec 32 := 0#32
  ![v309.toNat, 0]
def k0_cond14 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_268 : BitVec 32 := 0#32
  let v320 : BitVec 1 := Scalar.cmpi .ne v319 c0_i32_268
  v320

def k0_chk8 (d0 : Dev nD) (v307 : BitVec 32) (v309 : BitVec 32) : Prop :=
  (∀ (k0_h13 : k0_cond13 d0 v307 = 1#1), ∀ a, (k0_off23 v309) a + S1x1024.size a ≤ S2048x1024.size a) ∧
  (∀ (k0_h14 : k0_cond14 d0 v307 = 1#1), ∀ a, (k0_off25 v309) a + S1x1024.size a ≤ S2048x1024.size a)
theorem k0_off23_inb : ∀ (d0 : Dev nD) (v307 : BitVec 32) (v309 : BitVec 32) (k0_hw8 : k0_chk8 d0 v307 v309), ∀ (k0_h13 : k0_cond13 d0 v307 = 1#1), ∀ a, (k0_off23 v309) a + S1x1024.size a ≤ S2048x1024.size a := fun d0 v307 v309 k0_hw8 k0_h13 => k0_hw8.1 k0_h13
theorem k0_off25_inb : ∀ (d0 : Dev nD) (v307 : BitVec 32) (v309 : BitVec 32) (k0_hw8 : k0_chk8 d0 v307 v309), ∀ (k0_h14 : k0_cond14 d0 v307 = 1#1), ∀ a, (k0_off25 v309) a + S1x1024.size a ≤ S2048x1024.size a := fun d0 v307 v309 k0_hw8 k0_h14 => k0_hw8.2 k0_h14

def k0_off26 (k0_t4 : Fin k0_t4_loop.trips) : Fin 2 → Nat :=
  let c384_i32 : BitVec 32 := 384#32
  let c0_i32_185 : BitVec 32 := 0#32
  let c1_i32_187 : BitVec 32 := 1#32
  let arg13 : BitVec 32 := Scf.iv c0_i32_185 c1_i32_187 k0_t4
  let v305 : BitVec 32 := Scalar.addi c384_i32 arg13
  let c0_i32_276 : BitVec 32 := 0#32
  ![v305.toNat, 0]
@[reducible] def k0_t5_loop : Scf.Loop 32 :=
  let c0_i32_189 : BitVec 32 := 0#32
  let c128_i32_190 : BitVec 32 := 128#32
  let v244 : BitVec 32 := Scalar.addi c0_i32_189 c128_i32_190
  let c1_i32_191 : BitVec 32 := 1#32
  ⟨c0_i32_189, v244, c1_i32_191⟩
def k0_off27 (k0_t5 : Fin k0_t5_loop.trips) : Fin 2 → Nat :=
  let c4 : Index := 4#32
  let c0_i32_189 : BitVec 32 := 0#32
  let c1_i32_191 : BitVec 32 := 1#32
  let arg13 : BitVec 32 := Scf.iv c0_i32_189 c1_i32_191 k0_t5
  let v306 : Index := Scalar.indexCast arg13
  ![4, v306.toNat]
def k0_off28 (v307 : BitVec 32) : Fin 1 → Nat :=
  let v308 : Index := Scalar.indexCast v307
  ![v308.toNat]

def k0_off29 (v309 : BitVec 32) : Fin 2 → Nat :=
  let c0_i32_278 : BitVec 32 := 0#32
  ![v309.toNat, 0]
def k0_cond17 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off30 (k0_t5 : Fin k0_t5_loop.trips) : Fin 2 → Nat :=
  let c512_i32 : BitVec 32 := 512#32
  let c0_i32_189 : BitVec 32 := 0#32
  let c1_i32_191 : BitVec 32 := 1#32
  let arg13 : BitVec 32 := Scf.iv c0_i32_189 c1_i32_191 k0_t5
  let v305 : BitVec 32 := Scalar.addi c512_i32 arg13
  let c0_i32_279 : BitVec 32 := 0#32
  ![v305.toNat, 0]
def k0_dev11 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk9 (d0 : Dev nD) (v307 : BitVec 32) : Prop :=
  (∀ a, (k0_off28 v307) a + S1.size a ≤ S4.size a) ∧
  (∀ (k0_h17 : k0_cond17 d0 v307 = 1#1), (k0_dev11 d0 v307) < nD)
theorem k0_off28_inb : ∀ (d0 : Dev nD) (v307 : BitVec 32) (k0_hw9 : k0_chk9 d0 v307), ∀ a, (k0_off28 v307) a + S1.size a ≤ S4.size a := fun d0 v307 k0_hw9 => k0_hw9.1
theorem k0_dev11_lt : ∀ (d0 : Dev nD) (v307 : BitVec 32) (k0_hw9 : k0_chk9 d0 v307), ∀ (k0_h17 : k0_cond17 d0 v307 = 1#1), (k0_dev11 d0 v307) < nD := fun d0 v307 k0_hw9 k0_h17 => k0_hw9.2 k0_h17

def k0_off31 (v309 : BitVec 32) : Fin 2 → Nat :=
  let c0_i32_274 : BitVec 32 := 0#32
  ![v309.toNat, 0]
def k0_cond18 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk10 (d0 : Dev nD) (v307 : BitVec 32) (v309 : BitVec 32) : Prop :=
  (∀ (k0_h17 : k0_cond17 d0 v307 = 1#1), ∀ a, (k0_off29 v309) a + S1x1024.size a ≤ S2048x1024.size a) ∧
  (∀ (k0_h18 : k0_cond18 d0 v307 = 1#1), ∀ a, (k0_off31 v309) a + S1x1024.size a ≤ S2048x1024.size a)
theorem k0_off29_inb : ∀ (d0 : Dev nD) (v307 : BitVec 32) (v309 : BitVec 32) (k0_hw10 : k0_chk10 d0 v307 v309), ∀ (k0_h17 : k0_cond17 d0 v307 = 1#1), ∀ a, (k0_off29 v309) a + S1x1024.size a ≤ S2048x1024.size a := fun d0 v307 v309 k0_hw10 k0_h17 => k0_hw10.1 k0_h17
theorem k0_off31_inb : ∀ (d0 : Dev nD) (v307 : BitVec 32) (v309 : BitVec 32) (k0_hw10 : k0_chk10 d0 v307 v309), ∀ (k0_h18 : k0_cond18 d0 v307 = 1#1), ∀ a, (k0_off31 v309) a + S1x1024.size a ≤ S2048x1024.size a := fun d0 v307 v309 k0_hw10 k0_h18 => k0_hw10.2 k0_h18

def k0_off32 (k0_t5 : Fin k0_t5_loop.trips) : Fin 2 → Nat :=
  let c512_i32 : BitVec 32 := 512#32
  let c0_i32_189 : BitVec 32 := 0#32
  let c1_i32_191 : BitVec 32 := 1#32
  let arg13 : BitVec 32 := Scf.iv c0_i32_189 c1_i32_191 k0_t5
  let v305 : BitVec 32 := Scalar.addi c512_i32 arg13
  let c0_i32_275 : BitVec 32 := 0#32
  ![v305.toNat, 0]
@[reducible] def k0_t6_loop : Scf.Loop 32 :=
  let c0_i32_193 : BitVec 32 := 0#32
  let c128_i32_194 : BitVec 32 := 128#32
  let v246 : BitVec 32 := Scalar.addi c0_i32_193 c128_i32_194
  let c1_i32_195 : BitVec 32 := 1#32
  ⟨c0_i32_193, v246, c1_i32_195⟩
def k0_off33 (k0_t6 : Fin k0_t6_loop.trips) : Fin 2 → Nat :=
  let c5 : Index := 5#32
  let c0_i32_193 : BitVec 32 := 0#32
  let c1_i32_195 : BitVec 32 := 1#32
  let arg13 : BitVec 32 := Scf.iv c0_i32_193 c1_i32_195 k0_t6
  let v306 : Index := Scalar.indexCast arg13
  ![5, v306.toNat]
def k0_off34 (v307 : BitVec 32) : Fin 1 → Nat :=
  let v308 : Index := Scalar.indexCast v307
  ![v308.toNat]

def k0_off35 (v309 : BitVec 32) : Fin 2 → Nat :=
  let c0_i32_278 : BitVec 32 := 0#32
  ![v309.toNat, 0]
def k0_cond21 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off36 (k0_t6 : Fin k0_t6_loop.trips) : Fin 2 → Nat :=
  let c640_i32 : BitVec 32 := 640#32
  let c0_i32_193 : BitVec 32 := 0#32
  let c1_i32_195 : BitVec 32 := 1#32
  let arg13 : BitVec 32 := Scf.iv c0_i32_193 c1_i32_195 k0_t6
  let v305 : BitVec 32 := Scalar.addi c640_i32 arg13
  let c0_i32_279 : BitVec 32 := 0#32
  ![v305.toNat, 0]
def k0_dev12 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk11 (d0 : Dev nD) (v307 : BitVec 32) : Prop :=
  (∀ a, (k0_off34 v307) a + S1.size a ≤ S4.size a) ∧
  (∀ (k0_h21 : k0_cond21 d0 v307 = 1#1), (k0_dev12 d0 v307) < nD)
theorem k0_off34_inb : ∀ (d0 : Dev nD) (v307 : BitVec 32) (k0_hw11 : k0_chk11 d0 v307), ∀ a, (k0_off34 v307) a + S1.size a ≤ S4.size a := fun d0 v307 k0_hw11 => k0_hw11.1
theorem k0_dev12_lt : ∀ (d0 : Dev nD) (v307 : BitVec 32) (k0_hw11 : k0_chk11 d0 v307), ∀ (k0_h21 : k0_cond21 d0 v307 = 1#1), (k0_dev12 d0 v307) < nD := fun d0 v307 k0_hw11 k0_h21 => k0_hw11.2 k0_h21

def k0_off37 (v309 : BitVec 32) : Fin 2 → Nat :=
  let c0_i32_274 : BitVec 32 := 0#32
  ![v309.toNat, 0]
def k0_cond22 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk12 (d0 : Dev nD) (v307 : BitVec 32) (v309 : BitVec 32) : Prop :=
  (∀ (k0_h21 : k0_cond21 d0 v307 = 1#1), ∀ a, (k0_off35 v309) a + S1x1024.size a ≤ S2048x1024.size a) ∧
  (∀ (k0_h22 : k0_cond22 d0 v307 = 1#1), ∀ a, (k0_off37 v309) a + S1x1024.size a ≤ S2048x1024.size a)
theorem k0_off35_inb : ∀ (d0 : Dev nD) (v307 : BitVec 32) (v309 : BitVec 32) (k0_hw12 : k0_chk12 d0 v307 v309), ∀ (k0_h21 : k0_cond21 d0 v307 = 1#1), ∀ a, (k0_off35 v309) a + S1x1024.size a ≤ S2048x1024.size a := fun d0 v307 v309 k0_hw12 k0_h21 => k0_hw12.1 k0_h21
theorem k0_off37_inb : ∀ (d0 : Dev nD) (v307 : BitVec 32) (v309 : BitVec 32) (k0_hw12 : k0_chk12 d0 v307 v309), ∀ (k0_h22 : k0_cond22 d0 v307 = 1#1), ∀ a, (k0_off37 v309) a + S1x1024.size a ≤ S2048x1024.size a := fun d0 v307 v309 k0_hw12 k0_h22 => k0_hw12.2 k0_h22

def k0_off38 (k0_t6 : Fin k0_t6_loop.trips) : Fin 2 → Nat :=
  let c640_i32 : BitVec 32 := 640#32
  let c0_i32_193 : BitVec 32 := 0#32
  let c1_i32_195 : BitVec 32 := 1#32
  let arg13 : BitVec 32 := Scf.iv c0_i32_193 c1_i32_195 k0_t6
  let v305 : BitVec 32 := Scalar.addi c640_i32 arg13
  let c0_i32_275 : BitVec 32 := 0#32
  ![v305.toNat, 0]
@[reducible] def k0_t7_loop : Scf.Loop 32 :=
  let c0_i32_197 : BitVec 32 := 0#32
  let c128_i32_198 : BitVec 32 := 128#32
  let v248 : BitVec 32 := Scalar.addi c0_i32_197 c128_i32_198
  let c1_i32_199 : BitVec 32 := 1#32
  ⟨c0_i32_197, v248, c1_i32_199⟩
def k0_off39 (k0_t7 : Fin k0_t7_loop.trips) : Fin 2 → Nat :=
  let c6 : Index := 6#32
  let c0_i32_197 : BitVec 32 := 0#32
  let c1_i32_199 : BitVec 32 := 1#32
  let arg13 : BitVec 32 := Scf.iv c0_i32_197 c1_i32_199 k0_t7
  let v306 : Index := Scalar.indexCast arg13
  ![6, v306.toNat]
def k0_off40 (v307 : BitVec 32) : Fin 1 → Nat :=
  let v308 : Index := Scalar.indexCast v307
  ![v308.toNat]

def k0_off41 (v309 : BitVec 32) : Fin 2 → Nat :=
  let c0_i32_278 : BitVec 32 := 0#32
  ![v309.toNat, 0]
def k0_cond25 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off42 (k0_t7 : Fin k0_t7_loop.trips) : Fin 2 → Nat :=
  let c768_i32 : BitVec 32 := 768#32
  let c0_i32_197 : BitVec 32 := 0#32
  let c1_i32_199 : BitVec 32 := 1#32
  let arg13 : BitVec 32 := Scf.iv c0_i32_197 c1_i32_199 k0_t7
  let v305 : BitVec 32 := Scalar.addi c768_i32 arg13
  let c0_i32_279 : BitVec 32 := 0#32
  ![v305.toNat, 0]
def k0_dev13 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk13 (d0 : Dev nD) (v307 : BitVec 32) : Prop :=
  (∀ a, (k0_off40 v307) a + S1.size a ≤ S4.size a) ∧
  (∀ (k0_h25 : k0_cond25 d0 v307 = 1#1), (k0_dev13 d0 v307) < nD)
theorem k0_off40_inb : ∀ (d0 : Dev nD) (v307 : BitVec 32) (k0_hw13 : k0_chk13 d0 v307), ∀ a, (k0_off40 v307) a + S1.size a ≤ S4.size a := fun d0 v307 k0_hw13 => k0_hw13.1
theorem k0_dev13_lt : ∀ (d0 : Dev nD) (v307 : BitVec 32) (k0_hw13 : k0_chk13 d0 v307), ∀ (k0_h25 : k0_cond25 d0 v307 = 1#1), (k0_dev13 d0 v307) < nD := fun d0 v307 k0_hw13 k0_h25 => k0_hw13.2 k0_h25

def k0_off43 (v309 : BitVec 32) : Fin 2 → Nat :=
  let c0_i32_274 : BitVec 32 := 0#32
  ![v309.toNat, 0]
def k0_cond26 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk14 (d0 : Dev nD) (v307 : BitVec 32) (v309 : BitVec 32) : Prop :=
  (∀ (k0_h25 : k0_cond25 d0 v307 = 1#1), ∀ a, (k0_off41 v309) a + S1x1024.size a ≤ S2048x1024.size a) ∧
  (∀ (k0_h26 : k0_cond26 d0 v307 = 1#1), ∀ a, (k0_off43 v309) a + S1x1024.size a ≤ S2048x1024.size a)
theorem k0_off41_inb : ∀ (d0 : Dev nD) (v307 : BitVec 32) (v309 : BitVec 32) (k0_hw14 : k0_chk14 d0 v307 v309), ∀ (k0_h25 : k0_cond25 d0 v307 = 1#1), ∀ a, (k0_off41 v309) a + S1x1024.size a ≤ S2048x1024.size a := fun d0 v307 v309 k0_hw14 k0_h25 => k0_hw14.1 k0_h25
theorem k0_off43_inb : ∀ (d0 : Dev nD) (v307 : BitVec 32) (v309 : BitVec 32) (k0_hw14 : k0_chk14 d0 v307 v309), ∀ (k0_h26 : k0_cond26 d0 v307 = 1#1), ∀ a, (k0_off43 v309) a + S1x1024.size a ≤ S2048x1024.size a := fun d0 v307 v309 k0_hw14 k0_h26 => k0_hw14.2 k0_h26

def k0_off44 (k0_t7 : Fin k0_t7_loop.trips) : Fin 2 → Nat :=
  let c768_i32 : BitVec 32 := 768#32
  let c0_i32_197 : BitVec 32 := 0#32
  let c1_i32_199 : BitVec 32 := 1#32
  let arg13 : BitVec 32 := Scf.iv c0_i32_197 c1_i32_199 k0_t7
  let v305 : BitVec 32 := Scalar.addi c768_i32 arg13
  let c0_i32_275 : BitVec 32 := 0#32
  ![v305.toNat, 0]
@[reducible] def k0_t8_loop : Scf.Loop 32 :=
  let c0_i32_201 : BitVec 32 := 0#32
  let c128_i32_202 : BitVec 32 := 128#32
  let v250 : BitVec 32 := Scalar.addi c0_i32_201 c128_i32_202
  let c1_i32_203 : BitVec 32 := 1#32
  ⟨c0_i32_201, v250, c1_i32_203⟩
def k0_off45 (k0_t8 : Fin k0_t8_loop.trips) : Fin 2 → Nat :=
  let c7 : Index := 7#32
  let c0_i32_201 : BitVec 32 := 0#32
  let c1_i32_203 : BitVec 32 := 1#32
  let arg13 : BitVec 32 := Scf.iv c0_i32_201 c1_i32_203 k0_t8
  let v306 : Index := Scalar.indexCast arg13
  ![7, v306.toNat]
def k0_off46 (v307 : BitVec 32) : Fin 1 → Nat :=
  let v308 : Index := Scalar.indexCast v307
  ![v308.toNat]

def k0_off47 (v309 : BitVec 32) : Fin 2 → Nat :=
  let c0_i32_278 : BitVec 32 := 0#32
  ![v309.toNat, 0]
def k0_cond29 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off48 (k0_t8 : Fin k0_t8_loop.trips) : Fin 2 → Nat :=
  let c896_i32 : BitVec 32 := 896#32
  let c0_i32_201 : BitVec 32 := 0#32
  let c1_i32_203 : BitVec 32 := 1#32
  let arg13 : BitVec 32 := Scf.iv c0_i32_201 c1_i32_203 k0_t8
  let v305 : BitVec 32 := Scalar.addi c896_i32 arg13
  let c0_i32_279 : BitVec 32 := 0#32
  ![v305.toNat, 0]
def k0_dev14 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk15 (d0 : Dev nD) (v307 : BitVec 32) : Prop :=
  (∀ a, (k0_off46 v307) a + S1.size a ≤ S4.size a) ∧
  (∀ (k0_h29 : k0_cond29 d0 v307 = 1#1), (k0_dev14 d0 v307) < nD)
theorem k0_off46_inb : ∀ (d0 : Dev nD) (v307 : BitVec 32) (k0_hw15 : k0_chk15 d0 v307), ∀ a, (k0_off46 v307) a + S1.size a ≤ S4.size a := fun d0 v307 k0_hw15 => k0_hw15.1
theorem k0_dev14_lt : ∀ (d0 : Dev nD) (v307 : BitVec 32) (k0_hw15 : k0_chk15 d0 v307), ∀ (k0_h29 : k0_cond29 d0 v307 = 1#1), (k0_dev14 d0 v307) < nD := fun d0 v307 k0_hw15 k0_h29 => k0_hw15.2 k0_h29

def k0_off49 (v309 : BitVec 32) : Fin 2 → Nat :=
  let c0_i32_274 : BitVec 32 := 0#32
  ![v309.toNat, 0]
def k0_cond30 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk16 (d0 : Dev nD) (v307 : BitVec 32) (v309 : BitVec 32) : Prop :=
  (∀ (k0_h29 : k0_cond29 d0 v307 = 1#1), ∀ a, (k0_off47 v309) a + S1x1024.size a ≤ S2048x1024.size a) ∧
  (∀ (k0_h30 : k0_cond30 d0 v307 = 1#1), ∀ a, (k0_off49 v309) a + S1x1024.size a ≤ S2048x1024.size a)
theorem k0_off47_inb : ∀ (d0 : Dev nD) (v307 : BitVec 32) (v309 : BitVec 32) (k0_hw16 : k0_chk16 d0 v307 v309), ∀ (k0_h29 : k0_cond29 d0 v307 = 1#1), ∀ a, (k0_off47 v309) a + S1x1024.size a ≤ S2048x1024.size a := fun d0 v307 v309 k0_hw16 k0_h29 => k0_hw16.1 k0_h29
theorem k0_off49_inb : ∀ (d0 : Dev nD) (v307 : BitVec 32) (v309 : BitVec 32) (k0_hw16 : k0_chk16 d0 v307 v309), ∀ (k0_h30 : k0_cond30 d0 v307 = 1#1), ∀ a, (k0_off49 v309) a + S1x1024.size a ≤ S2048x1024.size a := fun d0 v307 v309 k0_hw16 k0_h30 => k0_hw16.2 k0_h30

def k0_off50 (k0_t8 : Fin k0_t8_loop.trips) : Fin 2 → Nat :=
  let c896_i32 : BitVec 32 := 896#32
  let c0_i32_201 : BitVec 32 := 0#32
  let c1_i32_203 : BitVec 32 := 1#32
  let arg13 : BitVec 32 := Scf.iv c0_i32_201 c1_i32_203 k0_t8
  let v305 : BitVec 32 := Scalar.addi c896_i32 arg13
  let c0_i32_275 : BitVec 32 := 0#32
  ![v305.toNat, 0]
@[reducible] def k0_t9_loop : Scf.Loop 32 :=
  let c0_i32_205 : BitVec 32 := 0#32
  let c128_i32_206 : BitVec 32 := 128#32
  let v252 : BitVec 32 := Scalar.addi c0_i32_205 c128_i32_206
  let c1_i32_207 : BitVec 32 := 1#32
  ⟨c0_i32_205, v252, c1_i32_207⟩
def k0_off51 (k0_t9 : Fin k0_t9_loop.trips) : Fin 2 → Nat :=
  let c8 : Index := 8#32
  let c0_i32_205 : BitVec 32 := 0#32
  let c1_i32_207 : BitVec 32 := 1#32
  let arg13 : BitVec 32 := Scf.iv c0_i32_205 c1_i32_207 k0_t9
  let v306 : Index := Scalar.indexCast arg13
  ![8, v306.toNat]
def k0_off52 (v307 : BitVec 32) : Fin 1 → Nat :=
  let v308 : Index := Scalar.indexCast v307
  ![v308.toNat]

def k0_off53 (v309 : BitVec 32) : Fin 2 → Nat :=
  let c0_i32_278 : BitVec 32 := 0#32
  ![v309.toNat, 0]
def k0_cond33 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off54 (k0_t9 : Fin k0_t9_loop.trips) : Fin 2 → Nat :=
  let c1024_i32 : BitVec 32 := 1024#32
  let c0_i32_205 : BitVec 32 := 0#32
  let c1_i32_207 : BitVec 32 := 1#32
  let arg13 : BitVec 32 := Scf.iv c0_i32_205 c1_i32_207 k0_t9
  let v305 : BitVec 32 := Scalar.addi c1024_i32 arg13
  let c0_i32_279 : BitVec 32 := 0#32
  ![v305.toNat, 0]
def k0_dev15 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk17 (d0 : Dev nD) (v307 : BitVec 32) : Prop :=
  (∀ a, (k0_off52 v307) a + S1.size a ≤ S4.size a) ∧
  (∀ (k0_h33 : k0_cond33 d0 v307 = 1#1), (k0_dev15 d0 v307) < nD)
theorem k0_off52_inb : ∀ (d0 : Dev nD) (v307 : BitVec 32) (k0_hw17 : k0_chk17 d0 v307), ∀ a, (k0_off52 v307) a + S1.size a ≤ S4.size a := fun d0 v307 k0_hw17 => k0_hw17.1
theorem k0_dev15_lt : ∀ (d0 : Dev nD) (v307 : BitVec 32) (k0_hw17 : k0_chk17 d0 v307), ∀ (k0_h33 : k0_cond33 d0 v307 = 1#1), (k0_dev15 d0 v307) < nD := fun d0 v307 k0_hw17 k0_h33 => k0_hw17.2 k0_h33

def k0_off55 (v309 : BitVec 32) : Fin 2 → Nat :=
  let c0_i32_274 : BitVec 32 := 0#32
  ![v309.toNat, 0]
def k0_cond34 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk18 (d0 : Dev nD) (v307 : BitVec 32) (v309 : BitVec 32) : Prop :=
  (∀ (k0_h33 : k0_cond33 d0 v307 = 1#1), ∀ a, (k0_off53 v309) a + S1x1024.size a ≤ S2048x1024.size a) ∧
  (∀ (k0_h34 : k0_cond34 d0 v307 = 1#1), ∀ a, (k0_off55 v309) a + S1x1024.size a ≤ S2048x1024.size a)
theorem k0_off53_inb : ∀ (d0 : Dev nD) (v307 : BitVec 32) (v309 : BitVec 32) (k0_hw18 : k0_chk18 d0 v307 v309), ∀ (k0_h33 : k0_cond33 d0 v307 = 1#1), ∀ a, (k0_off53 v309) a + S1x1024.size a ≤ S2048x1024.size a := fun d0 v307 v309 k0_hw18 k0_h33 => k0_hw18.1 k0_h33
theorem k0_off55_inb : ∀ (d0 : Dev nD) (v307 : BitVec 32) (v309 : BitVec 32) (k0_hw18 : k0_chk18 d0 v307 v309), ∀ (k0_h34 : k0_cond34 d0 v307 = 1#1), ∀ a, (k0_off55 v309) a + S1x1024.size a ≤ S2048x1024.size a := fun d0 v307 v309 k0_hw18 k0_h34 => k0_hw18.2 k0_h34

def k0_off56 (k0_t9 : Fin k0_t9_loop.trips) : Fin 2 → Nat :=
  let c1024_i32 : BitVec 32 := 1024#32
  let c0_i32_205 : BitVec 32 := 0#32
  let c1_i32_207 : BitVec 32 := 1#32
  let arg13 : BitVec 32 := Scf.iv c0_i32_205 c1_i32_207 k0_t9
  let v305 : BitVec 32 := Scalar.addi c1024_i32 arg13
  let c0_i32_275 : BitVec 32 := 0#32
  ![v305.toNat, 0]
@[reducible] def k0_t10_loop : Scf.Loop 32 :=
  let c0_i32_209 : BitVec 32 := 0#32
  let c128_i32_210 : BitVec 32 := 128#32
  let v254 : BitVec 32 := Scalar.addi c0_i32_209 c128_i32_210
  let c1_i32_211 : BitVec 32 := 1#32
  ⟨c0_i32_209, v254, c1_i32_211⟩
def k0_off57 (k0_t10 : Fin k0_t10_loop.trips) : Fin 2 → Nat :=
  let c9 : Index := 9#32
  let c0_i32_209 : BitVec 32 := 0#32
  let c1_i32_211 : BitVec 32 := 1#32
  let arg13 : BitVec 32 := Scf.iv c0_i32_209 c1_i32_211 k0_t10
  let v306 : Index := Scalar.indexCast arg13
  ![9, v306.toNat]
def k0_off58 (v307 : BitVec 32) : Fin 1 → Nat :=
  let v308 : Index := Scalar.indexCast v307
  ![v308.toNat]

def k0_off59 (v309 : BitVec 32) : Fin 2 → Nat :=
  let c0_i32_278 : BitVec 32 := 0#32
  ![v309.toNat, 0]
def k0_cond37 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off60 (k0_t10 : Fin k0_t10_loop.trips) : Fin 2 → Nat :=
  let c1152_i32 : BitVec 32 := 1152#32
  let c0_i32_209 : BitVec 32 := 0#32
  let c1_i32_211 : BitVec 32 := 1#32
  let arg13 : BitVec 32 := Scf.iv c0_i32_209 c1_i32_211 k0_t10
  let v305 : BitVec 32 := Scalar.addi c1152_i32 arg13
  let c0_i32_279 : BitVec 32 := 0#32
  ![v305.toNat, 0]
def k0_dev16 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk19 (d0 : Dev nD) (v307 : BitVec 32) : Prop :=
  (∀ a, (k0_off58 v307) a + S1.size a ≤ S4.size a) ∧
  (∀ (k0_h37 : k0_cond37 d0 v307 = 1#1), (k0_dev16 d0 v307) < nD)
theorem k0_off58_inb : ∀ (d0 : Dev nD) (v307 : BitVec 32) (k0_hw19 : k0_chk19 d0 v307), ∀ a, (k0_off58 v307) a + S1.size a ≤ S4.size a := fun d0 v307 k0_hw19 => k0_hw19.1
theorem k0_dev16_lt : ∀ (d0 : Dev nD) (v307 : BitVec 32) (k0_hw19 : k0_chk19 d0 v307), ∀ (k0_h37 : k0_cond37 d0 v307 = 1#1), (k0_dev16 d0 v307) < nD := fun d0 v307 k0_hw19 k0_h37 => k0_hw19.2 k0_h37

def k0_off61 (v309 : BitVec 32) : Fin 2 → Nat :=
  let c0_i32_274 : BitVec 32 := 0#32
  ![v309.toNat, 0]
def k0_cond38 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk20 (d0 : Dev nD) (v307 : BitVec 32) (v309 : BitVec 32) : Prop :=
  (∀ (k0_h37 : k0_cond37 d0 v307 = 1#1), ∀ a, (k0_off59 v309) a + S1x1024.size a ≤ S2048x1024.size a) ∧
  (∀ (k0_h38 : k0_cond38 d0 v307 = 1#1), ∀ a, (k0_off61 v309) a + S1x1024.size a ≤ S2048x1024.size a)
theorem k0_off59_inb : ∀ (d0 : Dev nD) (v307 : BitVec 32) (v309 : BitVec 32) (k0_hw20 : k0_chk20 d0 v307 v309), ∀ (k0_h37 : k0_cond37 d0 v307 = 1#1), ∀ a, (k0_off59 v309) a + S1x1024.size a ≤ S2048x1024.size a := fun d0 v307 v309 k0_hw20 k0_h37 => k0_hw20.1 k0_h37
theorem k0_off61_inb : ∀ (d0 : Dev nD) (v307 : BitVec 32) (v309 : BitVec 32) (k0_hw20 : k0_chk20 d0 v307 v309), ∀ (k0_h38 : k0_cond38 d0 v307 = 1#1), ∀ a, (k0_off61 v309) a + S1x1024.size a ≤ S2048x1024.size a := fun d0 v307 v309 k0_hw20 k0_h38 => k0_hw20.2 k0_h38

def k0_off62 (k0_t10 : Fin k0_t10_loop.trips) : Fin 2 → Nat :=
  let c1152_i32 : BitVec 32 := 1152#32
  let c0_i32_209 : BitVec 32 := 0#32
  let c1_i32_211 : BitVec 32 := 1#32
  let arg13 : BitVec 32 := Scf.iv c0_i32_209 c1_i32_211 k0_t10
  let v305 : BitVec 32 := Scalar.addi c1152_i32 arg13
  let c0_i32_275 : BitVec 32 := 0#32
  ![v305.toNat, 0]
@[reducible] def k0_t11_loop : Scf.Loop 32 :=
  let c0_i32_213 : BitVec 32 := 0#32
  let c128_i32_214 : BitVec 32 := 128#32
  let v256 : BitVec 32 := Scalar.addi c0_i32_213 c128_i32_214
  let c1_i32_215 : BitVec 32 := 1#32
  ⟨c0_i32_213, v256, c1_i32_215⟩
def k0_off63 (k0_t11 : Fin k0_t11_loop.trips) : Fin 2 → Nat :=
  let c10 : Index := 10#32
  let c0_i32_213 : BitVec 32 := 0#32
  let c1_i32_215 : BitVec 32 := 1#32
  let arg13 : BitVec 32 := Scf.iv c0_i32_213 c1_i32_215 k0_t11
  let v306 : Index := Scalar.indexCast arg13
  ![10, v306.toNat]
def k0_off64 (v307 : BitVec 32) : Fin 1 → Nat :=
  let v308 : Index := Scalar.indexCast v307
  ![v308.toNat]

def k0_off65 (v309 : BitVec 32) : Fin 2 → Nat :=
  let c0_i32_278 : BitVec 32 := 0#32
  ![v309.toNat, 0]
def k0_cond41 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off66 (k0_t11 : Fin k0_t11_loop.trips) : Fin 2 → Nat :=
  let c1280_i32 : BitVec 32 := 1280#32
  let c0_i32_213 : BitVec 32 := 0#32
  let c1_i32_215 : BitVec 32 := 1#32
  let arg13 : BitVec 32 := Scf.iv c0_i32_213 c1_i32_215 k0_t11
  let v305 : BitVec 32 := Scalar.addi c1280_i32 arg13
  let c0_i32_279 : BitVec 32 := 0#32
  ![v305.toNat, 0]
def k0_dev17 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk21 (d0 : Dev nD) (v307 : BitVec 32) : Prop :=
  (∀ a, (k0_off64 v307) a + S1.size a ≤ S4.size a) ∧
  (∀ (k0_h41 : k0_cond41 d0 v307 = 1#1), (k0_dev17 d0 v307) < nD)
theorem k0_off64_inb : ∀ (d0 : Dev nD) (v307 : BitVec 32) (k0_hw21 : k0_chk21 d0 v307), ∀ a, (k0_off64 v307) a + S1.size a ≤ S4.size a := fun d0 v307 k0_hw21 => k0_hw21.1
theorem k0_dev17_lt : ∀ (d0 : Dev nD) (v307 : BitVec 32) (k0_hw21 : k0_chk21 d0 v307), ∀ (k0_h41 : k0_cond41 d0 v307 = 1#1), (k0_dev17 d0 v307) < nD := fun d0 v307 k0_hw21 k0_h41 => k0_hw21.2 k0_h41

def k0_off67 (v309 : BitVec 32) : Fin 2 → Nat :=
  let c0_i32_274 : BitVec 32 := 0#32
  ![v309.toNat, 0]
def k0_cond42 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk22 (d0 : Dev nD) (v307 : BitVec 32) (v309 : BitVec 32) : Prop :=
  (∀ (k0_h41 : k0_cond41 d0 v307 = 1#1), ∀ a, (k0_off65 v309) a + S1x1024.size a ≤ S2048x1024.size a) ∧
  (∀ (k0_h42 : k0_cond42 d0 v307 = 1#1), ∀ a, (k0_off67 v309) a + S1x1024.size a ≤ S2048x1024.size a)
theorem k0_off65_inb : ∀ (d0 : Dev nD) (v307 : BitVec 32) (v309 : BitVec 32) (k0_hw22 : k0_chk22 d0 v307 v309), ∀ (k0_h41 : k0_cond41 d0 v307 = 1#1), ∀ a, (k0_off65 v309) a + S1x1024.size a ≤ S2048x1024.size a := fun d0 v307 v309 k0_hw22 k0_h41 => k0_hw22.1 k0_h41
theorem k0_off67_inb : ∀ (d0 : Dev nD) (v307 : BitVec 32) (v309 : BitVec 32) (k0_hw22 : k0_chk22 d0 v307 v309), ∀ (k0_h42 : k0_cond42 d0 v307 = 1#1), ∀ a, (k0_off67 v309) a + S1x1024.size a ≤ S2048x1024.size a := fun d0 v307 v309 k0_hw22 k0_h42 => k0_hw22.2 k0_h42

def k0_off68 (k0_t11 : Fin k0_t11_loop.trips) : Fin 2 → Nat :=
  let c1280_i32 : BitVec 32 := 1280#32
  let c0_i32_213 : BitVec 32 := 0#32
  let c1_i32_215 : BitVec 32 := 1#32
  let arg13 : BitVec 32 := Scf.iv c0_i32_213 c1_i32_215 k0_t11
  let v305 : BitVec 32 := Scalar.addi c1280_i32 arg13
  let c0_i32_275 : BitVec 32 := 0#32
  ![v305.toNat, 0]
@[reducible] def k0_t12_loop : Scf.Loop 32 :=
  let c0_i32_217 : BitVec 32 := 0#32
  let c128_i32_218 : BitVec 32 := 128#32
  let v258 : BitVec 32 := Scalar.addi c0_i32_217 c128_i32_218
  let c1_i32_219 : BitVec 32 := 1#32
  ⟨c0_i32_217, v258, c1_i32_219⟩
def k0_off69 (k0_t12 : Fin k0_t12_loop.trips) : Fin 2 → Nat :=
  let c11 : Index := 11#32
  let c0_i32_217 : BitVec 32 := 0#32
  let c1_i32_219 : BitVec 32 := 1#32
  let arg13 : BitVec 32 := Scf.iv c0_i32_217 c1_i32_219 k0_t12
  let v306 : Index := Scalar.indexCast arg13
  ![11, v306.toNat]
def k0_off70 (v307 : BitVec 32) : Fin 1 → Nat :=
  let v308 : Index := Scalar.indexCast v307
  ![v308.toNat]

def k0_off71 (v309 : BitVec 32) : Fin 2 → Nat :=
  let c0_i32_278 : BitVec 32 := 0#32
  ![v309.toNat, 0]
def k0_cond45 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off72 (k0_t12 : Fin k0_t12_loop.trips) : Fin 2 → Nat :=
  let c1408_i32 : BitVec 32 := 1408#32
  let c0_i32_217 : BitVec 32 := 0#32
  let c1_i32_219 : BitVec 32 := 1#32
  let arg13 : BitVec 32 := Scf.iv c0_i32_217 c1_i32_219 k0_t12
  let v305 : BitVec 32 := Scalar.addi c1408_i32 arg13
  let c0_i32_279 : BitVec 32 := 0#32
  ![v305.toNat, 0]
def k0_dev18 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk23 (d0 : Dev nD) (v307 : BitVec 32) : Prop :=
  (∀ a, (k0_off70 v307) a + S1.size a ≤ S4.size a) ∧
  (∀ (k0_h45 : k0_cond45 d0 v307 = 1#1), (k0_dev18 d0 v307) < nD)
theorem k0_off70_inb : ∀ (d0 : Dev nD) (v307 : BitVec 32) (k0_hw23 : k0_chk23 d0 v307), ∀ a, (k0_off70 v307) a + S1.size a ≤ S4.size a := fun d0 v307 k0_hw23 => k0_hw23.1
theorem k0_dev18_lt : ∀ (d0 : Dev nD) (v307 : BitVec 32) (k0_hw23 : k0_chk23 d0 v307), ∀ (k0_h45 : k0_cond45 d0 v307 = 1#1), (k0_dev18 d0 v307) < nD := fun d0 v307 k0_hw23 k0_h45 => k0_hw23.2 k0_h45

def k0_off73 (v309 : BitVec 32) : Fin 2 → Nat :=
  let c0_i32_274 : BitVec 32 := 0#32
  ![v309.toNat, 0]
def k0_cond46 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk24 (d0 : Dev nD) (v307 : BitVec 32) (v309 : BitVec 32) : Prop :=
  (∀ (k0_h45 : k0_cond45 d0 v307 = 1#1), ∀ a, (k0_off71 v309) a + S1x1024.size a ≤ S2048x1024.size a) ∧
  (∀ (k0_h46 : k0_cond46 d0 v307 = 1#1), ∀ a, (k0_off73 v309) a + S1x1024.size a ≤ S2048x1024.size a)
theorem k0_off71_inb : ∀ (d0 : Dev nD) (v307 : BitVec 32) (v309 : BitVec 32) (k0_hw24 : k0_chk24 d0 v307 v309), ∀ (k0_h45 : k0_cond45 d0 v307 = 1#1), ∀ a, (k0_off71 v309) a + S1x1024.size a ≤ S2048x1024.size a := fun d0 v307 v309 k0_hw24 k0_h45 => k0_hw24.1 k0_h45
theorem k0_off73_inb : ∀ (d0 : Dev nD) (v307 : BitVec 32) (v309 : BitVec 32) (k0_hw24 : k0_chk24 d0 v307 v309), ∀ (k0_h46 : k0_cond46 d0 v307 = 1#1), ∀ a, (k0_off73 v309) a + S1x1024.size a ≤ S2048x1024.size a := fun d0 v307 v309 k0_hw24 k0_h46 => k0_hw24.2 k0_h46

def k0_off74 (k0_t12 : Fin k0_t12_loop.trips) : Fin 2 → Nat :=
  let c1408_i32 : BitVec 32 := 1408#32
  let c0_i32_217 : BitVec 32 := 0#32
  let c1_i32_219 : BitVec 32 := 1#32
  let arg13 : BitVec 32 := Scf.iv c0_i32_217 c1_i32_219 k0_t12
  let v305 : BitVec 32 := Scalar.addi c1408_i32 arg13
  let c0_i32_275 : BitVec 32 := 0#32
  ![v305.toNat, 0]
@[reducible] def k0_t13_loop : Scf.Loop 32 :=
  let c0_i32_221 : BitVec 32 := 0#32
  let c128_i32_222 : BitVec 32 := 128#32
  let v260 : BitVec 32 := Scalar.addi c0_i32_221 c128_i32_222
  let c1_i32_223 : BitVec 32 := 1#32
  ⟨c0_i32_221, v260, c1_i32_223⟩
def k0_off75 (k0_t13 : Fin k0_t13_loop.trips) : Fin 2 → Nat :=
  let c12 : Index := 12#32
  let c0_i32_221 : BitVec 32 := 0#32
  let c1_i32_223 : BitVec 32 := 1#32
  let arg13 : BitVec 32 := Scf.iv c0_i32_221 c1_i32_223 k0_t13
  let v306 : Index := Scalar.indexCast arg13
  ![12, v306.toNat]
def k0_off76 (v307 : BitVec 32) : Fin 1 → Nat :=
  let v308 : Index := Scalar.indexCast v307
  ![v308.toNat]

def k0_off77 (v309 : BitVec 32) : Fin 2 → Nat :=
  let c0_i32_278 : BitVec 32 := 0#32
  ![v309.toNat, 0]
def k0_cond49 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off78 (k0_t13 : Fin k0_t13_loop.trips) : Fin 2 → Nat :=
  let c1536_i32 : BitVec 32 := 1536#32
  let c0_i32_221 : BitVec 32 := 0#32
  let c1_i32_223 : BitVec 32 := 1#32
  let arg13 : BitVec 32 := Scf.iv c0_i32_221 c1_i32_223 k0_t13
  let v305 : BitVec 32 := Scalar.addi c1536_i32 arg13
  let c0_i32_279 : BitVec 32 := 0#32
  ![v305.toNat, 0]
def k0_dev19 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk25 (d0 : Dev nD) (v307 : BitVec 32) : Prop :=
  (∀ a, (k0_off76 v307) a + S1.size a ≤ S4.size a) ∧
  (∀ (k0_h49 : k0_cond49 d0 v307 = 1#1), (k0_dev19 d0 v307) < nD)
theorem k0_off76_inb : ∀ (d0 : Dev nD) (v307 : BitVec 32) (k0_hw25 : k0_chk25 d0 v307), ∀ a, (k0_off76 v307) a + S1.size a ≤ S4.size a := fun d0 v307 k0_hw25 => k0_hw25.1
theorem k0_dev19_lt : ∀ (d0 : Dev nD) (v307 : BitVec 32) (k0_hw25 : k0_chk25 d0 v307), ∀ (k0_h49 : k0_cond49 d0 v307 = 1#1), (k0_dev19 d0 v307) < nD := fun d0 v307 k0_hw25 k0_h49 => k0_hw25.2 k0_h49

def k0_off79 (v309 : BitVec 32) : Fin 2 → Nat :=
  let c0_i32_274 : BitVec 32 := 0#32
  ![v309.toNat, 0]
def k0_cond50 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk26 (d0 : Dev nD) (v307 : BitVec 32) (v309 : BitVec 32) : Prop :=
  (∀ (k0_h49 : k0_cond49 d0 v307 = 1#1), ∀ a, (k0_off77 v309) a + S1x1024.size a ≤ S2048x1024.size a) ∧
  (∀ (k0_h50 : k0_cond50 d0 v307 = 1#1), ∀ a, (k0_off79 v309) a + S1x1024.size a ≤ S2048x1024.size a)
theorem k0_off77_inb : ∀ (d0 : Dev nD) (v307 : BitVec 32) (v309 : BitVec 32) (k0_hw26 : k0_chk26 d0 v307 v309), ∀ (k0_h49 : k0_cond49 d0 v307 = 1#1), ∀ a, (k0_off77 v309) a + S1x1024.size a ≤ S2048x1024.size a := fun d0 v307 v309 k0_hw26 k0_h49 => k0_hw26.1 k0_h49
theorem k0_off79_inb : ∀ (d0 : Dev nD) (v307 : BitVec 32) (v309 : BitVec 32) (k0_hw26 : k0_chk26 d0 v307 v309), ∀ (k0_h50 : k0_cond50 d0 v307 = 1#1), ∀ a, (k0_off79 v309) a + S1x1024.size a ≤ S2048x1024.size a := fun d0 v307 v309 k0_hw26 k0_h50 => k0_hw26.2 k0_h50

def k0_off80 (k0_t13 : Fin k0_t13_loop.trips) : Fin 2 → Nat :=
  let c1536_i32 : BitVec 32 := 1536#32
  let c0_i32_221 : BitVec 32 := 0#32
  let c1_i32_223 : BitVec 32 := 1#32
  let arg13 : BitVec 32 := Scf.iv c0_i32_221 c1_i32_223 k0_t13
  let v305 : BitVec 32 := Scalar.addi c1536_i32 arg13
  let c0_i32_275 : BitVec 32 := 0#32
  ![v305.toNat, 0]
@[reducible] def k0_t14_loop : Scf.Loop 32 :=
  let c0_i32_225 : BitVec 32 := 0#32
  let c128_i32_226 : BitVec 32 := 128#32
  let v262 : BitVec 32 := Scalar.addi c0_i32_225 c128_i32_226
  let c1_i32_227 : BitVec 32 := 1#32
  ⟨c0_i32_225, v262, c1_i32_227⟩
def k0_off81 (k0_t14 : Fin k0_t14_loop.trips) : Fin 2 → Nat :=
  let c13 : Index := 13#32
  let c0_i32_225 : BitVec 32 := 0#32
  let c1_i32_227 : BitVec 32 := 1#32
  let arg13 : BitVec 32 := Scf.iv c0_i32_225 c1_i32_227 k0_t14
  let v306 : Index := Scalar.indexCast arg13
  ![13, v306.toNat]
def k0_off82 (v307 : BitVec 32) : Fin 1 → Nat :=
  let v308 : Index := Scalar.indexCast v307
  ![v308.toNat]

def k0_off83 (v309 : BitVec 32) : Fin 2 → Nat :=
  let c0_i32_278 : BitVec 32 := 0#32
  ![v309.toNat, 0]
def k0_cond53 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off84 (k0_t14 : Fin k0_t14_loop.trips) : Fin 2 → Nat :=
  let c1664_i32 : BitVec 32 := 1664#32
  let c0_i32_225 : BitVec 32 := 0#32
  let c1_i32_227 : BitVec 32 := 1#32
  let arg13 : BitVec 32 := Scf.iv c0_i32_225 c1_i32_227 k0_t14
  let v305 : BitVec 32 := Scalar.addi c1664_i32 arg13
  let c0_i32_279 : BitVec 32 := 0#32
  ![v305.toNat, 0]
def k0_dev20 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk27 (d0 : Dev nD) (v307 : BitVec 32) : Prop :=
  (∀ a, (k0_off82 v307) a + S1.size a ≤ S4.size a) ∧
  (∀ (k0_h53 : k0_cond53 d0 v307 = 1#1), (k0_dev20 d0 v307) < nD)
theorem k0_off82_inb : ∀ (d0 : Dev nD) (v307 : BitVec 32) (k0_hw27 : k0_chk27 d0 v307), ∀ a, (k0_off82 v307) a + S1.size a ≤ S4.size a := fun d0 v307 k0_hw27 => k0_hw27.1
theorem k0_dev20_lt : ∀ (d0 : Dev nD) (v307 : BitVec 32) (k0_hw27 : k0_chk27 d0 v307), ∀ (k0_h53 : k0_cond53 d0 v307 = 1#1), (k0_dev20 d0 v307) < nD := fun d0 v307 k0_hw27 k0_h53 => k0_hw27.2 k0_h53

def k0_off85 (v309 : BitVec 32) : Fin 2 → Nat :=
  let c0_i32_274 : BitVec 32 := 0#32
  ![v309.toNat, 0]
def k0_cond54 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk28 (d0 : Dev nD) (v307 : BitVec 32) (v309 : BitVec 32) : Prop :=
  (∀ (k0_h53 : k0_cond53 d0 v307 = 1#1), ∀ a, (k0_off83 v309) a + S1x1024.size a ≤ S2048x1024.size a) ∧
  (∀ (k0_h54 : k0_cond54 d0 v307 = 1#1), ∀ a, (k0_off85 v309) a + S1x1024.size a ≤ S2048x1024.size a)
theorem k0_off83_inb : ∀ (d0 : Dev nD) (v307 : BitVec 32) (v309 : BitVec 32) (k0_hw28 : k0_chk28 d0 v307 v309), ∀ (k0_h53 : k0_cond53 d0 v307 = 1#1), ∀ a, (k0_off83 v309) a + S1x1024.size a ≤ S2048x1024.size a := fun d0 v307 v309 k0_hw28 k0_h53 => k0_hw28.1 k0_h53
theorem k0_off85_inb : ∀ (d0 : Dev nD) (v307 : BitVec 32) (v309 : BitVec 32) (k0_hw28 : k0_chk28 d0 v307 v309), ∀ (k0_h54 : k0_cond54 d0 v307 = 1#1), ∀ a, (k0_off85 v309) a + S1x1024.size a ≤ S2048x1024.size a := fun d0 v307 v309 k0_hw28 k0_h54 => k0_hw28.2 k0_h54

def k0_off86 (k0_t14 : Fin k0_t14_loop.trips) : Fin 2 → Nat :=
  let c1664_i32 : BitVec 32 := 1664#32
  let c0_i32_225 : BitVec 32 := 0#32
  let c1_i32_227 : BitVec 32 := 1#32
  let arg13 : BitVec 32 := Scf.iv c0_i32_225 c1_i32_227 k0_t14
  let v305 : BitVec 32 := Scalar.addi c1664_i32 arg13
  let c0_i32_275 : BitVec 32 := 0#32
  ![v305.toNat, 0]
@[reducible] def k0_t15_loop : Scf.Loop 32 :=
  let c0_i32_229 : BitVec 32 := 0#32
  let c128_i32_230 : BitVec 32 := 128#32
  let v264 : BitVec 32 := Scalar.addi c0_i32_229 c128_i32_230
  let c1_i32_231 : BitVec 32 := 1#32
  ⟨c0_i32_229, v264, c1_i32_231⟩
def k0_off87 (k0_t15 : Fin k0_t15_loop.trips) : Fin 2 → Nat :=
  let c14 : Index := 14#32
  let c0_i32_229 : BitVec 32 := 0#32
  let c1_i32_231 : BitVec 32 := 1#32
  let arg13 : BitVec 32 := Scf.iv c0_i32_229 c1_i32_231 k0_t15
  let v306 : Index := Scalar.indexCast arg13
  ![14, v306.toNat]
def k0_off88 (v307 : BitVec 32) : Fin 1 → Nat :=
  let v308 : Index := Scalar.indexCast v307
  ![v308.toNat]

def k0_off89 (v309 : BitVec 32) : Fin 2 → Nat :=
  let c0_i32_278 : BitVec 32 := 0#32
  ![v309.toNat, 0]
def k0_cond57 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off90 (k0_t15 : Fin k0_t15_loop.trips) : Fin 2 → Nat :=
  let c1792_i32 : BitVec 32 := 1792#32
  let c0_i32_229 : BitVec 32 := 0#32
  let c1_i32_231 : BitVec 32 := 1#32
  let arg13 : BitVec 32 := Scf.iv c0_i32_229 c1_i32_231 k0_t15
  let v305 : BitVec 32 := Scalar.addi c1792_i32 arg13
  let c0_i32_279 : BitVec 32 := 0#32
  ![v305.toNat, 0]
def k0_dev21 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk29 (d0 : Dev nD) (v307 : BitVec 32) : Prop :=
  (∀ a, (k0_off88 v307) a + S1.size a ≤ S4.size a) ∧
  (∀ (k0_h57 : k0_cond57 d0 v307 = 1#1), (k0_dev21 d0 v307) < nD)
theorem k0_off88_inb : ∀ (d0 : Dev nD) (v307 : BitVec 32) (k0_hw29 : k0_chk29 d0 v307), ∀ a, (k0_off88 v307) a + S1.size a ≤ S4.size a := fun d0 v307 k0_hw29 => k0_hw29.1
theorem k0_dev21_lt : ∀ (d0 : Dev nD) (v307 : BitVec 32) (k0_hw29 : k0_chk29 d0 v307), ∀ (k0_h57 : k0_cond57 d0 v307 = 1#1), (k0_dev21 d0 v307) < nD := fun d0 v307 k0_hw29 k0_h57 => k0_hw29.2 k0_h57

def k0_off91 (v309 : BitVec 32) : Fin 2 → Nat :=
  let c0_i32_274 : BitVec 32 := 0#32
  ![v309.toNat, 0]
def k0_cond58 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk30 (d0 : Dev nD) (v307 : BitVec 32) (v309 : BitVec 32) : Prop :=
  (∀ (k0_h57 : k0_cond57 d0 v307 = 1#1), ∀ a, (k0_off89 v309) a + S1x1024.size a ≤ S2048x1024.size a) ∧
  (∀ (k0_h58 : k0_cond58 d0 v307 = 1#1), ∀ a, (k0_off91 v309) a + S1x1024.size a ≤ S2048x1024.size a)
theorem k0_off89_inb : ∀ (d0 : Dev nD) (v307 : BitVec 32) (v309 : BitVec 32) (k0_hw30 : k0_chk30 d0 v307 v309), ∀ (k0_h57 : k0_cond57 d0 v307 = 1#1), ∀ a, (k0_off89 v309) a + S1x1024.size a ≤ S2048x1024.size a := fun d0 v307 v309 k0_hw30 k0_h57 => k0_hw30.1 k0_h57
theorem k0_off91_inb : ∀ (d0 : Dev nD) (v307 : BitVec 32) (v309 : BitVec 32) (k0_hw30 : k0_chk30 d0 v307 v309), ∀ (k0_h58 : k0_cond58 d0 v307 = 1#1), ∀ a, (k0_off91 v309) a + S1x1024.size a ≤ S2048x1024.size a := fun d0 v307 v309 k0_hw30 k0_h58 => k0_hw30.2 k0_h58

def k0_off92 (k0_t15 : Fin k0_t15_loop.trips) : Fin 2 → Nat :=
  let c1792_i32 : BitVec 32 := 1792#32
  let c0_i32_229 : BitVec 32 := 0#32
  let c1_i32_231 : BitVec 32 := 1#32
  let arg13 : BitVec 32 := Scf.iv c0_i32_229 c1_i32_231 k0_t15
  let v305 : BitVec 32 := Scalar.addi c1792_i32 arg13
  let c0_i32_275 : BitVec 32 := 0#32
  ![v305.toNat, 0]
@[reducible] def k0_t16_loop : Scf.Loop 32 :=
  let c0_i32_233 : BitVec 32 := 0#32
  let c128_i32_234 : BitVec 32 := 128#32
  let v266 : BitVec 32 := Scalar.addi c0_i32_233 c128_i32_234
  let c1_i32_235 : BitVec 32 := 1#32
  ⟨c0_i32_233, v266, c1_i32_235⟩
def k0_off93 (k0_t16 : Fin k0_t16_loop.trips) : Fin 2 → Nat :=
  let c15 : Index := 15#32
  let c0_i32_233 : BitVec 32 := 0#32
  let c1_i32_235 : BitVec 32 := 1#32
  let arg13 : BitVec 32 := Scf.iv c0_i32_233 c1_i32_235 k0_t16
  let v306 : Index := Scalar.indexCast arg13
  ![15, v306.toNat]
def k0_off94 (v307 : BitVec 32) : Fin 1 → Nat :=
  let v308 : Index := Scalar.indexCast v307
  ![v308.toNat]

def k0_off95 (v309 : BitVec 32) : Fin 2 → Nat :=
  let c0_i32_278 : BitVec 32 := 0#32
  ![v309.toNat, 0]
def k0_cond61 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v315 : BitVec 1 := Scalar.cmpi .ne v307 v8
  let v316 : BitVec 32 := Scalar.extui v315
  let c0_i32_266 : BitVec 32 := 0#32
  let v317 : BitVec 1 := Scalar.cmpi .ne v316 c0_i32_266
  v317

def k0_off96 (k0_t16 : Fin k0_t16_loop.trips) : Fin 2 → Nat :=
  let c1920_i32 : BitVec 32 := 1920#32
  let c0_i32_233 : BitVec 32 := 0#32
  let c1_i32_235 : BitVec 32 := 1#32
  let arg13 : BitVec 32 := Scf.iv c0_i32_233 c1_i32_235 k0_t16
  let v305 : BitVec 32 := Scalar.addi c1920_i32 arg13
  let c0_i32_279 : BitVec 32 := 0#32
  ![v305.toNat, 0]
def k0_dev22 (d0 : Dev nD) (v307 : BitVec 32) : Nat :=
  let c0_i32_275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_274 : BitVec 32 := 8#32
  let v338 : BitVec 32 := Scalar.muli v2 c8_i32_274
  let v339 : BitVec 32 := Scalar.addi c0_i32_275 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_276 : BitVec 32 := 4#32
  let v340 : BitVec 32 := Scalar.muli v5 c4_i32_276
  let v341 : BitVec 32 := Scalar.addi v339 v340
  let c1_i32_277 : BitVec 32 := 1#32
  let v342 : BitVec 32 := Scalar.muli v307 c1_i32_277
  let v343 : BitVec 32 := Scalar.addi v341 v342
  v343.toNat

def k0_chk31 (d0 : Dev nD) (v307 : BitVec 32) : Prop :=
  (∀ a, (k0_off94 v307) a + S1.size a ≤ S4.size a) ∧
  (∀ (k0_h61 : k0_cond61 d0 v307 = 1#1), (k0_dev22 d0 v307) < nD)
theorem k0_off94_inb : ∀ (d0 : Dev nD) (v307 : BitVec 32) (k0_hw31 : k0_chk31 d0 v307), ∀ a, (k0_off94 v307) a + S1.size a ≤ S4.size a := fun d0 v307 k0_hw31 => k0_hw31.1
theorem k0_dev22_lt : ∀ (d0 : Dev nD) (v307 : BitVec 32) (k0_hw31 : k0_chk31 d0 v307), ∀ (k0_h61 : k0_cond61 d0 v307 = 1#1), (k0_dev22 d0 v307) < nD := fun d0 v307 k0_hw31 k0_h61 => k0_hw31.2 k0_h61

def k0_off97 (v309 : BitVec 32) : Fin 2 → Nat :=
  let c0_i32_274 : BitVec 32 := 0#32
  ![v309.toNat, 0]
def k0_cond62 (d0 : Dev nD) (v307 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 1 := Scalar.cmpi .eq v307 v8
  let v319 : BitVec 32 := Scalar.extui v318
  let c0_i32_267 : BitVec 32 := 0#32
  let v320 : BitVec 1 := Scalar.cmpi .ne v319 c0_i32_267
  v320

def k0_chk32 (d0 : Dev nD) (v307 : BitVec 32) (v309 : BitVec 32) : Prop :=
  (∀ (k0_h61 : k0_cond61 d0 v307 = 1#1), ∀ a, (k0_off95 v309) a + S1x1024.size a ≤ S2048x1024.size a) ∧
  (∀ (k0_h62 : k0_cond62 d0 v307 = 1#1), ∀ a, (k0_off97 v309) a + S1x1024.size a ≤ S2048x1024.size a)
theorem k0_off95_inb : ∀ (d0 : Dev nD) (v307 : BitVec 32) (v309 : BitVec 32) (k0_hw32 : k0_chk32 d0 v307 v309), ∀ (k0_h61 : k0_cond61 d0 v307 = 1#1), ∀ a, (k0_off95 v309) a + S1x1024.size a ≤ S2048x1024.size a := fun d0 v307 v309 k0_hw32 k0_h61 => k0_hw32.1 k0_h61
theorem k0_off97_inb : ∀ (d0 : Dev nD) (v307 : BitVec 32) (v309 : BitVec 32) (k0_hw32 : k0_chk32 d0 v307 v309), ∀ (k0_h62 : k0_cond62 d0 v307 = 1#1), ∀ a, (k0_off97 v309) a + S1x1024.size a ≤ S2048x1024.size a := fun d0 v307 v309 k0_hw32 k0_h62 => k0_hw32.2 k0_h62

def k0_off98 (k0_t16 : Fin k0_t16_loop.trips) : Fin 2 → Nat :=
  let c1920_i32 : BitVec 32 := 1920#32
  let c0_i32_233 : BitVec 32 := 0#32
  let c1_i32_235 : BitVec 32 := 1#32
  let arg13 : BitVec 32 := Scf.iv c0_i32_233 c1_i32_235 k0_t16
  let v305 : BitVec 32 := Scalar.addi c1920_i32 arg13
  let c0_i32_275 : BitVec 32 := 0#32
  ![v305.toNat, 0]
@[reducible] def k0_t17_loop (v267_0 : BitVec 32) (v267_1 : BitVec 32) : Scf.Loop 32 :=
  let c0_i32_238 : BitVec 32 := 0#32
  let v268 : BitVec 32 := Scalar.subi v267_0 v267_1
  let v269 : BitVec 32 := Scalar.subi v268 c0_i32_238
  let c1_i32_239 : BitVec 32 := 1#32
  let v271 : BitVec 32 := Scalar.divsi v269 c1_i32_239
  let v272 : BitVec 32 := Scalar.muli v271 c1_i32_239
  let v273 : BitVec 32 := Scalar.addi c0_i32_238 v272
  let c1_i32_240 : BitVec 32 := 1#32
  ⟨c0_i32_238, v273, c1_i32_240⟩

@[reducible] def k0_t18_loop (v267_0 : BitVec 32) (v267_1 : BitVec 32) : Scf.Loop 32 :=
  let c0_i32_238 : BitVec 32 := 0#32
  let v268 : BitVec 32 := Scalar.subi v267_0 v267_1
  let v269 : BitVec 32 := Scalar.subi v268 c0_i32_238
  let c1_i32_239 : BitVec 32 := 1#32
  let v271 : BitVec 32 := Scalar.divsi v269 c1_i32_239
  let v272 : BitVec 32 := Scalar.muli v271 c1_i32_239
  let v273 : BitVec 32 := Scalar.addi c0_i32_238 v272
  let v270 : BitVec 32 := Scalar.addi c0_i32_238 v269
  let c1_i32_241 : BitVec 32 := 1#32
  ⟨v273, v270, c1_i32_241⟩

def k0_chk33 (v267_0 : BitVec 32) (v267_1 : BitVec 32) : Prop :=
  ((k0_t17_loop v267_0 v267_1).OK) ∧
  ((k0_t18_loop v267_0 v267_1).OK)
theorem k0_t17_ok : ∀ (v267_0 : BitVec 32) (v267_1 : BitVec 32) (k0_hw33 : k0_chk33 v267_0 v267_1), (k0_t17_loop v267_0 v267_1).OK := fun v267_0 v267_1 k0_hw33 => k0_hw33.1
theorem k0_t18_ok : ∀ (v267_0 : BitVec 32) (v267_1 : BitVec 32) (k0_hw33 : k0_chk33 v267_0 v267_1), (k0_t18_loop v267_0 v267_1).OK := fun v267_0 v267_1 k0_hw33 => k0_hw33.2

@[reducible] def k0_t19_loop (v267_2 : BitVec 32) (v267_3 : BitVec 32) : Scf.Loop 32 :=
  let c0_i32_243 : BitVec 32 := 0#32
  let v274 : BitVec 32 := Scalar.subi v267_2 v267_3
  let v275 : BitVec 32 := Scalar.subi v274 c0_i32_243
  let c1_i32_244 : BitVec 32 := 1#32
  let v277 : BitVec 32 := Scalar.divsi v275 c1_i32_244
  let v278 : BitVec 32 := Scalar.muli v277 c1_i32_244
  let v279 : BitVec 32 := Scalar.addi c0_i32_243 v278
  let c1_i32_245 : BitVec 32 := 1#32
  ⟨c0_i32_243, v279, c1_i32_245⟩

@[reducible] def k0_t20_loop (v267_2 : BitVec 32) (v267_3 : BitVec 32) : Scf.Loop 32 :=
  let c0_i32_243 : BitVec 32 := 0#32
  let v274 : BitVec 32 := Scalar.subi v267_2 v267_3
  let v275 : BitVec 32 := Scalar.subi v274 c0_i32_243
  let c1_i32_244 : BitVec 32 := 1#32
  let v277 : BitVec 32 := Scalar.divsi v275 c1_i32_244
  let v278 : BitVec 32 := Scalar.muli v277 c1_i32_244
  let v279 : BitVec 32 := Scalar.addi c0_i32_243 v278
  let v276 : BitVec 32 := Scalar.addi c0_i32_243 v275
  let c1_i32_246 : BitVec 32 := 1#32
  ⟨v279, v276, c1_i32_246⟩

def k0_chk34 (v267_2 : BitVec 32) (v267_3 : BitVec 32) : Prop :=
  ((k0_t19_loop v267_2 v267_3).OK) ∧
  ((k0_t20_loop v267_2 v267_3).OK)
theorem k0_t19_ok : ∀ (v267_2 : BitVec 32) (v267_3 : BitVec 32) (k0_hw34 : k0_chk34 v267_2 v267_3), (k0_t19_loop v267_2 v267_3).OK := fun v267_2 v267_3 k0_hw34 => k0_hw34.1
theorem k0_t20_ok : ∀ (v267_2 : BitVec 32) (v267_3 : BitVec 32) (k0_hw34 : k0_chk34 v267_2 v267_3), (k0_t20_loop v267_2 v267_3).OK := fun v267_2 v267_3 k0_hw34 => k0_hw34.2

def k0_off99 (d0 : Dev nD) : Fin 2 → Nat :=
  let c0_248 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v281 : Index := Scalar.indexCast v8
  ![0, v281.toNat]
def k0_off100 (d0 : Dev nD) : Fin 2 → Nat :=
  let c1_252 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v286 : Index := Scalar.indexCast v8
  ![1, v286.toNat]
def k0_off101 (d0 : Dev nD) : Fin 2 → Nat :=
  let c2_255 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v291 : Index := Scalar.indexCast v8
  ![2, v291.toNat]
def k0_off102 (d0 : Dev nD) : Fin 2 → Nat :=
  let c3_258 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v296 : Index := Scalar.indexCast v8
  ![3, v296.toNat]
@[reducible] def k0_t21_loop (d0 : Dev nD) (v282 : BitVec 32) (v287 : BitVec 32) (v292 : BitVec 32) (v297 : BitVec 32) : Scf.Loop 32 :=
  let c0_i32_261 : BitVec 32 := 0#32
  let c0_i32_250 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_247 : BitVec 32 := 0#32
  let v280 : BitVec 1 := Scalar.cmpi .eq v8 c0_i32_247
  let c0_i32_249 : BitVec 32 := 0#32
  let v283 : BitVec 32 := Scalar.select v280 c0_i32_249 v282
  let v284 : BitVec 32 := Scalar.addi c0_i32_250 v283
  let c1_i32_251 : BitVec 32 := 1#32
  let v285 : BitVec 1 := Scalar.cmpi .eq v8 c1_i32_251
  let c0_i32_253 : BitVec 32 := 0#32
  let v288 : BitVec 32 := Scalar.select v285 c0_i32_253 v287
  let v289 : BitVec 32 := Scalar.addi v284 v288
  let c2_i32_254 : BitVec 32 := 2#32
  let v290 : BitVec 1 := Scalar.cmpi .eq v8 c2_i32_254
  let c0_i32_256 : BitVec 32 := 0#32
  let v293 : BitVec 32 := Scalar.select v290 c0_i32_256 v292
  let v294 : BitVec 32 := Scalar.addi v289 v293
  let c3_i32_257 : BitVec 32 := 3#32
  let v295 : BitVec 1 := Scalar.cmpi .eq v8 c3_i32_257
  let c0_i32_259 : BitVec 32 := 0#32
  let v298 : BitVec 32 := Scalar.select v295 c0_i32_259 v297
  let v299 : BitVec 32 := Scalar.addi v294 v298
  let v300 : BitVec 32 := Scalar.subi v299 c0_i32_261
  let c1_i32_262 : BitVec 32 := 1#32
  let v302 : BitVec 32 := Scalar.divsi v300 c1_i32_262
  let v303 : BitVec 32 := Scalar.muli v302 c1_i32_262
  let v304 : BitVec 32 := Scalar.addi c0_i32_261 v303
  let c1_i32_263 : BitVec 32 := 1#32
  ⟨c0_i32_261, v304, c1_i32_263⟩

@[reducible] def k0_t22_loop (d0 : Dev nD) (v282 : BitVec 32) (v287 : BitVec 32) (v292 : BitVec 32) (v297 : BitVec 32) : Scf.Loop 32 :=
  let c0_i32_261 : BitVec 32 := 0#32
  let c0_i32_250 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_247 : BitVec 32 := 0#32
  let v280 : BitVec 1 := Scalar.cmpi .eq v8 c0_i32_247
  let c0_i32_249 : BitVec 32 := 0#32
  let v283 : BitVec 32 := Scalar.select v280 c0_i32_249 v282
  let v284 : BitVec 32 := Scalar.addi c0_i32_250 v283
  let c1_i32_251 : BitVec 32 := 1#32
  let v285 : BitVec 1 := Scalar.cmpi .eq v8 c1_i32_251
  let c0_i32_253 : BitVec 32 := 0#32
  let v288 : BitVec 32 := Scalar.select v285 c0_i32_253 v287
  let v289 : BitVec 32 := Scalar.addi v284 v288
  let c2_i32_254 : BitVec 32 := 2#32
  let v290 : BitVec 1 := Scalar.cmpi .eq v8 c2_i32_254
  let c0_i32_256 : BitVec 32 := 0#32
  let v293 : BitVec 32 := Scalar.select v290 c0_i32_256 v292
  let v294 : BitVec 32 := Scalar.addi v289 v293
  let c3_i32_257 : BitVec 32 := 3#32
  let v295 : BitVec 1 := Scalar.cmpi .eq v8 c3_i32_257
  let c0_i32_259 : BitVec 32 := 0#32
  let v298 : BitVec 32 := Scalar.select v295 c0_i32_259 v297
  let v299 : BitVec 32 := Scalar.addi v294 v298
  let v300 : BitVec 32 := Scalar.subi v299 c0_i32_261
  let c1_i32_262 : BitVec 32 := 1#32
  let v302 : BitVec 32 := Scalar.divsi v300 c1_i32_262
  let v303 : BitVec 32 := Scalar.muli v302 c1_i32_262
  let v304 : BitVec 32 := Scalar.addi c0_i32_261 v303
  let v301 : BitVec 32 := Scalar.addi c0_i32_261 v300
  let c1_i32_264 : BitVec 32 := 1#32
  ⟨v304, v301, c1_i32_264⟩

def k0_chk35 (d0 : Dev nD) (v282 : BitVec 32) (v287 : BitVec 32) (v292 : BitVec 32) (v297 : BitVec 32) : Prop :=
  ((k0_t21_loop d0 v282 v287 v292 v297).OK) ∧
  ((k0_t22_loop d0 v282 v287 v292 v297).OK)
theorem k0_t21_ok : ∀ (d0 : Dev nD) (v282 : BitVec 32) (v287 : BitVec 32) (v292 : BitVec 32) (v297 : BitVec 32) (k0_hw35 : k0_chk35 d0 v282 v287 v292 v297), (k0_t21_loop d0 v282 v287 v292 v297).OK := fun d0 v282 v287 v292 v297 k0_hw35 => k0_hw35.1
theorem k0_t22_ok : ∀ (d0 : Dev nD) (v282 : BitVec 32) (v287 : BitVec 32) (v292 : BitVec 32) (v297 : BitVec 32) (k0_hw35 : k0_chk35 d0 v282 v287 v292 v297), (k0_t22_loop d0 v282 v287 v292 v297).OK := fun d0 v282 v287 v292 v297 k0_hw35 => k0_hw35.2

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Trip.lean ====
/- One trip of the row loop. The kernel prints sixteen loops with the same text but for the first row of each; this
   module states that text once, over the two offsets that differ, and shows that each printed loop has it. -/
module

public import proofs.«01_k».proof.Proof.Gen.KernelIdeal.Skeleton
public import proofs.«01_k».proof.Proof.Gen.KernelIdeal.Loops

@[expose] public section

noncomputable section

namespace Cert.Proof

open Idealize.ShloMosaic Idealize.ShloMosaic.TcCoe
open Idealize.SL.Sem
open Cert.KernelIdeal Cert.KernelIdeal.Gen

variable {F : FTy → Type} [FloatOps F]

/-- The buffers the kernel's body works on. -/
abbrev xM : Memref sig .tc .vmem S2048x1024 .f32 := Memref.whole cc0_stg0_0
abbrev dM : Memref sig .tc .vmem S16x128 .i32 := Memref.whole cc0_stg1_0
abbrev oM : Memref sig .tc .vmem S2048x1024 .f32 := Memref.whole cc0_stg2_0
abbrev cM : Memref sig .tc .vmem S4x128 .i32 := Memref.whole cc0_scratch0
abbrev nS : Memref sig .tc .smem S4x128 .i32 := Memref.whole cc0_scratch1
abbrev tS : Memref sig .tc .smem S16x128 .i32 := Memref.whole cc0_scratch2
abbrev rS : Memref sig .tc .smem S4 .i32 := Memref.whole cc0_scratch3

/-- One row of a 2048-row buffer. -/
abbrev rowOf (M : Memref sig .tc .vmem S2048x1024 .f32) (o : Fin 2 → ℕ) (h : ∀ a, o a + S1x1024.size a ≤ S2048x1024.size a) :
    Memref sig .tc .vmem S1x1024 .f32 :=
  M.slice (Rect.unit (s := S2048x1024) o S1x1024.size h) (fun _ => rfl)

/-- The four counters the loop carries: sent, sends awaited, copied, copies awaited. -/
abbrev Ctr : Type := BitVec 32 × BitVec 32 × BitVec 32 × BitVec 32

/-- The tail of a trip: the counters move on, and a queue that has grown to 32 is waited for once. -/
def rowTail (is : BitVec 32) (st : Ctr) : Prog (TpuEff nD τ sig (Elt F) Λ₀ .tc) Ctr := do
  let v321 : BitVec 32 := Scalar.addi st.1 is
  let v322 : BitVec 32 := Scalar.addi st.2.2.1 1#32
  let v323 : BitVec 32 := Scalar.subi v322 is
  let v326 : BitVec 32 := Scalar.extui (Scalar.cmpi .sge (Scalar.subi v321 st.2.1) 32#32)
  let v329 : BitVec 32 := Scalar.extui (Scalar.cmpi .sge (Scalar.subi v323 st.2.2.2) 32#32)
  if Scalar.cmpi .ne (Scalar.extui (Scalar.cmpi .eq v326 1#32) : BitVec 32) 0#32 = 1#1 then do
    Prog.lift (.waitDma2 cc0_scratch6.sem (rowOf oM ![0, 0] inb_S2048x1024_S1x1024_0_0) (rowOf xM ![0, 0] inb_S2048x1024_S1x1024_0_0) (View.wordExact_bits rfl) (View.wordExact_bits rfl))
    pure ⟨⟩
  else do
    pure ⟨⟩
  if Scalar.cmpi .ne (Scalar.extui (Scalar.cmpi .eq v329 1#32) : BitVec 32) 0#32 = 1#1 then do
    Prog.lift (.waitDma2 cc0_scratch8.sem (rowOf xM ![0, 0] inb_S2048x1024_S1x1024_0_0) (rowOf oM ![0, 0] inb_S2048x1024_S1x1024_0_0) (View.wordExact_bits rfl) (View.wordExact_bits rfl))
    pure ⟨⟩
  else do
    pure ⟨⟩
  pure (v321, Scalar.addi st.2.1 v326, v323, Scalar.addi st.2.2.2 v329)

/-- One trip: read the row's destination, take that destination's next place, move the row there, and move the
    counters on. `oL` is where the destination is read, `oS` where the row lies. -/
def rowTrip (c : Dev nD) (v8 : BitVec 32) (oL : Fin 2 → ℕ) (hL : ∀ a, oL a + S1x1.size a ≤ S16x128.size a)
    (oS : Fin 2 → ℕ) (hS : ∀ a, oS a + S1x1024.size a ≤ S2048x1024.size a) (st : Ctr) :
    Prog (TpuEff nD τ sig (Elt F) Λ₀ .tc) Ctr := do
  let w : Elt F .i32 ← smemLoad tS (Rect.unit (s := S16x128) oL S1x1.size hL) numel1_S1x1 rfl
  have h1 : k0_chk1 c w := (← Prog.lift (TpuEff.assume (k0_chk1 c w) (k0_chk1.dec c w))).down
  let p : Elt F .i32 ← smemLoad rS (Rect.unit (s := S4) (k0_off4 w) S1.size (k0_off4_inb c w h1)) numel1_S1 rfl
  have h2 : k0_chk2 c w p := (← Prog.lift (TpuEff.assume (k0_chk2 c w p) (k0_chk2.dec c w p))).down
  let _v312 : Elt F .i32 ← smemLoad rS (Rect.unit (s := S4) (k0_off4 w) S1.size (k0_off4_inb c w h1)) numel1_S1 rfl
  Prog.lift (.store rS (Rect.unit (s := S4) (k0_off4 w) S1.size (k0_off4_inb c w h1)) (fun _ => Scalar.addi p 1#32) Finset.univ (View.stores_smem_one rfl numel1_S1) (.inl rfl))
  if k0_h1 : k0_cond1 c w = 1#1 then do
    Prog.lift (.enqueueDma (rowOf xM oS hS) (.remote (Dev.tc (⟨k0_dev7 c w, k0_dev7_lt c w h1 k0_h1⟩ : Dev nD)) (rowOf oM (k0_off5 p) (k0_off5_inb c w p h2 k0_h1)) (.dma cc0_scratch6.sem)) (.dma cc0_scratch7.sem) (View.wordExact_bits rfl) (View.wordExact_bits rfl) ⟨⟨rfl, Or.inl rfl⟩, trivial⟩)
    pure ⟨⟩
  else do
    pure ⟨⟩
  if k0_h2 : k0_cond2 c w = 1#1 then do
    Prog.lift (.enqueueDma (rowOf xM oS hS) (.here (rowOf oM (k0_off7 p) (k0_off7_inb c w p h2 k0_h2))) (.dma cc0_scratch8.sem) (View.wordExact_bits rfl) (View.wordExact_bits rfl) ⟨Or.inl rfl, trivial⟩)
    pure ⟨⟩
  else do
    pure ⟨⟩
  rowTail (Scalar.extui (Scalar.cmpi .ne w v8)) st

section Printed

variable (c : Dev nD) (v2 v5 v8 v222 : BitVec 32) (v223 : BitVec 1) (v224 : Elt F .i32) (k : BitVec 32)

/-- The first printed loop's trip. -/
theorem t1_eq (n : Fin k0_t1_loop.trips) (st : Ctr) :
    k0_t1_body (F := F) xM (Memref.isWhole_whole _) dM (Memref.isWhole_whole _) oM (Memref.isWhole_whole _) cM (Memref.isWhole_whole _) nS (Memref.isWhole_whole _)
      tS (Memref.isWhole_whole _) rS (Memref.isWhole_whole _) cc0_scratch4 cc0_scratch5 cc0_scratch6 cc0_scratch7 cc0_scratch8 cc0_scratch9 c v2 v5 v8 v222 v223 v224 k n st
      = rowTrip c v8 (k0_off3 n) (k0_off3_inb n) (k0_off6 n) (k0_off6_inb n) st := rfl

end Printed

end Cert.Proof
-- ==== Proof.Counts.lean ====
/- Where a row goes. Four devices share the work; device `s` holds 2048 rows, row `i` bound for device `D s i`.
   A receiver keeps the rows bound for it in the order of their senders and, for one sender, in the order that
   they had there. This module counts rows, gives each row its place, and shows that places never meet and
   leave no gap when every receiver gets exactly 2048 rows. -/
module

public import Mathlib.Data.Fintype.BigOperators
public import Mathlib.Data.Fintype.Prod
public import Idealize.ShloMosaic.Lib.Rounds

@[expose] public section

namespace Cert.Proof

/-- The destination of each row: sender, row of the sender, receiver. -/
abbrev Dest : Type := Fin 4 → Fin 2048 → Fin 4

namespace Dest

variable (D : Dest)

/-- How many of the first `n` rows of sender `s` are bound for `r`. -/
def cnt (s r : Fin 4) (n : ℕ) : ℕ := (Finset.univ.filter fun i : Fin 2048 => i.val < n ∧ D s i = r).card

/-- How many rows bound for `r` the senders before `s` hold. -/
def base (s r : Fin 4) : ℕ := ∑ t : Fin 4, if t < s then D.cnt t r 2048 else 0

/-- The place, on the receiver, of row `i` of sender `s`. -/
def pos (s : Fin 4) (i : Fin 2048) : ℕ := D.base s (D s i) + D.cnt s (D s i) i.val

/-- Every receiver gets as many rows as it has places. -/
def Balanced : Prop := ∀ r, ∑ s, D.cnt s r 2048 = 2048

theorem cnt_zero (s r : Fin 4) : D.cnt s r 0 = 0 := by
  simp [cnt]

theorem cnt_succ (s r : Fin 4) (i : Fin 2048) : D.cnt s r (i.val + 1) = D.cnt s r i.val + if D s i = r then 1 else 0 := by
  unfold cnt
  by_cases h : D s i = r
  · rw [if_pos h]
    have : (Finset.univ.filter fun j : Fin 2048 => j.val < i.val + 1 ∧ D s j = r)
        = insert i (Finset.univ.filter fun j : Fin 2048 => j.val < i.val ∧ D s j = r) := by
      ext j
      simp only [Finset.mem_filter, Finset.mem_univ, true_and, Finset.mem_insert]
      constructor
      · rintro ⟨h1, h2⟩
        rcases Nat.lt_succ_iff_lt_or_eq.mp h1 with h3 | h3
        · exact Or.inr ⟨h3, h2⟩
        · exact Or.inl (Fin.ext h3)
      · rintro (rfl | ⟨h1, h2⟩)
        · exact ⟨Nat.lt_succ_self _, h⟩
        · exact ⟨Nat.lt_succ_of_lt h1, h2⟩
    rw [this, Finset.card_insert_of_notMem (by simp)]
  · rw [if_neg h]
    refine Eq.trans (congrArg Finset.card (Finset.ext fun j => ?_)) (Nat.add_zero _).symm
    simp only [Finset.mem_filter, Finset.mem_univ, true_and]
    constructor
    · rintro ⟨h1, h2⟩
      rcases Nat.lt_succ_iff_lt_or_eq.mp h1 with h3 | h3
      · exact ⟨h3, h2⟩
      · exact absurd h2 ((Fin.ext h3 : j = i) ▸ h)
    · rintro ⟨h1, h2⟩
      exact ⟨Nat.lt_succ_of_lt h1, h2⟩

theorem cnt_mono (s r : Fin 4) {n n' : ℕ} (h : n ≤ n') : D.cnt s r n ≤ D.cnt s r n' :=
  Finset.card_le_card fun i hi => by
    simp only [Finset.mem_filter, Finset.mem_univ, true_and] at hi ⊢
    exact ⟨lt_of_lt_of_le hi.1 h, hi.2⟩

theorem cnt_le (s r : Fin 4) (n : ℕ) : D.cnt s r n ≤ 2048 := by
  refine (Finset.card_le_univ _).trans ?_
  simp

/-- The rows of `s` bound for `r`, all of them. -/
theorem cnt_all (s r : Fin 4) : D.cnt s r 2048 = (Finset.univ.filter fun i : Fin 2048 => D s i = r).card := by
  unfold cnt
  refine congrArg Finset.card (Finset.ext fun i => ?_)
  simp [i.isLt]

/-- A row's place within its own sender's stretch. -/
theorem cnt_lt (s : Fin 4) (i : Fin 2048) : D.cnt s (D s i) i.val < D.cnt s (D s i) 2048 := by
  have h1 := D.cnt_succ s (D s i) i
  rw [if_pos rfl] at h1
  have h2 := D.cnt_mono s (D s i) (show i.val + 1 ≤ 2048 from i.isLt)
  omega

/-- The stretch of a later sender starts after the stretch of an earlier one has ended. -/
theorem base_add_le (r : Fin 4) {s t : Fin 4} (h : s < t) : D.base s r + D.cnt s r 2048 ≤ D.base t r := by
  unfold base
  rw [← Finset.sum_erase_add Finset.univ (fun u : Fin 4 => if u < t then D.cnt u r 2048 else 0) (Finset.mem_univ s), if_pos h]
  refine Nat.add_le_add_right ?_ _
  rw [← Finset.sum_erase_add Finset.univ (fun u : Fin 4 => if u < s then D.cnt u r 2048 else 0) (Finset.mem_univ s),
    if_neg (lt_irrefl s), Nat.add_zero]
  refine Finset.sum_le_sum fun u _ => ?_
  by_cases hu : u < s
  · rw [if_pos hu, if_pos (hu.trans h)]
  · rw [if_neg hu]; exact Nat.zero_le _

theorem base_add_le_sum (s r : Fin 4) : D.base s r + D.cnt s r 2048 ≤ ∑ t, D.cnt t r 2048 := by
  unfold base
  rw [← Finset.sum_erase_add Finset.univ (fun u : Fin 4 => if u < s then D.cnt u r 2048 else 0) (Finset.mem_univ s),
    if_neg (lt_irrefl s), Nat.add_zero,
    ← Finset.sum_erase_add Finset.univ (fun u : Fin 4 => D.cnt u r 2048) (Finset.mem_univ s)]
  refine Nat.add_le_add_right (Finset.sum_le_sum fun u _ => ?_) _
  by_cases hu : u < s
  · rw [if_pos hu]
  · rw [if_neg hu]; exact Nat.zero_le _

variable {D}

theorem pos_lt (hB : D.Balanced) (s : Fin 4) (i : Fin 2048) : D.pos s i < 2048 := by
  have h1 := D.cnt_lt s i
  have h2 := D.base_add_le_sum s (D s i)
  rw [hB] at h2
  unfold pos
  omega

theorem cnt_lt_of_lt {s r : Fin 4} {i j : Fin 2048} (hi : D s i = r) (h : i < j) : D.cnt s r i.val < D.cnt s r j.val := by
  have h1 := D.cnt_succ s r i
  rw [if_pos hi] at h1
  have h2 := D.cnt_mono s r (show i.val + 1 ≤ j.val from h)
  omega

/-- Two rows bound for one receiver have one place only if they are one row. -/
theorem pos_inj {s t : Fin 4} {i j : Fin 2048} (hd : D s i = D t j) (hp : D.pos s i = D.pos t j) : s = t ∧ i = j := by
  unfold pos at hp
  have hi := D.cnt_lt s i
  have hj := D.cnt_lt t j
  rcases lt_trichotomy s t with h | h | h
  · have := D.base_add_le (D t j) h
    rw [hd] at hp hi
    omega
  · subst h
    refine ⟨rfl, ?_⟩
    rw [hd] at hp
    rcases lt_trichotomy i j with h | h | h
    · have := cnt_lt_of_lt (D := D) (s := s) hd h
      omega
    · exact h
    · have := cnt_lt_of_lt (D := D) (s := s) rfl h
      omega
  · have := D.base_add_le (D s i) h
    rw [← hd] at hp hj
    omega

/-- The rows bound for `r`. -/
def rowsTo (D : Dest) (r : Fin 4) : Finset (Fin 4 × Fin 2048) := Finset.univ.filter fun d => D d.1 d.2 = r

theorem mem_rowsTo {r : Fin 4} {d : Fin 4 × Fin 2048} : d ∈ D.rowsTo r ↔ D d.1 d.2 = r := by
  simp [rowsTo]

theorem card_rowsTo (r : Fin 4) : (D.rowsTo r).card = ∑ s, D.cnt s r 2048 := by
  unfold rowsTo
  rw [Finset.card_filter, Fintype.sum_prod_type]
  refine Finset.sum_congr rfl fun s _ => ?_
  rw [D.cnt_all, Finset.card_filter]

/-- Every place is the place of some row bound there. -/
theorem exists_src (hB : D.Balanced) (r : Fin 4) (p : Fin 2048) : ∃ d : Fin 4 × Fin 2048, D d.1 d.2 = r ∧ D.pos d.1 d.2 = p.val := by
  have hinj : Set.InjOn (fun d : Fin 4 × Fin 2048 => (⟨D.pos d.1 d.2, pos_lt hB _ _⟩ : Fin 2048)) (D.rowsTo r) := by
    intro d hd e he h
    have hd' : D d.1 d.2 = r := mem_rowsTo.mp hd
    have he' : D e.1 e.2 = r := mem_rowsTo.mp he
    obtain ⟨h1, h2⟩ := pos_inj (D := D) (hd'.trans he'.symm) (Fin.mk.inj h)
    exact Prod.ext h1 h2
  have himg : (D.rowsTo r).image (fun d : Fin 4 × Fin 2048 => (⟨D.pos d.1 d.2, pos_lt hB _ _⟩ : Fin 2048)) = Finset.univ := by
    refine Finset.eq_univ_of_card _ ?_
    rw [Finset.card_image_of_injOn hinj, card_rowsTo, hB]
    simp
  obtain ⟨d, hd, hp⟩ := Finset.mem_image.mp (himg ▸ Finset.mem_univ p)
  exact ⟨d, mem_rowsTo.mp hd, congrArg Fin.val hp⟩

/-- The row that has place `p` on receiver `r`. -/
noncomputable def src (hB : D.Balanced) (r : Fin 4) (p : Fin 2048) : Fin 4 × Fin 2048 := (exists_src hB r p).choose

theorem dest_src (hB : D.Balanced) (r : Fin 4) (p : Fin 2048) : D (src hB r p).1 (src hB r p).2 = r :=
  (exists_src hB r p).choose_spec.1

theorem pos_src (hB : D.Balanced) (r : Fin 4) (p : Fin 2048) : D.pos (src hB r p).1 (src hB r p).2 = p.val :=
  (exists_src hB r p).choose_spec.2

theorem src_pos (hB : D.Balanced) (s : Fin 4) (i : Fin 2048) : src hB (D s i) ⟨D.pos s i, pos_lt hB s i⟩ = (s, i) := by
  obtain ⟨h1, h2⟩ := pos_inj (D := D) (s := (src hB (D s i) ⟨D.pos s i, pos_lt hB s i⟩).1)
    (i := (src hB (D s i) ⟨D.pos s i, pos_lt hB s i⟩).2) (t := s) (j := i) (dest_src hB _ _) (pos_src hB _ _)
  exact Prod.ext h1 h2

end Dest

end Cert.Proof
-- ==== Proof.Setup.lean ====
/- The agreement the devices keep while rows move: which semaphore is paid by whom, how much, and what comes with
   each payment. -/
module

public import proofs.«01_k».proof.Proof.Gen.KernelIdeal.Launch
public import proofs.«01_k».proof.Proof.Gen.KernelIdeal.Points
public import proofs.«01_k».proof.Proof.Trip
public import proofs.«01_k».proof.Proof.Counts

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type}

/-! ## Devices that talk -/

/-- A device's place among the four that exchange rows. -/
def zr (c : Dev nD) : Fin 4 := ⟨c.val % 4, Nat.mod_lt _ (by decide)⟩

/-- The member of the device's four at place `s`. -/
def peer (c : Dev nD) (s : Fin 4) : Dev nD := ⟨c.val / 4 * 4 + s.val, by
  have h : c.val < 16 := c.isLt
  have := s.isLt
  show _ < 16
  omega⟩

theorem peer_peer (c : Dev nD) (s t : Fin 4) : peer (peer c s) t = peer c t := by
  refine Fin.ext ?_
  show (c.val / 4 * 4 + s.val) / 4 * 4 + t.val = c.val / 4 * 4 + t.val
  have := s.isLt
  omega

theorem zr_peer (c : Dev nD) (s : Fin 4) : zr (peer c s) = s := by
  refine Fin.ext ?_
  show (c.val / 4 * 4 + s.val) % 4 = s.val
  have := s.isLt
  omega

theorem peer_zr (c : Dev nD) : peer c (zr c) = c := by
  refine Fin.ext ?_
  show c.val / 4 * 4 + c.val % 4 = c.val
  omega

/-- Swapping who looks at whom. -/
def swap : Dev nD × Fin 4 ≃ Dev nD × Fin 4 where
  toFun q := (peer q.1 q.2, zr q.1)
  invFun q := (peer q.1 q.2, zr q.1)
  left_inv q := by
    show (peer (peer q.1 q.2) (zr q.1), zr (peer q.1 q.2)) = q
    rw [peer_peer, peer_zr, zr_peer]
  right_inv q := by
    show (peer (peer q.1 q.2) (zr q.1), zr (peer q.1 q.2)) = q
    rw [peer_peer, peer_zr, zr_peer]

/-- The destinations of a device's four. -/
def grp (D : Dev nD → Fin 2048 → Fin 4) (c : Dev nD) : Dest := fun s i => D (peer c s) i

theorem grp_peer (D : Dev nD → Fin 2048 → Fin 4) (c : Dev nD) (s : Fin 4) : grp D (peer c s) = grp D c := by
  funext t i; unfold grp; rw [peer_peer]

theorem grp_own (D : Dev nD → Fin 2048 → Fin 4) (c : Dev nD) (i : Fin 2048) : grp D c (zr c) i = D c i := by
  unfold grp; rw [peer_zr]

/-- What the exchange starts from: the rows, and where each is bound. -/
structure Inp (F : FTy → Type) where
  X : Dev nD → (cc0_stg0_0 : Ref sig .tc).ty.Contents (Elt F)
  D : Dev nD → Fin 2048 → Fin 4
  bal : ∀ c, (grp D c).Balanced

/-- The row that a position of the destination table stands for. -/
def lin (x : S16x128.Idx) : Fin 2048 := ⟨(x 0).val * 128 + (x 1).val, by
  have h0 : (x 0).val < 16 := (x 0).isLt
  have h1 : (x 1).val < 128 := (x 1).isLt
  omega⟩

variable (A : Inp F)

/-- The destination table. -/
def Inp.dw (c : Dev nD) : (cc0_stg1_0 : Ref sig .tc).ty.Contents (Elt F) := fun x => (BitVec.ofNat 32 (A.D c (lin x)).val : BitVec 32)

/-- The counts, one row per sender, one column per receiver. -/
def Inp.cm (c : Dev nD) : (cc0_scratch0 : Ref sig .tc).ty.Contents (Elt F) := fun x : S4x128.Idx =>
  (if h : (x 1).val < 4 then BitVec.ofNat 32 ((grp A.D c).cnt ⟨(x 0).val, (x 0).isLt⟩ ⟨(x 1).val, h⟩ 2048) else 0#32 : BitVec 32)

/-- A row and a column of a 2048-row buffer. -/
def at2 (i : Fin 2048) (j : Fin 1024) : S2048x1024.Idx := fun a => Fin.cases (motive := fun a : Fin 2 => Fin (S2048x1024.size a)) i
  (fun b => Fin.cases (motive := fun b : Fin 1 => Fin (S2048x1024.size b.succ)) j (fun e => e.elim0) b) a

/-- What each device holds in the end. -/
def Inp.G (c : Dev nD) : (cc0_stg2_0 : Ref sig .tc).ty.Contents (Elt F) := fun x : S2048x1024.Idx =>
  let d := Dest.src (A.bal c) (zr c) (x 0)
  A.X (peer c d.1) (at2 d.2 (x 1))

/-! ## Pieces of the buffers -/

/-- The elements of row `n`. -/
def rowSet (n : ℕ) : Finset S2048x1024.Idx := Finset.univ.filter fun x => (x 0).val = n

/-- The elements of row `n` of the counts. -/
def crowSet (n : ℕ) : Finset S4x128.Idx := Finset.univ.filter fun x => (x 0).val = n

/-- Row `n` of the rows' buffer, of the result's, of the counts'. -/
abbrev xrow (c : Dev nD) (n : ℕ) (f : (cc0_stg0_0 : Ref sig .tc).ty.Contents (Elt F)) :
    sProp (MT nD τ sig Unit (Elt F) ℕ (UR sig nD τ × URounds (GSem nD τ sig) (Fin 4 × Fin 2048)) ℕ) :=
  (c : Thread nD τ).loc cc0_stg0_0 ↦[rowSet n]{fullShare} f
abbrev orow (c : Dev nD) (n : ℕ) (f : (cc0_stg2_0 : Ref sig .tc).ty.Contents (Elt F)) :
    sProp (MT nD τ sig Unit (Elt F) ℕ (UR sig nD τ × URounds (GSem nD τ sig) (Fin 4 × Fin 2048)) ℕ) :=
  (c : Thread nD τ).loc cc0_stg2_0 ↦[rowSet n]{fullShare} f
abbrev crow (q : PosShare TreeShare) (c : Dev nD) (n : ℕ) (f : (cc0_scratch0 : Ref sig .tc).ty.Contents (Elt F)) :
    sProp (MT nD τ sig Unit (Elt F) ℕ (UR sig nD τ × URounds (GSem nD τ sig) (Fin 4 × Fin 2048)) ℕ) :=
  (c : Thread nD τ).loc cc0_scratch0 ↦[crowSet n]{q} f

/-! ## The resources -/

/-- One payment: who pays it (a place among the four) and, where there are many, for which row. -/
abbrev Dt : Type := Fin 4 × Fin 2048

abbrev UU : Type := UR sig nD τ × URounds (GSem nD τ sig) Dt

local notation "𝕄" => MT nD τ sig Unit (Elt F) ℕ UU ℕ

abbrev EP : Emb (UR sig nD τ) (MT nD τ sig Unit (Elt F) ℕ UU ℕ) := embL
abbrev ER : Emb (URounds (GSem nD τ sig) Dt) (MT nD τ sig Unit (Elt F) ℕ UU ℕ) := embR

/-- The semaphores of the exchange: barrier, counts sent, counts received, rows sent, rows received, rows copied, and
    the copies of the destination table and of the counts. -/
def sm : Fin 8 → SemLoc sig := fun k => if k = 0 then .reg barrier0 else .dma ⟨k.val + 2, by have := k.isLt; show _ < 10; omega⟩

theorem sm_inj : Function.Injective sm := by decide

abbrev cell (c : Dev nD) (k : Fin 8) : GSem nD τ sig := ((c : Thread nD τ), sm k)

/-- The number of a semaphore in that list; the others get 8. -/
def kd : SemLoc sig → ℕ
  | .reg _ => 0
  | .dma s => if s.val < 3 then 8 else s.val - 2

theorem kd_sm (k : Fin 8) : kd (sm k) = k.val := by revert k; decide

/-- The amounts: a row of the rows' buffer, a row of the counts, the destination table, the counts. -/
abbrev Nrow : ℕ := (rowOf oM ![0, 0] inb_S2048x1024_S1x1024_0_0).view.dmaCredit
abbrev Ncnt : ℕ := (cM.slice (Rect.unit (s := S4x128) (k0_off2 0) S1x128.size (k0_off2_inb 0)) (fun _ => rfl)).view.dmaCredit
abbrev Ntab : ℕ := tS.view.dmaCredit
abbrev Nmat : ℕ := nS.view.dmaCredit

theorem Nrow_pos : 0 < Nrow := View.dmaCredit_pos _ (by decide)
theorem Ncnt_pos : 0 < Ncnt := View.dmaCredit_pos _ (by decide)
theorem Ntab_pos : 0 < Ntab := View.dmaCredit_pos _ (by decide)
theorem Nmat_pos : 0 < Nmat := View.dmaCredit_pos _ (by decide)

/-- The amount each payment on a semaphore has. -/
def amt : ℕ → ℕ
  | 0 => 1
  | 1 => Ncnt
  | 2 => Ncnt
  | 6 => Ntab
  | 7 => Nmat
  | _ => Nrow

theorem amt_pos (k : ℕ) : 0 < amt k := by
  unfold amt
  split
  · exact Nat.one_pos
  · exact Ncnt_pos
  · exact Ncnt_pos
  · exact Ntab_pos
  · exact Nmat_pos
  · exact Nrow_pos

/-- Who pays on device `p`'s semaphores. -/
def Inp.duty (p : Dev nD) : ℕ → Finset Dt
  | 0 => Finset.univ.filter fun d => d.1 ≠ zr p ∧ d.2 = 0
  | 1 => Finset.univ.filter fun d => d.1 = zr p ∧ 1 ≤ d.2.val ∧ d.2.val ≤ 3
  | 2 => Finset.univ.filter fun d => d.1 ≠ zr p ∧ d.2 = 0
  | 3 => Finset.univ.filter fun d => d.1 = zr p ∧ A.D p d.2 ≠ zr p
  | 4 => Finset.univ.filter fun d => d.1 ≠ zr p ∧ A.D (peer p d.1) d.2 = zr p
  | 5 => Finset.univ.filter fun d => d.1 = zr p ∧ A.D p d.2 = zr p
  | 6 => {(zr p, 0)}
  | 7 => {(zr p, 0)}
  | _ => ∅

/-- The share of the own counts that the `j`-th count message holds. -/
def cshare (j : ℕ) : PosShare TreeShare :=
  if j = 1 then (fullShare : PosShare TreeShare).left else if j = 2 then (fullShare : PosShare TreeShare).right.left else (fullShare : PosShare TreeShare).right.right

/-- The rows of `c` that go to place `s`. -/
def Inp.going (c : Dev nD) (s : Fin 4) : Finset (Fin 2048) := Finset.univ.filter fun i => A.D c i = s

/-- The place of the device's row `i` at its receiver. -/
def Inp.place (c : Dev nD) (i : Fin 2048) : ℕ := (grp A.D c).pos (zr c) i

/-- With place `s`'s word that it is ready: its row of the counts for the listener, the places of the listener's rows
    in its result, and that both of its receiving semaphores are open. -/
def Inp.barPay (p : Dev nD) (s : Fin 4) : sProp 𝕄 :=
  iprop((∃ f, crow fullShare (peer p s) (zr p).val f)
    ∗ (bigSep (A.going p s) fun i => iprop(∃ f, orow (peer p s) (A.place p i) f))
    ∗ reached ER (cell (peer p s) 2) 0 ∗ reached ER (cell (peer p s) 4) 0)

/-- What comes with payment `d` on device `p`'s semaphore. -/
def Inp.pay (p : Dev nD) (d : Dt) : ℕ → sProp 𝕄
  | 0 => A.barPay p d.1
  | 1 => crow (cshare d.2.val) p (zr p).val (A.cm p)
  | 2 => crow fullShare p d.1.val (A.cm p)
  | 3 => xrow p d.2.val (A.X p)
  | 4 => orow p ((grp A.D p).pos d.1 d.2) (A.G p)
  | 5 => iprop(orow p (A.place p d.2) (A.G p) ∗ xrow p d.2.val (A.X p))
  | 6 => iprop(((p : Thread nD τ).loc cc0_scratch2 ↦{fullShare} A.dw p) ∗ ((p : Thread nD τ).loc cc0_stg1_0 ↦{(fullShare : PosShare TreeShare).left} A.dw p))
  | 7 => iprop(((p : Thread nD τ).loc cc0_scratch1 ↦{fullShare} A.cm p) ∗ ((p : Thread nD τ).loc cc0_scratch0 ↦{fullShare} A.cm p))
  | _ => iprop(emp)

/-- One round on every semaphore. -/
def Inp.rd : Rounds.Schedule (GSem nD τ sig) Dt 𝕄 where
  duties g r := if r = 0 then A.duty g.1.1 (kd g.2) else ∅
  unitless _ := False
  amount g _ _ := amt (kd g.2)
  payload g _ d := A.pay g.1.1 d (kd g.2)
  amount_pos g _ _ _ := amt_pos _

instance rd_payload_storable (g : GSem nD τ sig) (r : ℕ) (d : Dt) :
    BI.Storable (upEmb : UEmb _ 𝕄) (A.rd.payload g r d) := by
  show BI.Storable upEmb (A.pay g.1.1 d (kd g.2))
  unfold Inp.pay Inp.barPay
  split <;> infer_instance

theorem duties_cell (p : Dev nD) (k : Fin 8) : A.rd.duties (cell p k) 0 = A.duty p k.val := by
  show (if (0 : ℕ) = 0 then A.duty p (kd (sm k)) else ∅) = _
  rw [if_pos rfl, kd_sm]
theorem duties_later (g : GSem nD τ sig) : ∀ r, 1 ≤ r → A.rd.duties g r = ∅ := fun r hr => by
  show (if r = 0 then _ else _) = _
  rw [if_neg (by omega)]
theorem amount_cell (p : Dev nD) (k : Fin 8) (d : Dt) : A.rd.amount (cell p k) 0 d = amt k.val := by
  show amt (kd (sm k)) = _
  rw [kd_sm]
theorem payload_cell (p : Dev nD) (k : Fin 8) (d : Dt) : A.rd.payload (cell p k) 0 d = A.pay p d k.val := by
  show A.pay p d (kd (sm k)) = _
  rw [kd_sm]
theorem expect_cell (p : Dev nD) (k : Fin 8) : A.rd.expect (cell p k) 0 = (A.duty p k.val).card * amt k.val := by
  unfold Schedule.expect Schedule.amountOf
  rw [duties_cell, Finset.sum_congr rfl (fun d _ => amount_cell A p k d), Finset.sum_const, smul_eq_mul]

/-! ## What each device owes at launch; the order of waiting -/

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- Barriers first, then everything a device waits for while it still owes rows, then the rows that arrive. -/
def lvn : ℕ → ℕ
  | 0 => 1
  | 4 => 3
  | 8 => 0
  | _ => 2
def lv (g : GSem nD τ sig) (_ : Unit) : ℕ := lvn (kd g.2)
theorem lv_cell (c : Dev nD) (k : Fin 8) (u : Unit) : lv (cell c k) u = lvn k.val := by
  show lvn (kd (sm k)) = _
  rw [kd_sm]

/-- The other places, one, two and three further on. -/
def nxt (c : Dev nD) (j : Fin 4) : Fin 4 := zr c + j

abbrev toNxt (c : Dev nD) (j : Fin 4) (k : Fin 8) (n : ℕ) : CellTallies nD τ sig Unit := tallyAt (cell (peer c (nxt c j)) k) () n

/-- The rows from `n` on, owed to their receivers. -/
def Inp.owedRows (c : Dev nD) (n : ℕ) : CellTallies nD τ sig Unit :=
  ∑ i : Fin 2048, if n ≤ i.val ∧ A.D c i ≠ zr c then tallyAt (cell (peer c (A.D c i)) 4) () Nrow else 0
def Inp.owedCnt (c : Dev nD) : CellTallies nD τ sig Unit := A.owedRows c 0 + toNxt c 3 2 Ncnt + toNxt c 2 2 Ncnt + toNxt c 1 2 Ncnt
def Inp.O₀ (c : Dev nD) : CellTallies nD τ sig Unit := A.owedCnt c + toNxt c 3 0 1 + toNxt c 2 0 1 + toNxt c 1 0 1

/-- Everything in `O` is owed on a semaphore above `b`. -/
def Above (b : ℕ) (O : CellTallies nD τ sig Unit) : Prop := ∀ g u, 0 < O g u → b < lv g u ∧ g.1.2 = .tc

theorem Above.add {b : ℕ} {O O' : CellTallies nD τ sig Unit} (h : Above b O) (h' : Above b O') : Above b (O + O') := fun g u hp => by
  rw [Pi.add_apply, Finsupp.add_apply] at hp
  rcases Nat.add_pos_iff_pos_or_pos.mp hp with hp | hp
  · exact h g u hp
  · exact h' g u hp

theorem Above.zero (b : ℕ) : Above b (0 : CellTallies nD τ sig Unit) := fun _ _ h => absurd h (Nat.lt_irrefl 0)

theorem Above.tally {b : ℕ} {c : Dev nD} {k : Fin 8} {n : ℕ} (h : b < lvn k.val) : Above b (tallyAt (cell c k) () n) := fun g u hp => by
  rw [tallyAt_apply] at hp
  by_cases hg : g = cell c k ∧ u = ()
  · rw [hg.1, lv_cell]; exact ⟨h, rfl⟩
  · rw [if_neg hg] at hp; exact absurd hp (Nat.lt_irrefl 0)

theorem Above.sum {ι : Type} {b : ℕ} (s : Finset ι) (f : ι → CellTallies nD τ sig Unit) (h : ∀ i ∈ s, Above b (f i)) : Above b (∑ i ∈ s, f i) := by
  classical
  induction s using Finset.induction_on with
  | empty => rw [Finset.sum_empty]; exact Above.zero b
  | insert i s hi ih =>
    rw [Finset.sum_insert hi]
    exact (h i (Finset.mem_insert_self _ _)).add (ih fun j hj => h j (Finset.mem_insert_of_mem hj))

theorem Above.rows (c : Dev nD) (n : ℕ) : Above 2 (A.owedRows c n) := Above.sum _ _ fun i _ => by
  split
  · exact Above.tally (k := 4) (by decide)
  · exact Above.zero _

theorem Above.mono {b b' : ℕ} {O : CellTallies nD τ sig Unit} (h : Above b O) (hb : b' ≤ b) : Above b' O := fun g u hp =>
  ⟨lt_of_le_of_lt hb (h g u hp).1, (h g u hp).2⟩

theorem Above.cnt (c : Dev nD) : Above 1 (A.owedCnt c) :=
  ((((Above.rows A c 0).mono (by decide)).add (Above.tally (k := 2) (by decide))).add (Above.tally (k := 2) (by decide))).add (Above.tally (k := 2) (by decide))

theorem Above.all (c : Dev nD) : Above 0 (A.O₀ c) :=
  ((((Above.cnt A c).mono (by decide)).add (Above.tally (k := 0) (by decide))).add (Above.tally (k := 0) (by decide))).add (Above.tally (k := 0) (by decide))

theorem mayOwe (c : Dev nD) (k : Fin 8) {b : ℕ} {O : CellTallies nD τ sig Unit} (hO : Above b O) (hk : lvn k.val ≤ b) :
    (levAts L lv : sProp 𝕄) ⊢ MayOwe (c : Thread nD τ) {(sm k, ())} O :=
  MayOwe.of_cut (L := L) (lev := lv) b (fun p hp => by rw [Finset.mem_singleton.mp hp, L_tc]; exact Finset.mem_singleton_self _)
    (fun g u hg => by unfold L; rw [if_pos (hO g u hg).2]; exact Finset.mem_singleton_self _)
    (fun p hp => by rw [Finset.mem_singleton.mp hp]; exact (lv_cell c k ()).le.trans hk)
    (fun g u hg => (hO g u hg).1)

/-- Paying for row `n`. -/
theorem owedRows_succ (c : Dev nD) (i : Fin 2048) : A.owedRows c i.val
    = A.owedRows c (i.val + 1) + if A.D c i ≠ zr c then tallyAt (cell (peer c (A.D c i)) 4) () Nrow else 0 := by
  unfold Inp.owedRows
  rw [← Finset.sum_erase_add Finset.univ _ (Finset.mem_univ i), ← Finset.sum_erase_add Finset.univ (fun j : Fin 2048 => if i.val + 1 ≤ j.val ∧ _ then _ else _) (Finset.mem_univ i)]
  rw [if_neg (show ¬ (i.val + 1 ≤ i.val ∧ A.D c i ≠ zr c) from fun h => by omega), add_zero]
  refine congrArg₂ _ (Finset.sum_congr rfl fun j hj => ?_) (by simp only [le_refl, true_and])
  have hne : j.val ≠ i.val := fun h => (Finset.ne_of_mem_erase hj) (Fin.ext h)
  exact if_congr (and_congr_left' (by omega)) rfl rfl

theorem owedRows_end (c : Dev nD) : A.owedRows c 2048 = 0 := by
  unfold Inp.owedRows
  exact Finset.sum_eq_zero fun i _ => if_neg fun h => by have := i.isLt; omega

end Cert.Proof
-- ==== Proof.Drain.lean ====
/- Waiting on a semaphore many payments of one size arrive on: what a device holds after some of the waits, one wait
   more, and the end, when every payment has come. -/
module

public import proofs.«01_k».proof.Proof.Setup

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

abbrev 𝒱₀ : Variants := Variants.none

/-- A part of a conjunction and its rest. -/
theorem bigSep_rejoin {ι : Type} [DecidableEq ι] {M : Type} [URA M] {S T : Finset ι} (h : T ⊆ S) (Φ : ι → sProp M) :
    iprop(bigSep T Φ ∗ bigSep (S \ T) Φ) ⊢ bigSep S Φ :=
  Entails.of_eq (by
    conv_rhs => rw [← Finset.union_sdiff_of_subset h, bigSep_union Finset.disjoint_sdiff]
    rfl)

theorem bigSep_part {ι : Type} [DecidableEq ι] {M : Type} [URA M] {S T : Finset ι} (h : T ⊆ S) (Φ : ι → sProp M) :
    bigSep S Φ ⊢ iprop(bigSep T Φ ∗ bigSep (S \ T) Φ) :=
  Entails.of_eq (by
    conv_lhs => rw [← Finset.union_sdiff_of_subset h, bigSep_union Finset.disjoint_sdiff]
    rfl)

variable (A : Inp F)

/-- The shared record of the semaphore. -/
abbrev Inp.inv (K : GSem nD τ sig → ℕ) (c : Dev nD) (k : Fin 8) : sProp 𝕄 := cellInv ER A.rd (K (cell c k)) (cell c k)

/-- After `w` waits, with the right to `e` more: some payments have come. -/
def Inp.drain (c : Dev nD) (k : Fin 8) (w e : ℕ) : sProp 𝕄 :=
  iprop(∃ T : Finset Dt, ⌜T ⊆ A.duty c k.val ∧ w * amt k.val + (A.duty c k.val \ T).card ≤ (A.duty c k.val).card * amt k.val⌝
    ∗ atPos ER (cell c k) 0 T (w * amt k.val) ∗ (bigSep T fun d => A.pay c d k.val) ∗ cred (tallyAt (cell c k) () (e * amt k.val)))

theorem drain_start (c : Dev nD) (k : Fin 8) (e : ℕ) :
    iprop(atPos ER (cell c k) 0 ∅ 0 ∗ cred (tallyAt (cell c k) () (e * amt k.val))) ⊢ A.drain c k 0 e := by
  unfold Inp.drain
  iintro ⟨Ha, Hc⟩
  iexists ∅
  isplitr
  · ipureintro
    refine ⟨Finset.empty_subset _, ?_⟩
    rw [Nat.zero_mul, Nat.zero_add, Finset.sdiff_empty]
    exact Nat.le_mul_of_pos_right _ (amt_pos _)
  rw [Nat.zero_mul]
  isplitl [Ha]; · iexact Ha
  isplitr
  · rw [bigSep_empty]; iempintro
  iexact Hc

theorem drain_start0 (c : Dev nD) (k : Fin 8) : (atPos ER (cell c k) 0 ∅ 0 : sProp 𝕄) ⊢ A.drain c k 0 0 := by
  iintro Ha
  iapply (drain_start A c k 0)
  isplitl [Ha]; · iexact Ha
  rw [Nat.zero_mul, tallyAt_zero, cred_zero]
  iempintro

/-- The right to one more wait. -/
theorem drain_cred (c : Dev nD) (k : Fin 8) (w e : ℕ) :
    iprop(A.drain c k w e ∗ cred (tallyAt (cell c k) () (amt k.val))) ⊢ A.drain c k w (e + 1) := by
  unfold Inp.drain
  iintro ⟨⟨%T, %hT, Ha, HT, Hc⟩, Hn⟩
  iexists T
  isplitr; · ipureintro; exact hT
  isplitl [Ha]; · iexact Ha
  isplitl [HT]; · iexact HT
  rw [Nat.add_mul, Nat.one_mul, ← tallyAt_add]
  iapply (cred_add _ _).2
  isplitl [Hc] <;> iassumption

/-- A wait for `j` payments' worth at once. -/
theorem drain_waits (K : GSem nD τ sig → ℕ) (c : Dev nD) (k : Fin 8) (w e : ℕ) {j : ℕ} (hj : 0 < j) {b : ℕ} {O : CellTallies nD τ sig Unit} (hO : Above b O)
    (hk : lvn k.val ≤ b) {α : Type} {op : TpuEff nD τ sig (Elt F) Λ₀ .tc PUnit} {n : ℕ} (hn : n = j * amt k.val)
    (hw : ∀ Q : PUnit → sProp 𝕄, wpE (defs₀ (F := F)) 𝒱₀ (c : Thread nD τ) none Set.univ op Q = waitSpec (c : Thread nD τ) Set.univ (sm k) n Q)
    (kk : PUnit → Prog (TpuEff nD τ sig (Elt F) Λ₀ .tc) α) (Q : α → sProp 𝕄) :
    iprop(A.inv K c k ∗ levAts L lv ∗ A.drain c k w (e + j) ∗ (∃ W, owes (c : Thread nD τ) O W))
      ⊢ iprop(((A.drain c k (w + j) e ∗ ∃ W, owes (c : Thread nD τ) O W) -∗ wp frame (wpE (defs₀ (F := F)) 𝒱₀ c none) Set.univ (kk ⟨⟩) Q)
        -∗ wp frame (wpE (defs₀ (F := F)) 𝒱₀ c none) Set.univ (.op op kk) Q) := by
  subst hn
  unfold Inp.drain
  iintro ⟨#HI, #Hlev, ⟨%T, %hT, Ha, HT, Hc⟩, ⟨%W, HO⟩⟩ Hk
  rw [Nat.add_mul e, ← tallyAt_add]
  ihave Hc2 := (cred_add _ _).1 $$ Hc
  icases Hc2 with ⟨Hc, Hc1⟩
  iapply (Rounds.wp_wait 𝒱₀ ER A.rd (c : Thread nD τ) none (κ := K (cell c k)) hw (Set.mem_univ _) (cr := Finsupp.single () (j * amt k.val)) (O := O) (W := W)
      {(sm k, ())} (R := 0) (m := w * amt k.val) (T := T) (by simp) (by
        rw [Finsupp.support_single_ne_zero _ (Nat.mul_pos hj (amt_pos _)).ne', Finset.image_singleton])) $$ [HO Ha Hc1]
  · isplitr; · iexact HI
    isplitl [Hc1]; · iexact Hc1
    isplitl [HO]; · iexact HO
    isplitr; · iapply (mayOwe c k hO hk); iexact Hlev
    iexact Ha
  iintro %S ⟨%hS, HO, Ha, HS⟩
  iapply Hk
  isplitr [HO]
  · iexists S
    rw [duties_cell, expect_cell] at hS
    isplitr
    · ipureintro
      refine ⟨hS.2.1, ?_⟩
      rw [Nat.add_mul]
      exact hS.2.2
    isplitl [Ha]
    · rw [Nat.add_mul w]; iexact Ha
    isplitl [HT HS]
    · rw [show (fun d => A.rd.payload (cell c k) 0 d) = fun d => A.pay c d k.val from funext fun d => payload_cell A c k d]
      iapply (bigSep_rejoin hS.1 fun d => A.pay c d k.val)
      isplitl [HT] <;> iassumption
    iexact Hc
  iexists _; iexact HO

/-- One wait. -/
theorem drain_wait (K : GSem nD τ sig → ℕ) (c : Dev nD) (k : Fin 8) (w e : ℕ) {b : ℕ} {O : CellTallies nD τ sig Unit} (hO : Above b O)
    (hk : lvn k.val ≤ b) {α : Type} {op : TpuEff nD τ sig (Elt F) Λ₀ .tc PUnit} {n : ℕ} (hn : n = amt k.val)
    (hw : ∀ Q : PUnit → sProp 𝕄, wpE (defs₀ (F := F)) 𝒱₀ (c : Thread nD τ) none Set.univ op Q = waitSpec (c : Thread nD τ) Set.univ (sm k) n Q)
    (kk : PUnit → Prog (TpuEff nD τ sig (Elt F) Λ₀ .tc) α) (Q : α → sProp 𝕄) :
    iprop(A.inv K c k ∗ levAts L lv ∗ A.drain c k w (e + 1) ∗ (∃ W, owes (c : Thread nD τ) O W))
      ⊢ iprop(((A.drain c k (w + 1) e ∗ ∃ W, owes (c : Thread nD τ) O W) -∗ wp frame (wpE (defs₀ (F := F)) 𝒱₀ c none) Set.univ (kk ⟨⟩) Q)
        -∗ wp frame (wpE (defs₀ (F := F)) 𝒱₀ c none) Set.univ (.op op kk) Q) := by
  exact drain_waits A K c k w e Nat.one_pos hO hk (hn.trans (Nat.one_mul _).symm) hw kk Q

/-- When every payment has been waited for they are all here, and the semaphore is at zero. -/
theorem drain_end (K : GSem nD τ sig → ℕ) (c : Dev nD) (k : Fin 8) (w e : ℕ) (h : w = (A.duty c k.val).card) :
    iprop(A.inv K c k ∗ A.drain c k w e) ⊢ (|={Set.univ}=> (semVal (cell c k) 0 ∗ bigSep (A.duty c k.val) fun d => A.pay c d k.val) : sProp 𝕄) := by
  subst h
  unfold Inp.drain
  iintro ⟨#HI, ⟨%T, %hT, Ha, HT, -⟩⟩
  have hTe : T = A.duty c k.val := by
    refine Finset.Subset.antisymm hT.1 ?_
    have := hT.2
    have h0 : (A.duty c k.val \ T).card = 0 := by omega
    exact Finset.sdiff_eq_empty_iff_subset.mp (Finset.card_eq_zero.mp h0)
  subst hTe
  imod (Rounds.fupd_skip ER A.rd (κ := K (cell c k)) (g := cell c k) (R := 0) (by rw [duties_cell]) (expect_cell A c k).symm (Set.mem_univ _)) $$ [Ha] with ⟨Ha, -⟩
  · isplitr; · iexact HI
    iexact Ha
  imod (Rounds.cell_close ER A.rd (κ := K (cell c k)) (g := cell c k) (Set.mem_univ _) id (R := 0 + 1) (duties_later A _)) $$ [Ha] with Hv
  · isplitr; · iexact HI
    iexact Ha
  imodintro
  isplitl [Hv] <;> iassumption

end Cert.Proof
-- ==== Proof.Rows.lean ====
/- Rows as views: which elements a one-row view has, what a copied row holds, and the whole buffer as its rows. -/
module

public import proofs.«01_k».proof.Proof.Drain

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

theorem mem_rowSet {n : ℕ} {x : S2048x1024.Idx} : x ∈ rowSet n ↔ (x 0).val = n := by
  unfold rowSet; simp only [Finset.mem_filter, Finset.mem_univ, true_and]

theorem mem_crowSet {n : ℕ} {x : S4x128.Idx} : x ∈ crowSet n ↔ (x 0).val = n := by
  unfold crowSet; simp only [Finset.mem_filter, Finset.mem_univ, true_and]

theorem unit_row {o : Fin 2 → ℕ} {h : ∀ a, o a + S1x1024.size a ≤ S2048x1024.size a} {n : ℕ} (h0 : o 0 = n) (h1 : o 1 = 0) :
    (Rect.unit (s := S2048x1024) o S1x1024.size h).set = rowSet n := by
  ext x
  rw [Rect.mem_set_unit, mem_rowSet]
  constructor
  · intro hx
    have h2 := hx 0
    have e : S1x1024.size 0 = 1 := rfl
    rw [e] at h2
    omega
  · intro hx a
    have : ∀ b : Fin 2, o b ≤ (x b).val ∧ (x b).val < o b + S1x1024.size b := by
      intro b
      match b with
      | 0 =>
        have e : S1x1024.size 0 = 1 := rfl
        rw [e]; omega
      | 1 =>
        have e : S1x1024.size 1 = 1024 := rfl
        have hl : (x 1).val < 1024 := (x 1).isLt
        rw [e]; omega
    exact this a

theorem set_xrow {o : Fin 2 → ℕ} {h : ∀ a, o a + S1x1024.size a ≤ S2048x1024.size a} {n : ℕ} (h0 : o 0 = n) (h1 : o 1 = 0) :
    (rowOf xM o h).view.set = rowSet n := (View.set_slice_whole cc0_stg0_0 _).trans (unit_row h0 h1)

theorem set_orow {o : Fin 2 → ℕ} {h : ∀ a, o a + S1x1024.size a ≤ S2048x1024.size a} {n : ℕ} (h0 : o 0 = n) (h1 : o 1 = 0) :
    (rowOf oM o h).view.set = rowSet n := (View.set_slice_whole cc0_stg2_0 _).trans (unit_row h0 h1)

theorem at2_self (x : S2048x1024.Idx) : at2 (x 0) (x 1) = x := by
  funext a
  match a with
  | 0 => rfl
  | 1 => rfl

/-- A row copied from row `n` to row `p`. -/
theorem copied_row {o o' : Fin 2 → ℕ} {h : ∀ a, o a + S1x1024.size a ≤ S2048x1024.size a} {h' : ∀ a, o' a + S1x1024.size a ≤ S2048x1024.size a}
    {n : Fin 2048} {p : ℕ} (h0 : o 0 = n.val) (h1 : o 1 = 0) (h0' : o' 0 = p) (h1' : o' 1 = 0)
    (fs : (cc0_stg0_0 : Ref sig .tc).ty.Contents (Elt F)) (fd : (cc0_stg2_0 : Ref sig .tc).ty.Contents (Elt F)) (x : S2048x1024.Idx) (hx : x ∈ rowSet p) :
    (rowOf oM o' h').view.write (Elt F) fd ((rowOf xM o h).view.read (Elt F) fs) Finset.univ x = fs (at2 n (x 1)) := by
  have e : (rowOf oM o' h').view.emb (fun a => Fin.cases (motive := fun a : Fin 2 => Fin (S1x1024.size a)) (0 : Fin 1)
      (fun b => Fin.cases (motive := fun b : Fin 1 => Fin (S1x1024.size b.succ)) (⟨(x 1).val, (x 1).isLt⟩ : Fin 1024) (fun e => e.elim0) b) a) = x := by
    have hx' := mem_rowSet.mp hx
    funext a
    match a with
    | 0 =>
      refine Fin.ext ?_
      show o' 0 + 1 * 0 = (x 0).val
      omega
    | 1 =>
      refine Fin.ext ?_
      show o' 1 + 1 * (x 1).val = (x 1).val
      omega
  conv_lhs => rw [← e]
  rw [View.write_emb_of_mem _ _ (Finset.mem_univ _)]
  show fs _ = fs _
  refine congrArg fs ?_
  funext a
  match a with
  | 0 =>
    refine Fin.ext ?_
    show o 0 + 1 * 0 = n.val
    omega
  | 1 =>
    refine Fin.ext ?_
    show o 1 + 1 * (x 1).val = (x 1).val
    omega

variable (A : Inp F)

/-- The result at the place of a row is that row. -/
theorem G_place (p : Dev nD) (s : Fin 4) (i : Fin 2048) (h : A.D (peer p s) i = zr p) (x : S2048x1024.Idx) (hx : x ∈ rowSet ((grp A.D p).pos s i)) :
    A.G p x = A.X (peer p s) (at2 i (x 1)) := by
  have hd : grp A.D p s i = zr p := h
  have e : x 0 = ⟨(grp A.D p).pos s i, Dest.pos_lt (A.bal p) s i⟩ := Fin.ext (mem_rowSet.mp hx)
  have e2 : Dest.src (A.bal p) (zr p) (x 0) = (s, i) := by
    rw [e, ← hd]; exact Dest.src_pos (A.bal p) s i
  unfold Inp.G
  rw [e2]

theorem rowSet_disjoint {n n' : ℕ} (h : n ≠ n') : Disjoint (rowSet n) (rowSet n') :=
  Finset.disjoint_left.mpr fun x hx hx' => h ((mem_rowSet.mp hx).symm.trans (mem_rowSet.mp hx'))

theorem crowSet_disjoint {n n' : ℕ} (h : n ≠ n') : Disjoint (crowSet n) (crowSet n') :=
  Finset.disjoint_left.mpr fun x hx hx' => h ((mem_crowSet.mp hx).symm.trans (mem_crowSet.mp hx'))

theorem rows_univ : (Finset.univ : Finset (Fin 2048)).biUnion (fun i => rowSet i.val) = Finset.univ := by
  ext x
  simp only [Finset.mem_biUnion, Finset.mem_univ, true_and, iff_true]
  exact ⟨x 0, mem_rowSet.mpr rfl⟩

theorem crows_univ : (Finset.univ : Finset (Fin 4)).biUnion (fun i => crowSet i.val) = Finset.univ := by
  ext x
  simp only [Finset.mem_biUnion, Finset.mem_univ, true_and, iff_true]
  exact ⟨x 0, mem_crowSet.mpr rfl⟩

theorem places_univ (c : Dev nD) : ((grp A.D c).rowsTo (zr c)).biUnion (fun d => rowSet ((grp A.D c).pos d.1 d.2)) = Finset.univ := by
  ext x
  simp only [Finset.mem_biUnion, Finset.mem_univ, iff_true]
  obtain ⟨d, hd, hp⟩ := Dest.exists_src (A.bal c) (zr c) (x 0)
  exact ⟨d, Dest.mem_rowsTo.mpr hd, mem_rowSet.mpr hp.symm⟩

/-- The rows' buffer is its rows. -/
theorem xrows (c : Dev nD) (f : (cc0_stg0_0 : Ref sig .tc).ty.Contents (Elt F)) :
    ((c : Thread nD τ).loc cc0_stg0_0 ↦{fullShare} f : sProp 𝕄) = bigSep Finset.univ fun i : Fin 2048 => xrow c i.val f := by
  have h := pointsTo_biUnion (nD := nD) (τ := τ) (sig := sig) (Ix := Unit) (Val := Elt F) (Name := ℕ) (U := UU) (Lvl := ℕ)
    (ℓ := (c : Thread nD τ).loc cc0_stg0_0) (q := fullShare) (f := f) (Finset.univ : Finset (Fin 2048)) (fun i => rowSet i.val)
    (fun i _ j _ hij => rowSet_disjoint fun h => hij (Fin.ext h))
  rw [← h, show (Finset.univ : Finset (Fin 2048)).biUnion (fun i => rowSet i.val) = Finset.univ from rows_univ]

/-- The counts' buffer is its rows. -/
theorem crows (c : Dev nD) (q : PosShare TreeShare) (f : (cc0_scratch0 : Ref sig .tc).ty.Contents (Elt F)) :
    ((c : Thread nD τ).loc cc0_scratch0 ↦{q} f : sProp 𝕄) = bigSep Finset.univ fun i : Fin 4 => crow q c i.val f := by
  have h := pointsTo_biUnion (nD := nD) (τ := τ) (sig := sig) (Ix := Unit) (Val := Elt F) (Name := ℕ) (U := UU) (Lvl := ℕ)
    (ℓ := (c : Thread nD τ).loc cc0_scratch0) (q := q) (f := f) (Finset.univ : Finset (Fin 4)) (fun i => crowSet i.val)
    (fun i _ j _ hij => crowSet_disjoint fun h => hij (Fin.ext h))
  rw [← h, show (Finset.univ : Finset (Fin 4)).biUnion (fun i => crowSet i.val) = Finset.univ from crows_univ]

/-- The result's buffer is the places of the rows bound for the device. -/
theorem orows (c : Dev nD) (f : (cc0_stg2_0 : Ref sig .tc).ty.Contents (Elt F)) :
    ((c : Thread nD τ).loc cc0_stg2_0 ↦{fullShare} f : sProp 𝕄) = bigSep ((grp A.D c).rowsTo (zr c)) fun d => orow c ((grp A.D c).pos d.1 d.2) f := by
  have h := pointsTo_biUnion (nD := nD) (τ := τ) (sig := sig) (Ix := Unit) (Val := Elt F) (Name := ℕ) (U := UU) (Lvl := ℕ)
    (ℓ := (c : Thread nD τ).loc cc0_stg2_0) (q := fullShare) (f := f) ((grp A.D c).rowsTo (zr c)) (fun d => rowSet ((grp A.D c).pos d.1 d.2))
    (fun d hd e he hde => rowSet_disjoint fun h => hde (by
      obtain ⟨h1, h2⟩ := Dest.pos_inj (D := grp A.D c) ((Dest.mem_rowsTo.mp hd).trans (Dest.mem_rowsTo.mp he).symm) h
      exact Prod.ext h1 h2))
  rw [← h, show ((grp A.D c).rowsTo (zr c)).biUnion (fun d => rowSet ((grp A.D c).pos d.1 d.2)) = Finset.univ from places_univ A c]

end Cert.Proof
-- ==== Proof.Words.lean ====
/- The words the kernel computes with: places, destinations, counters. -/
module

public import proofs.«01_k».proof.Proof.Setup
public import Idealize.ShloMosaic.Lib.WordCmp

@[expose] public section

noncomputable section

namespace Cert.Proof

open Idealize.ShloMosaic Idealize.ShloMosaic.TcCoe
open Cert.KernelIdeal Cert.KernelIdeal.Gen

/-- A natural as a word. -/
abbrev wd (n : ℕ) : BitVec 32 := BitVec.ofNat 32 n

/-- The device's own place, as the kernel computes it. -/
theorem place_word : ∀ c : Dev nD, Scalar.remsi (Scalar.divsi (Dev.word c) 1#32) 4#32 = wd (zr c).val := by decide

theorem cond_away : ∀ (c : Dev nD) (d : Fin 4), k0_cond1 c (wd d.val) = if d = zr c then 0#1 else 1#1 := by decide
theorem cond_here : ∀ (c : Dev nD) (d : Fin 4), k0_cond2 c (wd d.val) = if d = zr c then 1#1 else 0#1 := by decide
theorem dev_away : ∀ (c : Dev nD) (d : Fin 4), k0_dev7 c (wd d.val) = (peer c d).val := by decide
theorem is_away : ∀ d z : Fin 4, Scalar.extui (Scalar.cmpi .ne (wd d.val) (wd z.val)) = wd (if d = z then 0 else 1) := by decide

theorem dev1_eq : ∀ c : Dev nD, k0_dev1 c = (peer c (nxt c 1)).val := by decide
theorem dev2_eq : ∀ c : Dev nD, k0_dev2 c = (peer c (nxt c 2)).val := by decide
theorem dev3_eq : ∀ c : Dev nD, k0_dev3 c = (peer c (nxt c 3)).val := by decide
theorem dev4_eq : ∀ c : Dev nD, k0_dev4 c = (peer c (nxt c 1)).val := by decide
theorem dev5_eq : ∀ c : Dev nD, k0_dev5 c = (peer c (nxt c 2)).val := by decide
theorem dev6_eq : ∀ c : Dev nD, k0_dev6 c = (peer c (nxt c 3)).val := by decide

theorem wd_toNat {n : ℕ} (h : n < 4294967296) : (wd n).toNat = n := WordCmp.toNat_ofNat_of_lt h

theorem wd_add (a b : ℕ) : Scalar.addi (wd a) (wd b) = wd (a + b) := (BitVec.ofNat_add a b).symm

theorem wd_sub {a b : ℕ} (h : b ≤ a) (ha : a < 4294967296) : Scalar.subi (wd a) (wd b) = wd (a - b) := by
  show wd a - wd b = wd (a - b)
  apply BitVec.eq_of_toNat_eq
  rw [BitVec.toNat_sub, wd_toNat ha, wd_toNat (lt_of_le_of_lt h ha), wd_toNat (by omega)]
  omega

/-- A queue's length compared with 32. -/
theorem full_word {a : ℕ} (ha : a < 2147483648) : Scalar.extui (Scalar.cmpi .sge (wd a) 32#32) = wd (if 32 ≤ a then 1 else 0) := by
  show (IntOp.cmpi .sge (wd a) 32#32).setWidth 32 = _
  rw [WordCmp.cmpi_sge_eq, show (32#32 : BitVec 32) = wd 32 from rfl, WordCmp.toInt_ofNat_of_lt (w := 32) (a := 32) (by decide),
    WordCmp.toInt_ofNat_of_lt (w := 32) (a := a) ha]
  by_cases h : 32 ≤ a
  · rw [if_pos h, decide_eq_true (by exact_mod_cast h)]; rfl
  · rw [if_neg h, decide_eq_false (by exact_mod_cast h)]; rfl

theorem is_one {P : Prop} [Decidable P] : Scalar.cmpi .ne (Scalar.extui (Scalar.cmpi .eq (wd (if P then 1 else 0)) 1#32) : BitVec 32) 0#32 = if P then 1#1 else 0#1 := by
  split <;> decide

end Cert.Proof
-- ==== Proof.Tail.lean ====
/- The tail of a trip of the row loop: the counters after it, and the waits it makes. -/
module

public import proofs.«01_k».proof.Proof.Rows
public import proofs.«01_k».proof.Proof.Words

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- The wait for one sent row, and for one copied row. -/
def waitSent : TpuEff nD τ sig (Elt F) Λ₀ .tc PUnit :=
  .waitDma2 cc0_scratch6.sem (rowOf oM ![0, 0] inb_S2048x1024_S1x1024_0_0) (rowOf xM ![0, 0] inb_S2048x1024_S1x1024_0_0) (View.wordExact_bits rfl) (View.wordExact_bits rfl)
def waitOwn : TpuEff nD τ sig (Elt F) Λ₀ .tc PUnit :=
  .waitDma2 cc0_scratch8.sem (rowOf xM ![0, 0] inb_S2048x1024_S1x1024_0_0) (rowOf oM ![0, 0] inb_S2048x1024_S1x1024_0_0) (View.wordExact_bits rfl) (View.wordExact_bits rfl)

/-- Run `op` first where `p` holds. -/
def firstIf {α : Type} (p : Prop) [Decidable p] (op : TpuEff nD τ sig (Elt F) Λ₀ .tc PUnit) (k : Prog (TpuEff nD τ sig (Elt F) Λ₀ .tc) α) :
    Prog (TpuEff nD τ sig (Elt F) Λ₀ .tc) α := if p then .op op fun _ => k else k

theorem rowTail_eq {b ws e wo eo : ℕ} (hb : b ≤ 1) (h1 : ws + e ≤ 4096) (h2 : wo + eo ≤ 4096) {α : Type} (kk : Ctr → Prog (TpuEff nD τ sig (Elt F) Λ₀ .tc) α) :
    (rowTail (wd b) (wd (ws + e), wd ws, wd (wo + eo), wd wo) >>= kk)
      = firstIf (32 ≤ e + b) waitSent (firstIf (32 ≤ eo + (1 - b)) waitOwn
          (kk (wd (ws + e + b), wd (ws + if 32 ≤ e + b then 1 else 0), wd (wo + (eo + (1 - b))), wd (wo + if 32 ≤ eo + (1 - b) then 1 else 0)))) := by
  have e1 : Scalar.addi (wd (ws + e)) (wd b) = wd (ws + e + b) := wd_add _ _
  have e2 : Scalar.subi (Scalar.addi (wd (wo + eo)) 1#32) (wd b) = wd (wo + (eo + (1 - b))) := by
    rw [show (1#32 : BitVec 32) = wd 1 from rfl, wd_add, wd_sub (by omega) (by omega)]
    congr 1; omega
  have e3 : Scalar.subi (wd (ws + e + b)) (wd ws) = wd (e + b) := by
    rw [wd_sub (by omega) (by omega)]; congr 1; omega
  have e4 : Scalar.subi (wd (wo + (eo + (1 - b)))) (wd wo) = wd (eo + (1 - b)) := by
    rw [wd_sub (by omega) (by omega)]; congr 1; omega
  have e5 := full_word (a := e + b) (by omega)
  have e6 := full_word (a := eo + (1 - b)) (by omega)
  have e7 := wd_add ws (if 32 ≤ e + b then 1 else 0)
  have e8 := wd_add wo (if 32 ≤ eo + (1 - b) then 1 else 0)
  unfold rowTail
  simp only [e1, e2, e3, e4, e5, e6, is_one, e7, e8]
  unfold firstIf
  by_cases p : 32 ≤ e + b <;> by_cases q : 32 ≤ eo + (1 - b) <;> simp only [p, q, if_true, if_false] <;> rfl

variable (A : Inp F)

theorem wait_sent (c : Dev nD) (Q : PUnit → sProp 𝕄) :
    wpE (defs₀ (F := F)) 𝒱₀ (c : Thread nD τ) none Set.univ waitSent Q = waitSpec (c : Thread nD τ) Set.univ (sm 3) (amt 3) Q := by
  have e : sm 3 = .dma cc0_scratch6.sem := by decide
  rw [e]; unfold waitSent; exact wpE_waitDma2_eq 𝒱₀ (c : Thread nD τ) none Set.univ Q
theorem wait_own (c : Dev nD) (Q : PUnit → sProp 𝕄) :
    wpE (defs₀ (F := F)) 𝒱₀ (c : Thread nD τ) none Set.univ waitOwn Q = waitSpec (c : Thread nD τ) Set.univ (sm 5) (amt 5) Q := by
  have e : sm 5 = .dma cc0_scratch8.sem := by decide
  rw [e]; unfold waitOwn; exact wpE_waitDma2_eq 𝒱₀ (c : Thread nD τ) none Set.univ Q

/-- A wait made where the queue has 32. -/
theorem firstIf_run (K : GSem nD τ sig → ℕ) (c : Dev nD) (k : Fin 8) {w e : ℕ} {O : CellTallies nD τ sig Unit} (hO : Above 2 O)
    (hk : lvn k.val ≤ 2) {op : TpuEff nD τ sig (Elt F) Λ₀ .tc PUnit}
    (hw : ∀ Q : PUnit → sProp 𝕄, wpE (defs₀ (F := F)) 𝒱₀ (c : Thread nD τ) none Set.univ op Q = waitSpec (c : Thread nD τ) Set.univ (sm k) (amt k.val) Q)
    {α : Type} (kk : Prog (TpuEff nD τ sig (Elt F) Λ₀ .tc) α) (Q : α → sProp 𝕄) :
    iprop(A.inv K c k ∗ levAts L lv ∗ A.drain c k w e ∗ (∃ W, owes (c : Thread nD τ) O W))
      ⊢ iprop((∀ e', iprop(⌜(w + if 32 ≤ e then 1 else 0) + e' = w + e⌝ ∗ A.drain c k (w + if 32 ≤ e then 1 else 0) e'
            ∗ (∃ W, owes (c : Thread nD τ) O W)) -∗ wp frame (wpE (defs₀ (F := F)) 𝒱₀ c none) Set.univ kk Q)
        -∗ wp frame (wpE (defs₀ (F := F)) 𝒱₀ c none) Set.univ (firstIf (32 ≤ e) op kk) Q) := by
  unfold firstIf
  by_cases p : 32 ≤ e
  · obtain ⟨e', rfl⟩ : ∃ e', e = e' + 1 := ⟨e - 1, by omega⟩
    rw [if_pos p, if_pos p]
    iintro ⟨#H3, #Hl, D3, HO⟩ Hk
    iapply (drain_wait A K c k w e' hO hk rfl hw) $$ [D3 HO]
    · isplitr; · iexact H3
      isplitr; · iexact Hl
      isplitl [D3] <;> iassumption
    iintro ⟨D3, HO⟩
    iapply Hk $$ %e'
    isplitr; · ipureintro; omega
    isplitl [D3] <;> iassumption
  · rw [if_neg p, if_neg p]
    iintro ⟨#H3, #Hl, D3, HO⟩ Hk
    iapply Hk $$ %e
    isplitr; · ipureintro; rfl
    isplitl [D3]
    · rw [Nat.add_zero]; iexact D3
    iexact HO

/-- The tail of a trip. -/
theorem rowTail_run (K : GSem nD τ sig → ℕ) (c : Dev nD) {b ws e wo eo : ℕ} (hb : b ≤ 1) (h1 : ws + e ≤ 4096) (h2 : wo + eo ≤ 4096)
    {O : CellTallies nD τ sig Unit} (hO : Above 2 O) {α : Type} (kk : Ctr → Prog (TpuEff nD τ sig (Elt F) Λ₀ .tc) α) (Q : α → sProp 𝕄) :
    iprop(A.inv K c 3 ∗ A.inv K c 5 ∗ levAts L lv ∗ A.drain c 3 ws (e + b) ∗ A.drain c 5 wo (eo + (1 - b)) ∗ (∃ W, owes (c : Thread nD τ) O W))
      ⊢ iprop((∀ ws', ∀ e', ∀ wo', ∀ eo', iprop(⌜ws' + e' = ws + e + b ∧ wo' + eo' = wo + (eo + (1 - b))⌝ ∗ A.drain c 3 ws' e' ∗ A.drain c 5 wo' eo'
            ∗ (∃ W, owes (c : Thread nD τ) O W)) -∗ wp frame (wpE (defs₀ (F := F)) 𝒱₀ c none) Set.univ (kk (wd (ws' + e'), wd ws', wd (wo' + eo'), wd wo')) Q)
        -∗ wp frame (wpE (defs₀ (F := F)) 𝒱₀ c none) Set.univ (rowTail (wd b) (wd (ws + e), wd ws, wd (wo + eo), wd wo) >>= kk) Q) := by
  rw [rowTail_eq hb h1 h2]
  iintro ⟨#H3, #H5, #Hl, D3, D5, HO⟩ Hk
  iapply (firstIf_run A K c 3 hO (le_refl _) (wait_sent c)) $$ [D3 HO]
  · isplitr; · iexact H3
    isplitr; · iexact Hl
    isplitl [D3] <;> iassumption
  iintro %e' ⟨%he, D3, HO⟩
  iapply (firstIf_run A K c 5 hO (le_refl _) (wait_own c)) $$ [D5 HO]
  · isplitr; · iexact H5
    isplitr; · iexact Hl
    isplitl [D5] <;> iassumption
  iintro %f' ⟨%hf, D5, HO⟩
  rw [show ws + e + b = (ws + if 32 ≤ e + b then 1 else 0) + e' by omega, ← hf]
  iapply Hk $$ %_ %e' %_ %f'
  isplitr; · ipureintro; exact ⟨rfl, rfl⟩
  isplitl [D3]; · iassumption
  isplitl [D5] <;> iassumption

end Cert.Proof
-- ==== Proof.RowTrip.lean ====
/- One trip of the row loop: what a device holds before row `n` and after it. -/
module

public import proofs.«01_k».proof.Proof.Tail

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- One member of a conjunction and the others, both ways. -/
theorem bigSep_take {ι : Type} [DecidableEq ι] {M : Type} [URA M] {S : Finset ι} {i : ι} (h : i ∈ S) (Φ : ι → sProp M) :
    bigSep S Φ ⊢ iprop(Φ i ∗ bigSep (S.erase i) Φ) := Entails.of_eq (bigSep_erase h)
theorem bigSep_put {ι : Type} [DecidableEq ι] {M : Type} [URA M] {S : Finset ι} {i : ι} (h : i ∈ S) (Φ : ι → sProp M) :
    iprop(Φ i ∗ bigSep (S.erase i) Φ) ⊢ bigSep S Φ := Entails.of_eq (bigSep_erase h).symm

variable (A : Inp F)

/-! ## The tables in scalar memory -/

/-- The next place of each destination, after `n` rows. -/
def Inp.cur (c : Dev nD) (n : ℕ) : (cc0_scratch3 : Ref sig .tc).ty.Contents (Elt F) := fun x : S4.Idx =>
  (wd ((grp A.D c).base (zr c) (x 0) + (grp A.D c).cnt (zr c) (x 0) n) : BitVec 32)

theorem size_S1x1 (a : Fin 2) : S1x1.size a = 1 := by revert a; decide
theorem size_S1 (a : Fin 1) : S1.size a = 1 := by revert a; decide

theorem read_dest (c : Dev nD) (i : Fin 2048) {o : Fin 2 → ℕ} {h : ∀ a, o a + S1x1.size a ≤ S16x128.size a} (ho : o 0 * 128 + o 1 = i.val)
    (y : S1x1.Idx) : (tS.access (Rect.unit (s := S16x128) o S1x1.size h)).read (Elt F) (A.dw c) y = wd (A.D c i).val := by
  show wd (A.D c (lin _)).val = _
  refine congrArg (fun j => wd (A.D c j).val) (Fin.ext ?_)
  have h0 : (y 0).val < 1 := (y 0).isLt
  have h1 : (y 1).val < 1 := (y 1).isLt
  show (o 0 + 1 * (y 0).val) * 128 + (o 1 + 1 * (y 1).val) = i.val
  omega

theorem off4_wd (d : Fin 4) : k0_off4 (wd d.val) 0 = d.val := by revert d; decide

theorem read_cur (c : Dev nD) (n : ℕ) (d : Fin 4) {h : ∀ a, k0_off4 (wd d.val) a + S1.size a ≤ S4.size a} (y : S1.Idx) :
    (rS.access (Rect.unit (s := S4) (k0_off4 (wd d.val)) S1.size h)).read (Elt F) (A.cur c n) y
      = wd ((grp A.D c).base (zr c) d + (grp A.D c).cnt (zr c) d n) := by
  have e := off4_wd d
  have h0 : (y 0).val < 1 := (y 0).isLt
  have e2 : (rS.access (Rect.unit (s := S4) (k0_off4 (wd d.val)) S1.size h)).emb y 0 = d := Fin.ext (by
    show k0_off4 (wd d.val) 0 + 1 * (y 0).val = d.val
    omega)
  show A.cur c n ((rS.access (Rect.unit (s := S4) (k0_off4 (wd d.val)) S1.size h)).emb y) = _
  unfold Inp.cur
  rw [e2]

theorem write_cur (c : Dev nD) (i : Fin 2048) {h : ∀ a, k0_off4 (wd (A.D c i).val) a + S1.size a ≤ S4.size a} :
    (rS.access (Rect.unit (s := S4) (k0_off4 (wd (A.D c i).val)) S1.size h)).write (Elt F) (A.cur c i.val)
      (fun _ => Scalar.addi (wd ((grp A.D c).base (zr c) (A.D c i) + (grp A.D c).cnt (zr c) (A.D c i) i.val)) 1#32) Finset.univ = A.cur c (i.val + 1) := by
  have e := off4_wd (A.D c i)
  funext x
  have ex : ∀ y : S1.Idx, (rS.access (Rect.unit (s := S4) (k0_off4 (wd (A.D c i).val)) S1.size h)).emb y 0 = A.D c i := fun y => Fin.ext (by
    have h0 : (y 0).val < 1 := (y 0).isLt
    show k0_off4 (wd (A.D c i).val) 0 + 1 * (y 0).val = (A.D c i).val
    omega)
  by_cases hx : x 0 = A.D c i
  · let y : S1.Idx := fun a => ⟨0, by rw [size_S1]; exact Nat.one_pos⟩
    have ey : (rS.access (Rect.unit (s := S4) (k0_off4 (wd (A.D c i).val)) S1.size h)).emb y = x := by
      funext a
      match a with
      | 0 => exact (ex y).trans hx.symm
    conv_lhs => rw [← ey]
    rw [View.write_emb_of_mem _ _ (Finset.mem_univ y)]
    show Scalar.addi (wd ((grp A.D c).base (zr c) (A.D c i) + (grp A.D c).cnt (zr c) (A.D c i) i.val)) (wd 1) = A.cur c (i.val + 1) x
    unfold Inp.cur
    rw [hx, Dest.cnt_succ, if_pos (grp_own A.D c i), wd_add, Nat.add_assoc]
  · rw [View.write_of_not_mem]
    · unfold Inp.cur
      have e3 := (grp A.D c).cnt_succ (zr c) (x 0) i
      rw [if_neg (fun hh => hx ((grp_own A.D c i).symm.trans hh).symm), Nat.add_zero] at e3
      exact congrArg (fun n => wd ((grp A.D c).base (zr c) (x 0) + n)) e3.symm
    · intro hm
      obtain ⟨y, -, rfl⟩ := Finset.mem_map.mp hm
      exact hx (ex y)

/-! ## What a row needs -/

/-- The rights to pay for the row's arrival. -/
def Inp.rowTok (c : Dev nD) (i : Fin 2048) : sProp 𝕄 :=
  if A.D c i = zr c then dutyTok ER (cell c 5) 0 (zr c, i)
  else iprop(dutyTok ER (cell c 3) 0 (zr c, i) ∗ dutyTok ER (cell (peer c (A.D c i)) 4) 0 (zr c, i))

/-- A row not yet moved: its place at the receiver, the row itself, the rights. -/
def Inp.rowRes (c : Dev nD) (i : Fin 2048) : sProp 𝕄 :=
  iprop((∃ f, orow (peer c (A.D c i)) (A.place c i) f) ∗ xrow c i.val (A.X c) ∗ A.rowTok c i)

/-- The rows from `n` on. -/
def Inp.rowsFrom (c : Dev nD) (n : ℕ) : sProp 𝕄 := bigSep (Finset.univ.filter fun i : Fin 2048 => n ≤ i.val) (A.rowRes c)

theorem rowsFrom_succ (c : Dev nD) (i : Fin 2048) : A.rowsFrom c i.val ⊢ iprop(A.rowRes c i ∗ A.rowsFrom c (i.val + 1)) := by
  unfold Inp.rowsFrom
  have e : (Finset.univ.filter fun j : Fin 2048 => i.val + 1 ≤ j.val) = (Finset.univ.filter fun j : Fin 2048 => i.val ≤ j.val).erase i := by
    ext j
    simp only [Finset.mem_filter, Finset.mem_univ, true_and, Finset.mem_erase, ne_eq, Fin.ext_iff]
    omega
  rw [e]
  exact bigSep_take (i := i) (by simp) _

/-- The records every device reads. -/
def Inp.recs (K : GSem nD τ sig → ℕ) : sProp 𝕄 := iprop((∀ c, ∀ k, A.inv K c k) ∗ levAts L lv)

instance recs_persistent (K : GSem nD τ sig → ℕ) : BI.Persistent (A.recs K : sProp 𝕄) := by unfold Inp.recs; infer_instance

/-- What a device knows while it moves rows. -/
def Inp.rowKnow (K : GSem nD τ sig → ℕ) (c : Dev nD) : sProp 𝕄 :=
  iprop(A.recs K ∗ reached ER (cell c 3) 0 ∗ reached ER (cell c 5) 0 ∗ ∀ s, reached ER (cell (peer c s) 4) 0)

instance rowKnow_persistent (K : GSem nD τ sig → ℕ) (c : Dev nD) : BI.Persistent (A.rowKnow K c : sProp 𝕄) := by unfold Inp.rowKnow; infer_instance

/-- Before row `n`. -/
def Inp.rowState (c : Dev nD) (n : ℕ) (st : Ctr) : sProp 𝕄 :=
  iprop(∃ ws, ∃ e, ∃ wo, ∃ eo, ⌜ws + e + (wo + eo) = n ∧ wo + eo = (grp A.D c).cnt (zr c) (zr c) n ∧ st = (wd (ws + e), wd ws, wd (wo + eo), wd wo)⌝
    ∗ ((c : Thread nD τ).loc cc0_scratch2 ↦{fullShare} A.dw c) ∗ ((c : Thread nD τ).loc cc0_scratch3 ↦{fullShare} A.cur c n)
    ∗ A.drain c 3 ws e ∗ A.drain c 5 wo eo ∗ A.rowsFrom c n ∗ ∃ W, owes (c : Thread nD τ) (A.owedRows c n) W)

theorem off5_wd (n : ℕ) (h : n < 2048) : k0_off5 (wd n) 0 = n ∧ k0_off5 (wd n) 1 = 0 := ⟨wd_toNat (by omega), rfl⟩
theorem off7_wd (n : ℕ) (h : n < 2048) : k0_off7 (wd n) 0 = n ∧ k0_off7 (wd n) 1 = 0 := ⟨wd_toNat (by omega), rfl⟩

theorem chk1_dest (c : Dev nD) (d : Fin 4) : k0_chk1 c (wd d.val) := by
  refine ⟨fun a => ?_, fun _ => ?_⟩
  · match a with
    | 0 =>
      rw [off4_wd d]
      have := d.isLt
      show d.val + 1 ≤ 4
      omega
  · rw [dev_away]; exact (peer c d).isLt

theorem chk2_place (c : Dev nD) (d : Fin 4) (n : ℕ) (h : n < 2048) : k0_chk2 c (wd d.val) (wd n) := by
  refine ⟨fun _ a => ?_, fun _ a => ?_⟩
  · match a with
    | 0 => rw [(off5_wd n h).1]; show n + 1 ≤ 2048; omega
    | 1 => rw [(off5_wd n h).2]; show 0 + 1024 ≤ 1024; omega
  · match a with
    | 0 => rw [(off7_wd n h).1]; show n + 1 ≤ 2048; omega
    | 1 => rw [(off7_wd n h).2]; show 0 + 1024 ≤ 1024; omega

theorem place_lt (c : Dev nD) (i : Fin 2048) : A.place c i < 2048 := Dest.pos_lt (A.bal c) _ _

theorem place_eq (c : Dev nD) (i : Fin 2048) : A.place c i = (grp A.D c).base (zr c) (A.D c i) + (grp A.D c).cnt (zr c) (A.D c i) i.val := by
  unfold Inp.place Dest.pos
  rw [grp_own]

/-- A row that has arrived is the result's row. -/
theorem arrived (c : Dev nD) (i : Fin 2048) {o o' : Fin 2 → ℕ} {h : ∀ a, o a + S1x1024.size a ≤ S2048x1024.size a} {h' : ∀ a, o' a + S1x1024.size a ≤ S2048x1024.size a}
    (h0 : o 0 = i.val) (h1 : o 1 = 0) (h0' : o' 0 = A.place c i) (h1' : o' 1 = 0) (fd : (cc0_stg2_0 : Ref sig .tc).ty.Contents (Elt F)) (p : Dev nD)
    (hp : p = peer c (A.D c i)) :
    ((p : Thread nD τ).loc cc0_stg2_0 ↦[(rowOf oM o' h').view.set]{fullShare} ((rowOf oM o' h').view.write (Elt F) fd ((rowOf xM o h).view.read (Elt F) (A.X c)) Finset.univ) : sProp 𝕄)
      ⊢ orow p ((grp A.D p).pos (zr c) i) (A.G p) := by
  subst hp
  rw [set_orow h0' h1', grp_peer]
  refine Entails.of_eq (pointsTo_congr fun x hx => ?_)
  rw [copied_row h0 h1 h0' h1' _ _ x hx]
  have e := G_place A (peer c (A.D c i)) (zr c) i (by rw [peer_peer, peer_zr, zr_peer]) x (by rw [grp_peer]; exact hx)
  rw [e, peer_peer, peer_zr]

end Cert.Proof
-- ==== Proof.RowStep.lean ====
/- One trip of the row loop, run. -/
module

public import proofs.«01_k».proof.Proof.RowTrip

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- The copy of a row to the device it is bound for, and the copy of a row that stays. -/
def opAway (c : Dev nD) (w p : BitVec 32) (h1 : k0_chk1 c w) (h2 : k0_chk2 c w p) (oS : Fin 2 → ℕ) (hS : ∀ a, oS a + S1x1024.size a ≤ S2048x1024.size a)
    (h : k0_cond1 c w = 1#1) : TpuEff nD τ sig (Elt F) Λ₀ .tc PUnit :=
  .enqueueDma (rowOf xM oS hS) (.remote (Dev.tc (⟨k0_dev7 c w, k0_dev7_lt c w h1 h⟩ : Dev nD)) (rowOf oM (k0_off5 p) (k0_off5_inb c w p h2 h)) (.dma cc0_scratch6.sem)) (.dma cc0_scratch7.sem) (View.wordExact_bits rfl) (View.wordExact_bits rfl) ⟨⟨rfl, Or.inl rfl⟩, trivial⟩
def opHere (c : Dev nD) (w p : BitVec 32) (h2 : k0_chk2 c w p) (oS : Fin 2 → ℕ) (hS : ∀ a, oS a + S1x1024.size a ≤ S2048x1024.size a)
    (h : k0_cond2 c w = 1#1) : TpuEff nD τ sig (Elt F) Λ₀ .tc PUnit :=
  .enqueueDma (rowOf xM oS hS) (.here (rowOf oM (k0_off7 p) (k0_off7_inb c w p h2 h))) (.dma cc0_scratch8.sem) (View.wordExact_bits rfl) (View.wordExact_bits rfl) ⟨Or.inl rfl, trivial⟩

/-- The moves of a trip, and then `k`. -/
def moved {α : Type} (c : Dev nD) (w p : BitVec 32) (h1 : k0_chk1 c w) (h2 : k0_chk2 c w p) (oS : Fin 2 → ℕ) (hS : ∀ a, oS a + S1x1024.size a ≤ S2048x1024.size a)
    (k : Prog (TpuEff nD τ sig (Elt F) Λ₀ .tc) α) : Prog (TpuEff nD τ sig (Elt F) Λ₀ .tc) α := do
  if h : k0_cond1 c w = 1#1 then do
    Prog.lift (opAway c w p h1 h2 oS hS h)
    pure ⟨⟩
  else do
    pure ⟨⟩
  if h : k0_cond2 c w = 1#1 then do
    Prog.lift (opHere c w p h2 oS hS h)
    pure ⟨⟩
  else do
    pure ⟨⟩
  k

theorem moved_away {α : Type} (c : Dev nD) {d : Fin 4} (hd : d ≠ zr c) (p : BitVec 32) (h1 : k0_chk1 c (wd d.val)) (h2 : k0_chk2 c (wd d.val) p) (oS : Fin 2 → ℕ)
    (hS : ∀ a, oS a + S1x1024.size a ≤ S2048x1024.size a) (k : Prog (TpuEff nD τ sig (Elt F) Λ₀ .tc) α) :
    moved c (wd d.val) p h1 h2 oS hS k = .op (opAway c (wd d.val) p h1 h2 oS hS (by rw [cond_away, if_neg hd])) fun _ => k := by
  have e1 : k0_cond1 c (wd d.val) = 1#1 := by rw [cond_away, if_neg hd]
  have e2 : ¬ k0_cond2 c (wd d.val) = 1#1 := by rw [cond_here, if_neg hd]; decide
  unfold moved
  simp only [dif_pos e1, dif_neg e2]
  rfl

theorem moved_here {α : Type} (c : Dev nD) {d : Fin 4} (hd : d = zr c) (p : BitVec 32) (h1 : k0_chk1 c (wd d.val)) (h2 : k0_chk2 c (wd d.val) p) (oS : Fin 2 → ℕ)
    (hS : ∀ a, oS a + S1x1024.size a ≤ S2048x1024.size a) (k : Prog (TpuEff nD τ sig (Elt F) Λ₀ .tc) α) :
    moved c (wd d.val) p h1 h2 oS hS k = .op (opHere c (wd d.val) p h2 oS hS (by rw [cond_here, if_pos hd])) fun _ => k := by
  have e1 : ¬ k0_cond1 c (wd d.val) = 1#1 := by rw [cond_away, if_pos hd]; decide
  have e2 : k0_cond2 c (wd d.val) = 1#1 := by rw [cond_here, if_pos hd]
  unfold moved
  simp only [dif_neg e1, dif_pos e2]
  rfl

theorem moved_bind {α β : Type} (c : Dev nD) (w p : BitVec 32) (h1 : k0_chk1 c w) (h2 : k0_chk2 c w p) (oS : Fin 2 → ℕ)
    (hS : ∀ a, oS a + S1x1024.size a ≤ S2048x1024.size a) (k : Prog (TpuEff nD τ sig (Elt F) Λ₀ .tc) α) (kk : α → Prog (TpuEff nD τ sig (Elt F) Λ₀ .tc) β) :
    (moved c w p h1 h2 oS hS k >>= kk) = moved c w p h1 h2 oS hS (k >>= kk) := by
  unfold moved
  by_cases e1 : k0_cond1 c w = 1#1 <;> by_cases e2 : k0_cond2 c w = 1#1 <;> simp only [e1, e2, dif_pos, dif_neg, not_false_eq_true] <;> rfl

/-- The trip as its steps. -/
theorem rowTrip_eq {α : Type} (c : Dev nD) (v8 : BitVec 32) (oL : Fin 2 → ℕ) (hL : ∀ a, oL a + S1x1.size a ≤ S16x128.size a)
    (oS : Fin 2 → ℕ) (hS : ∀ a, oS a + S1x1024.size a ≤ S2048x1024.size a) (st : Ctr) (kk : Ctr → Prog (TpuEff nD τ sig (Elt F) Λ₀ .tc) α) :
    (rowTrip c v8 oL hL oS hS st >>= kk)
      = smemLoadElt tS (Rect.unit (s := S16x128) oL S1x1.size hL) (View.loads_smem_one rfl numel1_S1x1) (Shape.Idx.first (numel1_S1x1.symm ▸ Nat.one_pos)) fun (w : Elt F .i32) =>
        .op (.assume (k0_chk1 c w) (k0_chk1.dec c w)) fun h1 =>
        smemLoadElt rS (Rect.unit (s := S4) (k0_off4 w) S1.size (k0_off4_inb c w h1.down)) (View.loads_smem_one rfl numel1_S1) (Shape.Idx.first (numel1_S1.symm ▸ Nat.one_pos)) fun (p : Elt F .i32) =>
        .op (.assume (k0_chk2 c w p) (k0_chk2.dec c w p)) fun h2 =>
        smemLoadElt rS (Rect.unit (s := S4) (k0_off4 w) S1.size (k0_off4_inb c w h1.down)) (View.loads_smem_one rfl numel1_S1) (Shape.Idx.first (numel1_S1.symm ▸ Nat.one_pos)) fun (_ : Elt F .i32) =>
        .op (.store rS (Rect.unit (s := S4) (k0_off4 w) S1.size (k0_off4_inb c w h1.down)) (fun _ => Scalar.addi p 1#32) Finset.univ (View.stores_smem_one rfl numel1_S1) (.inl rfl)) fun _ =>
        moved c w p h1.down h2.down oS hS (rowTail (Scalar.extui (Scalar.cmpi .ne w v8)) st >>= kk) := by
  simp only [← moved_bind]
  rfl

variable (A : Inp F)

theorem duty3 (c : Dev nD) (i : Fin 2048) (h : A.D c i ≠ zr c) : (zr c, i) ∈ A.rd.duties (cell c 3) 0 := by
  rw [duties_cell]
  show _ ∈ Finset.univ.filter _
  simp [h]
theorem duty5 (c : Dev nD) (i : Fin 2048) (h : A.D c i = zr c) : (zr c, i) ∈ A.rd.duties (cell c 5) 0 := by
  rw [duties_cell]
  show _ ∈ Finset.univ.filter _
  simp [h]
theorem duty4 (c : Dev nD) (i : Fin 2048) (h : A.D c i ≠ zr c) : (zr c, i) ∈ A.rd.duties (cell (peer c (A.D c i)) 4) 0 := by
  rw [duties_cell]
  show _ ∈ Finset.univ.filter _
  simp only [Finset.mem_filter, Finset.mem_univ, true_and, zr_peer, peer_peer, peer_zr]
  exact ⟨fun e => h e.symm, trivial⟩

/-- A row's copy to device `q`, and one that stays, with the semaphores by their place in the list. -/
def opTo (q : Dev nD) (oS : Fin 2 → ℕ) (hS : ∀ a, oS a + S1x1024.size a ≤ S2048x1024.size a) (oD : Fin 2 → ℕ) (hD : ∀ a, oD a + S1x1024.size a ≤ S2048x1024.size a) :
    TpuEff nD τ sig (Elt F) Λ₀ .tc PUnit :=
  .enqueueDma (rowOf xM oS hS) (.remote (Dev.tc q) (rowOf oM oD hD) (sm 3)) (sm 4) (View.wordExact_bits rfl) (View.wordExact_bits rfl) ⟨⟨rfl, Or.inl rfl⟩, trivial⟩
def opIn (oS : Fin 2 → ℕ) (hS : ∀ a, oS a + S1x1024.size a ≤ S2048x1024.size a) (oD : Fin 2 → ℕ) (hD : ∀ a, oD a + S1x1024.size a ≤ S2048x1024.size a) :
    TpuEff nD τ sig (Elt F) Λ₀ .tc PUnit :=
  .enqueueDma (rowOf xM oS hS) (.here (rowOf oM oD hD)) (sm 5) (View.wordExact_bits rfl) (View.wordExact_bits rfl) ⟨Or.inl rfl, trivial⟩

theorem opAway_eq (c : Dev nD) (d : Fin 4) (p : BitVec 32) (h1 : k0_chk1 c (wd d.val)) (h2 : k0_chk2 c (wd d.val) p) (oS : Fin 2 → ℕ) (hS : ∀ a, oS a + S1x1024.size a ≤ S2048x1024.size a)
    (h : k0_cond1 c (wd d.val) = 1#1) :
    opAway (F := F) c (wd d.val) p h1 h2 oS hS h = opTo (peer c d) oS hS (k0_off5 p) (k0_off5_inb c _ p h2 h) := by
  have hdev : (⟨k0_dev7 c (wd d.val), k0_dev7_lt c _ h1 h⟩ : Dev nD) = peer c d := Fin.ext (dev_away c _)
  rw [← hdev]
  rfl
theorem opHere_eq (c : Dev nD) (d : Fin 4) (p : BitVec 32) (h2 : k0_chk2 c (wd d.val) p) (oS : Fin 2 → ℕ) (hS : ∀ a, oS a + S1x1024.size a ≤ S2048x1024.size a)
    (h : k0_cond2 c (wd d.val) = 1#1) :
    opHere (F := F) c (wd d.val) p h2 oS hS h = opIn oS hS (k0_off7 p) (k0_off7_inb c _ p h2 h) := rfl

theorem xback (c : Dev nD) {n : ℕ} {o : Fin 2 → ℕ} {h : ∀ a, o a + S1x1024.size a ≤ S2048x1024.size a} (h0 : o 0 = n) (h1 : o 1 = 0)
    (f : (cc0_stg0_0 : Ref sig .tc).ty.Contents (Elt F)) :
    ((c : Thread nD τ).loc cc0_stg0_0 ↦[(rowOf xM o h).view.set]{fullShare} f : sProp 𝕄) ⊢ xrow c n f :=
  Entails.of_eq (by rw [set_xrow h0 h1])

/-- The copy of row `i` to another device. -/
theorem away_run (K : GSem nD τ sig → ℕ) (c : Dev nD) (i : Fin 2048) (hd : A.D c i ≠ zr c) {oS oD : Fin 2 → ℕ} {hS : ∀ a, oS a + S1x1024.size a ≤ S2048x1024.size a}
    {hD : ∀ a, oD a + S1x1024.size a ≤ S2048x1024.size a} (h0 : oS 0 = i.val) (h1 : oS 1 = 0) (h0' : oD 0 = A.place c i) (h1' : oD 1 = 0)
    {W : Waits sig Unit} {α : Type} (k : PUnit → Prog (TpuEff nD τ sig (Elt F) Λ₀ .tc) α) (Q : α → sProp 𝕄) :
    iprop(A.rowKnow K c ∗ A.rowRes c i ∗ owes (c : Thread nD τ) (A.owedRows c i.val) W)
      ⊢ iprop(((cred (tallyAt (cell c 3) () (amt 3)) ∗ owes (c : Thread nD τ) (A.owedRows c (i.val + 1)) W) -∗ wp frame (wpE (defs₀ (F := F)) 𝒱₀ c none) Set.univ (k ⟨⟩) Q)
        -∗ wp frame (wpE (defs₀ (F := F)) 𝒱₀ c none) Set.univ (.op (opTo (peer c (A.D c i)) oS hS oD hD) k) Q) := by
  unfold Inp.rowKnow Inp.rowRes Inp.rowTok Inp.recs
  rw [if_neg hd]
  have hO : A.owedRows c i.val = A.owedRows c (i.val + 1) + tallyAt (cell (peer c (A.D c i)) 4) () Nrow := by rw [owedRows_succ, if_pos hd]
  unfold opTo
  iintro ⟨⟨⟨#HI, -⟩, #R3, -, #R4⟩, ⟨⟨%f, Ho⟩, Hx, T3, T4⟩, HO⟩ Hk
  iapply (Rounds.wp_send_pointsTo 𝒱₀ ER A.rd (c : Thread nD τ) none (c' := (peer c (A.D c i) : Thread nD τ)) (src := rowOf xM oS hS)
      (dst := rowOf oM oD hD) (sS := sm 3) (sem := sm 4) (q := fullShare) (fs := A.X c)
      (κ₁ := K (cell c 3)) (κ₂ := K (cell (peer c (A.D c i)) 4)) (r₁ := 0) (r₂ := 0) (d₁ := (zr c, i)) (d₂ := (zr c, i)) (fd := f)
      (duty3 A c i hd) (duty4 A c i hd) () () Nrow rfl (amount_cell A c 3 _) (amount_cell A _ 4 _) (A.owedRows c (i.val + 1))
      hO (W := W)
      (by rw [payload_cell A c 3]; exact xback c h0 h1 _)
      (by
        rw [payload_cell A _ 4]
        exact arrived A c i h0 h1 h0' h1' f _ rfl)) $$ [Ho Hx HO T3 T4]
  · isplitr; · iapply HI $$ %c %3
    isplitr; · iapply HI $$ %_ %4
    isplitl [Hx]; · rw [set_xrow h0 h1]; iexact Hx
    isplitl [Ho]; · rw [set_orow h0' h1']; iexact Ho
    isplitl [HO]; · iexact HO
    isplitl [T3]; · iexact T3
    isplitr; · iexact R3
    isplitl [T4]; · iexact T4
    iapply R4
  iintro ⟨Hc, HO⟩
  iapply Hk
  isplitl [Hc]; · iexact Hc
  iexact HO

/-- The copy of row `i` where it stays on the device. -/
theorem here_run (K : GSem nD τ sig → ℕ) (c : Dev nD) (i : Fin 2048) (hd : A.D c i = zr c) {oS oD : Fin 2 → ℕ} {hS : ∀ a, oS a + S1x1024.size a ≤ S2048x1024.size a}
    {hD : ∀ a, oD a + S1x1024.size a ≤ S2048x1024.size a} (h0 : oS 0 = i.val) (h1 : oS 1 = 0) (h0' : oD 0 = A.place c i) (h1' : oD 1 = 0)
    {W : Waits sig Unit} {α : Type} (k : PUnit → Prog (TpuEff nD τ sig (Elt F) Λ₀ .tc) α) (Q : α → sProp 𝕄) :
    iprop(A.rowKnow K c ∗ A.rowRes c i ∗ owes (c : Thread nD τ) (A.owedRows c i.val) W)
      ⊢ iprop(((cred (tallyAt (cell c 5) () (amt 5)) ∗ owes (c : Thread nD τ) (A.owedRows c (i.val + 1)) W) -∗ wp frame (wpE (defs₀ (F := F)) 𝒱₀ c none) Set.univ (k ⟨⟩) Q)
        -∗ wp frame (wpE (defs₀ (F := F)) 𝒱₀ c none) Set.univ (.op (opIn oS hS oD hD) k) Q) := by
  have ho : A.owedRows c i.val = A.owedRows c (i.val + 1) := by rw [owedRows_succ, if_neg (fun h => h hd), add_zero]
  have hp : c = peer c (A.D c i) := by rw [hd, peer_zr]
  unfold Inp.rowKnow Inp.rowRes Inp.rowTok Inp.recs
  rw [if_pos hd, ← hp, ho]
  unfold opIn
  iintro ⟨⟨⟨#HI, -⟩, -, #R5, -⟩, ⟨⟨%f, Ho⟩, Hx, T5⟩, HO⟩ Hk
  iapply (Rounds.wp_copy_pointsTo 𝒱₀ ER A.rd (c : Thread nD τ) none (src := rowOf xM oS hS)
      (dst := rowOf oM oD hD) (sem := sm 5) (q := fullShare) (fs := A.X c) (fd := f) (r := 0) (d := (zr c, i))
      (κ := K (cell c 5)) (duty5 A c i hd) () Nrow rfl (amount_cell A c 5 _)
      (by
        rw [payload_cell A _ 5]
        refine BI.sep_mono (arrived A c i h0 h1 h0' h1' f _ hp) ?_
        exact xback c h0 h1 _)) $$ [Ho Hx T5]
  · isplitr; · iapply HI $$ %c %5
    isplitl [Hx]; · rw [set_xrow h0 h1]; iexact Hx
    isplitl [Ho]; · rw [set_orow h0' h1']; iexact Ho
    isplitl [T5]; · iexact T5
    iexact R5
  iintro Hc
  iapply Hk
  isplitl [Hc]; · iexact Hc
  iexact HO

/-- One trip. -/
theorem rowTrip_run (K : GSem nD τ sig → ℕ) (c : Dev nD) (i : Fin 2048) {oL oS : Fin 2 → ℕ} {hL : ∀ a, oL a + S1x1.size a ≤ S16x128.size a}
    {hS : ∀ a, oS a + S1x1024.size a ≤ S2048x1024.size a} (hoL : oL 0 * 128 + oL 1 = i.val) (h0 : oS 0 = i.val) (h1 : oS 1 = 0) (st : Ctr)
    {α : Type} (kk : Ctr → Prog (TpuEff nD τ sig (Elt F) Λ₀ .tc) α) (Q : α → sProp 𝕄) :
    iprop(A.rowKnow K c ∗ A.rowState c i.val st)
      ⊢ iprop((∀ st', A.rowState c (i.val + 1) st' -∗ wp frame (wpE (defs₀ (F := F)) 𝒱₀ c none) Set.univ (kk st') Q)
        -∗ wp frame (wpE (defs₀ (F := F)) 𝒱₀ c none) Set.univ (rowTrip c (wd (zr c).val) oL hL oS hS st >>= kk) Q) := by
  rw [rowTrip_eq]
  unfold Inp.rowState
  iintro ⟨#HK, ⟨%ws, %e, %wo, %eo, %hst, Ht, Hr, D3, D5, HR, ⟨%W, HO⟩⟩⟩ Hk
  obtain ⟨hn, hc, rfl⟩ := hst
  have hi := i.isLt
  -- the row's destination
  iapply (wp_smemLoadElt 𝒱₀ (c : Thread nD τ) none Set.univ (m := tS) (r := Rect.unit (s := S16x128) oL S1x1.size hL) (S := Finset.univ) (q := fullShare) (f := A.dw c) (Finset.subset_univ _)) $$ Ht
  iintro Ht
  rw [read_dest A c i hoL]
  iapply (wp_assume 𝒱₀ (c : Thread nD τ) none Set.univ (chk1_dest c (A.D c i)))
  iapply (wp_smemLoadElt 𝒱₀ (c : Thread nD τ) none Set.univ (m := rS) (r := Rect.unit (s := S4) (k0_off4 (wd (A.D c i).val)) S1.size (k0_off4_inb c _ (chk1_dest c (A.D c i)))) (S := Finset.univ) (q := fullShare) (f := A.cur c i.val) (Finset.subset_univ _)) $$ Hr
  iintro Hr
  rw [read_cur A c i.val (A.D c i), ← place_eq A c i]
  iapply (wp_assume 𝒱₀ (c : Thread nD τ) none Set.univ (chk2_place c (A.D c i) _ (place_lt A c i)))
  iapply (wp_smemLoadElt 𝒱₀ (c : Thread nD τ) none Set.univ (m := rS) (r := Rect.unit (s := S4) (k0_off4 (wd (A.D c i).val)) S1.size (k0_off4_inb c _ (chk1_dest c (A.D c i)))) (S := Finset.univ) (q := fullShare) (f := A.cur c i.val) (Finset.subset_univ _)) $$ Hr
  iintro Hr
  iapply (wp_store 𝒱₀ (c : Thread nD τ) none Set.univ (m := rS) (r := Rect.unit (s := S4) (k0_off4 (wd (A.D c i).val)) S1.size (k0_off4_inb c _ (chk1_dest c (A.D c i)))) (S := Finset.univ) (f := A.cur c i.val) (Finset.subset_univ _)) $$ Hr
  have ew : (rS.access (Rect.unit (s := S4) (k0_off4 (wd (A.D c i).val)) S1.size (k0_off4_inb c _ (chk1_dest c (A.D c i))))).write (Elt F) (A.cur c i.val)
      (fun _ => Scalar.addi (wd (A.place c i)) 1#32) Finset.univ = A.cur c (i.val + 1) := by rw [place_eq]; exact write_cur A c i
  rw [ew]
  iintro Hr
  -- the move
  ihave HR := (rowsFrom_succ A c i) $$ HR
  icases HR with ⟨Hi, HR⟩
  have hcs : (grp A.D c).cnt (zr c) (zr c) (i.val + 1) = (grp A.D c).cnt (zr c) (zr c) i.val + if A.D c i = zr c then 1 else 0 := by
    rw [Dest.cnt_succ, grp_own]
  rw [is_away]
  have ab : Above 2 (A.owedRows c (i.val + 1)) := Above.rows A c _
  have p5 := off5_wd (A.place c i) (place_lt A c i)
  have p7 := off7_wd (A.place c i) (place_lt A c i)
  by_cases hd : A.D c i = zr c
  · rw [if_pos hd] at hcs
    rw [moved_here c hd, opHere_eq, if_pos hd]
    iapply (here_run A K c i hd h0 h1 p7.1 p7.2 (W := W)) $$ [Hi HO]
    · isplitr; · iexact HK
      isplitl [Hi] <;> iassumption
    iintro ⟨Hc, HO⟩
    ihave D5 := (drain_cred A c 5 wo eo) $$ [D5 Hc]
    · isplitl [D5]; · iexact D5
      iexact Hc
    iapply (rowTail_run A K c (b := 0) (ws := ws) (e := e) (wo := wo) (eo := eo) (by omega) (by omega) (by omega) ab kk Q) $$ [D3 D5 HO]
    · unfold Inp.rowKnow Inp.recs
      icases HK with ⟨⟨#HI, #Hl⟩, -⟩
      isplitr; · iapply HI $$ %c %3
      isplitr; · iapply HI $$ %c %5
      isplitr; · iexact Hl
      isplitl [D3]; · iexact D3
      isplitl [D5]; · iexact D5
      iexists W; iexact HO
    iintro %ws' %e' %wo' %eo' ⟨%hh, D3, D5, HO⟩
    iapply Hk
    iexists ws', e', wo', eo'
    isplitr; · ipureintro; exact ⟨by omega, by omega, rfl⟩
    isplitl [Ht]; · iexact Ht
    isplitl [Hr]; · iexact Hr
    isplitl [D3]; · iexact D3
    isplitl [D5]; · iexact D5
    isplitl [HR]; · iexact HR
    iexact HO
  · rw [if_neg hd] at hcs
    rw [moved_away c hd, opAway_eq, if_neg hd]
    iapply (away_run A K c i hd h0 h1 p5.1 p5.2 (W := W)) $$ [Hi HO]
    · isplitr; · iexact HK
      isplitl [Hi] <;> iassumption
    iintro ⟨Hc, HO⟩
    ihave D3 := (drain_cred A c 3 ws e) $$ [D3 Hc]
    · isplitl [D3]; · iexact D3
      iexact Hc
    iapply (rowTail_run A K c (b := 1) (ws := ws) (e := e) (wo := wo) (eo := eo) (by omega) (by omega) (by omega) ab kk Q) $$ [D3 D5 HO]
    · unfold Inp.rowKnow Inp.recs
      icases HK with ⟨⟨#HI, #Hl⟩, -⟩
      isplitr; · iapply HI $$ %c %3
      isplitr; · iapply HI $$ %c %5
      isplitr; · iexact Hl
      isplitl [D3]; · iexact D3
      isplitl [D5]; · iexact D5
      iexists W; iexact HO
    iintro %ws' %e' %wo' %eo' ⟨%hh, D3, D5, HO⟩
    iapply Hk
    iexists ws', e', wo', eo'
    isplitr; · ipureintro; exact ⟨by omega, by omega, rfl⟩
    isplitl [Ht]; · iexact Ht
    isplitl [Hr]; · iexact Hr
    isplitl [D3]; · iexact D3
    isplitl [D5]; · iexact D5
    isplitl [HR]; · iexact HR
    iexact HO

end Cert.Proof
-- ==== Proof.RowLoop.lean ====
/- The row loop: one printed loop from its trips, and the sixteen printed loops in the two parts that hold them. -/
module

public import proofs.«01_k».proof.Proof.RowStep

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- A printed piece of the kernel at the buffers it works on. -/
abbrev atBufs {β : Sort*} (f : (arg0 : Memref sig .tc .vmem S2048x1024 .f32) → arg0.IsWhole → (arg1 : Memref sig .tc .vmem S16x128 .i32) → arg1.IsWhole
    → (arg2 : Memref sig .tc .vmem S2048x1024 .f32) → arg2.IsWhole → (arg3 : Memref sig .tc .vmem S4x128 .i32) → arg3.IsWhole
    → (arg4 : Memref sig .tc .smem S4x128 .i32) → arg4.IsWhole → (arg5 : Memref sig .tc .smem S16x128 .i32) → arg5.IsWhole
    → (arg6 : Memref sig .tc .smem S4 .i32) → arg6.IsWhole → DmaSems sig S_ → DmaSems sig S_ → DmaSems sig S_ → DmaSems sig S_ → DmaSems sig S_ → DmaSems sig S2 → β) : β :=
  f xM (Memref.isWhole_whole _) dM (Memref.isWhole_whole _) oM (Memref.isWhole_whole _) cM (Memref.isWhole_whole _) nS (Memref.isWhole_whole _)
    tS (Memref.isWhole_whole _) rS (Memref.isWhole_whole _) cc0_scratch4 cc0_scratch5 cc0_scratch6 cc0_scratch7 cc0_scratch8 cc0_scratch9

/-- A loop body whose trips are those of the rows from `128 r` on. -/
def RowShape (c : Dev nD) (r : ℕ) {m : ℕ} (body : Fin m → Ctr → Prog (TpuEff nD τ sig (Elt F) Λ₀ .tc) Ctr) : Prop :=
  ∃ (oL oS : Fin m → Fin 2 → ℕ) (hL : ∀ n, ∀ a, oL n a + S1x1.size a ≤ S16x128.size a) (hS : ∀ n, ∀ a, oS n a + S1x1024.size a ≤ S2048x1024.size a),
    (∀ n st, body n st = rowTrip c (wd (zr c).val) (oL n) (hL n) (oS n) (hS n) st) ∧ (∀ n, oL n = ![r, n.val]) ∧ ∀ n, oS n = ![n.val + 128 * r, 0]

variable (A : Inp F)

/-- One printed loop. -/
theorem rowLoop_run (K : GSem nD τ sig → ℕ) (c : Dev nD) (r : ℕ) (hr : r < 16) {l : Scf.Loop 32} (hl : l.trips = 128) {hok : l.OK} {init : Ctr}
    {body : Fin l.trips → Ctr → Prog (TpuEff nD τ sig (Elt F) Λ₀ .tc) Ctr} (hb : RowShape c r body)
    {α : Type} (kk : Ctr → Prog (TpuEff nD τ sig (Elt F) Λ₀ .tc) α) (Q : α → sProp 𝕄) :
    iprop(A.rowKnow K c ∗ A.rowState c (128 * r) init)
      ⊢ iprop((∀ st, A.rowState c (128 * (r + 1)) st -∗ wp frame (wpE (defs₀ (F := F)) 𝒱₀ c none) Set.univ (kk st) Q)
        -∗ wp frame (wpE (defs₀ (F := F)) 𝒱₀ c none) Set.univ (Scf.Loop.for l hok init body >>= kk) Q) := by
  obtain ⟨oL, oS, hL, hS, hbody, eL, eS⟩ := hb
  iintro ⟨#HK, HS⟩ Hk
  iapply (Scf.wp_for_bind frame (wpE (defs₀ (F := F)) 𝒱₀ (c : Thread nD τ) none) Set.univ l.lb l.ub l.st hok init body
    (I := fun n st => iprop(A.rowKnow K c ∗ A.rowState c (128 * r + n) st)) (kk := kk) (Q := Q) (fun n st => by
      have hn : n.val < 128 := hl ▸ n.isLt
      rw [hbody]
      iintro ⟨#HK, HS⟩
      rw [← Idealize.SL.Sem.Prog.bind_pure (rowTrip _ _ _ _ _ _ _)]
      iapply (rowTrip_run A K c ⟨128 * r + n.val, by omega⟩ (by rw [eL]; show r * 128 + n.val = 128 * r + n.val; omega)
        (by rw [eS]; show n.val + 128 * r = 128 * r + n.val; omega) (by rw [eS]; rfl) st) $$ [HS]
      · isplitr; · iexact HK
        iexact HS
      iintro %st' HS
      iapply (Entails.of_eq (wp_ret frame (wpE (defs₀ (F := F)) 𝒱₀ (c : Thread nD τ) none) Set.univ st' _).symm)
      imodintro
      isplitr; · iexact HK
      iexact HS)) $$ [HS]
  · isplitr; · iexact HK
    iexact HS
  iintro %st HS
  icases HS with ⟨-, HS⟩
  iapply Hk
  rw [show 128 * (r + 1) = 128 * r + Scf.trips l.lb l.ub l.st from by have : Scf.trips l.lb l.ub l.st = 128 := hl; omega]
  iexact HS

section Printed

variable (c : Dev nD) (v2 v5 v222 : BitVec 32) (v223 : BitVec 1) (v224 : Elt F .i32) (k w0 w1 w2 w3 : BitVec 32)

theorem shape1 : RowShape (F := F) c 0 (atBufs k0_t1_body c v2 v5 (wd (zr c).val) v222 v223 v224 k) :=
  ⟨k0_off3, k0_off6, k0_off3_inb, k0_off6_inb, fun _ _ => rfl, k0_off3_eq, k0_off6_eq⟩
theorem shape2 : RowShape (F := F) c 1 (atBufs k0_t2_body c v2 v5 (wd (zr c).val) v222 v223 v224 k) :=
  ⟨k0_off9, k0_off12, k0_off9_inb, k0_off12_inb, fun _ _ => rfl, k0_off9_eq, k0_off12_eq⟩
theorem shape3 : RowShape (F := F) c 2 (atBufs k0_t3_body c v2 v5 (wd (zr c).val) v222 v223 v224 k) :=
  ⟨k0_off15, k0_off18, k0_off15_inb, k0_off18_inb, fun _ _ => rfl, k0_off15_eq, k0_off18_eq⟩
theorem shape4 : RowShape (F := F) c 3 (atBufs k0_t4_body c v2 v5 (wd (zr c).val) v222 v223 v224 k) :=
  ⟨k0_off21, k0_off24, k0_off21_inb, k0_off24_inb, fun _ _ => rfl, k0_off21_eq, k0_off24_eq⟩
theorem shape5 : RowShape (F := F) c 4 (atBufs k0_t5_body c v2 v5 (wd (zr c).val) v222 v223 v224 k) :=
  ⟨k0_off27, k0_off30, k0_off27_inb, k0_off30_inb, fun _ _ => rfl, k0_off27_eq, k0_off30_eq⟩
theorem shape6 : RowShape (F := F) c 5 (atBufs k0_t6_body c v2 v5 (wd (zr c).val) v222 v223 v224 k) :=
  ⟨k0_off33, k0_off36, k0_off33_inb, k0_off36_inb, fun _ _ => rfl, k0_off33_eq, k0_off36_eq⟩
theorem shape7 : RowShape (F := F) c 6 (atBufs k0_t7_body c v2 v5 (wd (zr c).val) w0 w1 w2 w3) :=
  ⟨k0_off39, k0_off42, k0_off39_inb, k0_off42_inb, fun _ _ => rfl, k0_off39_eq, k0_off42_eq⟩
theorem shape8 : RowShape (F := F) c 7 (atBufs k0_t8_body c v2 v5 (wd (zr c).val) w0 w1 w2 w3) :=
  ⟨k0_off45, k0_off48, k0_off45_inb, k0_off48_inb, fun _ _ => rfl, k0_off45_eq, k0_off48_eq⟩
theorem shape9 : RowShape (F := F) c 8 (atBufs k0_t9_body c v2 v5 (wd (zr c).val) w0 w1 w2 w3) :=
  ⟨k0_off51, k0_off54, k0_off51_inb, k0_off54_inb, fun _ _ => rfl, k0_off51_eq, k0_off54_eq⟩
theorem shape10 : RowShape (F := F) c 9 (atBufs k0_t10_body c v2 v5 (wd (zr c).val) w0 w1 w2 w3) :=
  ⟨k0_off57, k0_off60, k0_off57_inb, k0_off60_inb, fun _ _ => rfl, k0_off57_eq, k0_off60_eq⟩
theorem shape11 : RowShape (F := F) c 10 (atBufs k0_t11_body c v2 v5 (wd (zr c).val) w0 w1 w2 w3) :=
  ⟨k0_off63, k0_off66, k0_off63_inb, k0_off66_inb, fun _ _ => rfl, k0_off63_eq, k0_off66_eq⟩
theorem shape12 : RowShape (F := F) c 11 (atBufs k0_t12_body c v2 v5 (wd (zr c).val) w0 w1 w2 w3) :=
  ⟨k0_off69, k0_off72, k0_off69_inb, k0_off72_inb, fun _ _ => rfl, k0_off69_eq, k0_off72_eq⟩
theorem shape13 : RowShape (F := F) c 12 (atBufs k0_t13_body c v2 v5 (wd (zr c).val) w0 w1 w2 w3) :=
  ⟨k0_off75, k0_off78, k0_off75_inb, k0_off78_inb, fun _ _ => rfl, k0_off75_eq, k0_off78_eq⟩
theorem shape14 : RowShape (F := F) c 13 (atBufs k0_t14_body c v2 v5 (wd (zr c).val) w0 w1 w2 w3) :=
  ⟨k0_off81, k0_off84, k0_off81_inb, k0_off84_inb, fun _ _ => rfl, k0_off81_eq, k0_off84_eq⟩
theorem shape15 : RowShape (F := F) c 14 (atBufs k0_t15_body c v2 v5 (wd (zr c).val) w0 w1 w2 w3) :=
  ⟨k0_off87, k0_off90, k0_off87_inb, k0_off90_inb, fun _ _ => rfl, k0_off87_eq, k0_off90_eq⟩
theorem shape16 : RowShape (F := F) c 15 (atBufs k0_t16_body c v2 v5 (wd (zr c).val) w0 w1 w2 w3) :=
  ⟨k0_off93, k0_off96, k0_off93_inb, k0_off96_inb, fun _ _ => rfl, k0_off93_eq, k0_off96_eq⟩

end Printed

end Cert.Proof
-- ==== Proof.Bases.lean ====
/- The first place of each destination: the sums over the senders before, from the table of counts. -/
module

public import proofs.«01_k».proof.Proof.RowLoop

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- A count that is taken where its sender comes before `z`. -/
abbrev before (z : Fin 4) (s : BitVec 32) (n : ℕ) : BitVec 32 := Scalar.select (Scalar.cmpi .sgt (wd z.val) s) (wd n) 0#32

theorem before_eq (z s : Fin 4) (n : ℕ) : before z (wd s.val) n = wd (if s < z then n else 0) := by
  have h : ∀ z s : Fin 4, Scalar.cmpi .sgt (wd z.val) (wd s.val) = if s < z then 1#1 else 0#1 := by decide
  unfold before
  rw [h]
  by_cases hs : s < z
  · rw [if_pos hs, if_pos hs]; rfl
  · rw [if_neg hs, if_neg hs]; rfl

theorem base_word (D : Dest) (z r : Fin 4) :
    Scalar.addi (Scalar.addi (Scalar.addi (Scalar.addi 0#32 (before z 0#32 (D.cnt 0 r 2048))) (before z 1#32 (D.cnt 1 r 2048))) (before z 2#32 (D.cnt 2 r 2048))) (before z 3#32 (D.cnt 3 r 2048))
      = wd (D.base z r) := by
  rw [show (0#32 : BitVec 32) = wd (0 : Fin 4).val from rfl, show (1#32 : BitVec 32) = wd (1 : Fin 4).val from rfl, show (2#32 : BitVec 32) = wd (2 : Fin 4).val from rfl,
    show (3#32 : BitVec 32) = wd (3 : Fin 4).val from rfl]
  simp only [before_eq]
  rw [show (wd (0 : Fin 4).val : BitVec 32) = wd 0 from rfl, wd_add, wd_add, wd_add, wd_add]
  unfold Dest.base
  rw [Fin.sum_univ_four, Nat.zero_add]

variable (A : Inp F)

theorem read_cm (c : Dev nD) (s r : Fin 4) {o : Fin 2 → ℕ} {h : ∀ a, o a + S1x1.size a ≤ S4x128.size a} (ho : o = ![s.val, r.val])
    (y : S1x1.Idx) : (nS.access (Rect.unit (s := S4x128) o S1x1.size h)).read (Elt F) (A.cm c) y = wd ((grp A.D c).cnt s r 2048) := by
  subst ho
  have h0 : (y 0).val < 1 := (y 0).isLt
  have h1 : (y 1).val < 1 := (y 1).isLt
  have e0 : ((nS.access (Rect.unit (s := S4x128) ![s.val, r.val] S1x1.size h)).emb y 0).val = s.val := by
    show s.val + 1 * (y 0).val = s.val
    omega
  have e1 : ((nS.access (Rect.unit (s := S4x128) ![s.val, r.val] S1x1.size h)).emb y 1).val = r.val := by
    show r.val + 1 * (y 1).val = r.val
    omega
  show A.cm c ((nS.access (Rect.unit (s := S4x128) ![s.val, r.val] S1x1.size h)).emb y) = _
  unfold Inp.cm
  rw [dif_pos (e1.trans_lt r.isLt)]
  exact congrArg₂ (fun s r => wd ((grp A.D c).cnt s r 2048)) (Fin.ext e0) (Fin.ext e1)

/-- One element of the counts, read. -/
theorem load_cm (c : Dev nD) (s r : Fin 4) {o : Fin 2 → ℕ} {h : ∀ a, o a + S1x1.size a ≤ S4x128.size a} (ho : o = ![s.val, r.val])
    {α : Type} (kk : Elt F .i32 → Prog (TpuEff nD τ sig (Elt F) Λ₀ .tc) α) (Q : α → sProp 𝕄) :
    ((c : Thread nD τ).loc cc0_scratch1 ↦{fullShare} A.cm c)
      ⊢ iprop((((c : Thread nD τ).loc cc0_scratch1 ↦{fullShare} A.cm c) -∗ wp frame (wpE (defs₀ (F := F)) 𝒱₀ c none) Set.univ (kk (wd ((grp A.D c).cnt s r 2048))) Q)
        -∗ wp frame (wpE (defs₀ (F := F)) 𝒱₀ c none) Set.univ (smemLoad nS (Rect.unit (s := S4x128) o S1x1.size h) numel1_S1x1 rfl >>= kk) Q) := by
  iintro Hn Hk
  iapply (wp_smemLoadElt (defs := defs₀ (F := F)) 𝒱₀ (c : Thread nD τ) none Set.univ (m := nS) (r := Rect.unit (s := S4x128) o S1x1.size h)
    (hw := View.loads_smem_one rfl numel1_S1x1) (x := Shape.Idx.first (numel1_S1x1.symm ▸ Nat.one_pos))
    (k := kk) (S := Finset.univ) (q := fullShare) (f := A.cm c) (Finset.subset_univ _)) $$ Hn
  iintro Hn
  rw [read_cm A c s r ho]
  iapply Hk
  iexact Hn

/-- The table of next places with the first `r` of them set. -/
def Inp.setTo (c : Dev nD) (r : ℕ) (f : (cc0_scratch3 : Ref sig .tc).ty.Contents (Elt F)) : (cc0_scratch3 : Ref sig .tc).ty.Contents (Elt F) := fun x : S4.Idx =>
  if (x 0).val < r then (wd ((grp A.D c).base (zr c) (x 0)) : BitVec 32) else f x

theorem setTo_zero (c : Dev nD) (f : (cc0_scratch3 : Ref sig .tc).ty.Contents (Elt F)) : A.setTo c 0 f = f := by
  funext x; exact if_neg (Nat.not_lt_zero _)

theorem setTo_four (c : Dev nD) (f : (cc0_scratch3 : Ref sig .tc).ty.Contents (Elt F)) : A.setTo c 4 f = A.cur c 0 := by
  funext x
  unfold Inp.setTo Inp.cur
  have e : (grp A.D c).cnt (zr c) (x 0) 0 = 0 := Dest.cnt_zero _ _ _
  refine (if_pos (x 0).isLt).trans (congrArg wd ?_)
  exact (congrArg ((grp A.D c).base (zr c) (x 0) + ·) e).symm

theorem write_setTo (c : Dev nD) (r : Fin 4) (f : (cc0_scratch3 : Ref sig .tc).ty.Contents (Elt F)) {o : Fin 1 → ℕ} {h : ∀ a, o a + S1.size a ≤ S4.size a} (ho : o = ![r.val]) :
    (rS.access (Rect.unit (s := S4) o S1.size h)).write (Elt F) (A.setTo c r.val f) (fun _ => wd ((grp A.D c).base (zr c) r)) Finset.univ = A.setTo c (r.val + 1) f := by
  subst ho
  funext x
  have ex : ∀ y : S1.Idx, (rS.access (Rect.unit (s := S4) ![r.val] S1.size h)).emb y 0 = r := fun y => Fin.ext (by
    have h0 : (y 0).val < 1 := (y 0).isLt
    show r.val + 1 * (y 0).val = r.val
    omega)
  by_cases hx : x 0 = r
  · let y : S1.Idx := fun a => ⟨0, by rw [size_S1]; exact Nat.one_pos⟩
    have ey : (rS.access (Rect.unit (s := S4) ![r.val] S1.size h)).emb y = x := by
      funext a
      match a with
      | 0 => exact (ex y).trans hx.symm
    conv_lhs => rw [← ey]
    rw [View.write_emb_of_mem _ _ (Finset.mem_univ y)]
    refine Eq.trans ?_ (if_pos (c := (x 0).val < r.val + 1) (by rw [hx]; omega)).symm
    rw [hx]
    rfl
  · rw [View.write_of_not_mem]
    · have hne : (x 0).val ≠ r.val := fun e => hx (Fin.ext e)
      exact if_congr (by omega) rfl rfl
    · intro hm
      obtain ⟨y, -, rfl⟩ := Finset.mem_map.mp hm
      exact hx (ex y)

/-- The next place of destination `r` set to its first, after a read of what was there. -/
theorem set_base (c : Dev nD) (r : Fin 4) {n n' : ℕ} (hn : r.val = n) (hn' : n + 1 = n') (f : (cc0_scratch3 : Ref sig .tc).ty.Contents (Elt F)) {o : Fin 1 → ℕ} {h : ∀ a, o a + S1.size a ≤ S4.size a} (ho : o = ![r.val])
    {w : BitVec 32} (hw : w = wd ((grp A.D c).base (zr c) r))
    {α : Type} (kk : Prog (TpuEff nD τ sig (Elt F) Λ₀ .tc) α) (Q : α → sProp 𝕄) :
    ((c : Thread nD τ).loc cc0_scratch3 ↦{fullShare} A.setTo c n f)
      ⊢ iprop((((c : Thread nD τ).loc cc0_scratch3 ↦{fullShare} A.setTo c n' f) -∗ wp frame (wpE (defs₀ (F := F)) 𝒱₀ c none) Set.univ kk Q)
        -∗ wp frame (wpE (defs₀ (F := F)) 𝒱₀ c none) Set.univ (do
            let _v : Elt F .i32 ← smemLoad rS (Rect.unit (s := S4) o S1.size h) numel1_S1 rfl
            Prog.lift (.store rS (Rect.unit (s := S4) o S1.size h) (fun _ => w) Finset.univ (View.stores_smem_one rfl numel1_S1) (.inl rfl))
            kk) Q) := by
  subst hw hn' hn
  iintro Hr Hk
  iapply (wp_smemLoadElt (defs := defs₀ (F := F)) 𝒱₀ (c : Thread nD τ) none Set.univ (m := rS) (r := Rect.unit (s := S4) o S1.size h)
    (hw := View.loads_smem_one rfl numel1_S1) (x := Shape.Idx.first (numel1_S1.symm ▸ Nat.one_pos))
    (k := fun _ => .op (.store rS (Rect.unit (s := S4) o S1.size h) (fun _ => wd ((grp A.D c).base (zr c) r)) Finset.univ (View.stores_smem_one rfl numel1_S1) (.inl rfl)) fun _ => kk)
    (S := Finset.univ) (q := fullShare) (f := A.setTo c r.val f) (Finset.subset_univ _)) $$ Hr
  iintro Hr
  iapply (wp_store 𝒱₀ (c : Thread nD τ) none Set.univ (m := rS) (r := Rect.unit (s := S4) o S1.size h) (S := Finset.univ) (f := A.setTo c r.val f) (Finset.subset_univ _)) $$ Hr
  iintro Hr
  rw [write_setTo A c r f ho]
  iapply Hk
  iexact Hr

end Cert.Proof
-- ==== Proof.RowParts.lean ====
/- The printed parts that hold the row loop. -/
module

public import proofs.«01_k».proof.Proof.Bases

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

variable (A : Inp F)

set_option maxHeartbeats 1000000 in
/-- The count's column 0 summed and column 1 begun. -/
theorem part6_run (c : Dev nD) (f : (cc0_scratch3 : Ref sig .tc).ty.Contents (Elt F)) (Q : (Σ' (_ : BitVec 32), BitVec 1) → sProp 𝕄) :
    iprop(((c : Thread nD τ).loc cc0_scratch1 ↦{fullShare} A.cm c) ∗ ((c : Thread nD τ).loc cc0_scratch3 ↦{fullShare} A.setTo c 0 f))
      ⊢ iprop((((c : Thread nD τ).loc cc0_scratch1 ↦{fullShare} A.cm c) -∗ ((c : Thread nD τ).loc cc0_scratch3 ↦{fullShare} A.setTo c 1 f)
          -∗ Q ⟨Scalar.addi (Scalar.addi (Scalar.addi 0#32 (before (zr c) 0#32 ((grp A.D c).cnt 0 1 2048))) (before (zr c) 1#32 ((grp A.D c).cnt 1 1 2048))) (before (zr c) 2#32 ((grp A.D c).cnt 2 1 2048)),
              Scalar.cmpi .sgt (wd (zr c).val) 3#32⟩)
        -∗ wp frame (wpE (defs₀ (F := F)) 𝒱₀ c none) Set.univ (atBufs (k0_part6 (F := F)) (wd (zr c).val) (Scalar.cmpi .sgt (wd (zr c).val) 0#32)) Q) := by
  rw [k0_part6_eq_skeleton]; unfold k0_part6_skel
  iintro ⟨HN, HR⟩ Hk
  iapply (load_cm A c 0 0 rfl) $$ HN
  iintro HN
  iapply (load_cm A c 1 0 rfl) $$ HN
  iintro HN
  iapply (load_cm A c 2 0 rfl) $$ HN
  iintro HN
  iapply (load_cm A c 3 0 rfl) $$ HN
  iintro HN
  iapply (set_base A c 0 (n := 0) (n' := 1) rfl rfl f rfl (base_word (grp A.D c) (zr c) 0)) $$ HR
  iintro HR
  iapply (load_cm A c 0 1 rfl) $$ HN
  iintro HN
  iapply (load_cm A c 1 1 rfl) $$ HN
  iintro HN
  iapply (load_cm A c 2 1 rfl) $$ HN
  iintro HN
  iapply (Entails.of_eq (wp_ret frame (wpE (defs₀ (F := F)) 𝒱₀ (c : Thread nD τ) none) Set.univ _ _).symm)
  imodintro
  iapply Hk $$ HN
  iexact HR

/-- Columns 1 and 2 finished and column 3 begun. -/
theorem part7_run (c : Dev nD) (f : (cc0_scratch3 : Ref sig .tc).ty.Contents (Elt F)) (Q : (Σ' (_ : BitVec 32) (_ : BitVec 1) (_ : Elt F .i32), BitVec 32) → sProp 𝕄) :
    iprop(((c : Thread nD τ).loc cc0_scratch1 ↦{fullShare} A.cm c) ∗ ((c : Thread nD τ).loc cc0_scratch3 ↦{fullShare} A.setTo c 1 f))
      ⊢ iprop((((c : Thread nD τ).loc cc0_scratch1 ↦{fullShare} A.cm c) -∗ ((c : Thread nD τ).loc cc0_scratch3 ↦{fullShare} A.setTo c 3 f)
          -∗ Q ⟨Scalar.addi 0#32 (before (zr c) 0#32 ((grp A.D c).cnt 0 3 2048)), Scalar.cmpi .sgt (wd (zr c).val) 1#32, wd ((grp A.D c).cnt 1 3 2048), 0#32⟩)
        -∗ wp frame (wpE (defs₀ (F := F)) 𝒱₀ c none) Set.univ (atBufs (k0_part7 (F := F)) (wd (zr c).val)
            (Scalar.addi (Scalar.addi (Scalar.addi 0#32 (before (zr c) 0#32 ((grp A.D c).cnt 0 1 2048))) (before (zr c) 1#32 ((grp A.D c).cnt 1 1 2048))) (before (zr c) 2#32 ((grp A.D c).cnt 2 1 2048)))
            (Scalar.cmpi .sgt (wd (zr c).val) 3#32)) Q) := by
  rw [k0_part7_eq_skeleton]; unfold k0_part7_skel
  iintro ⟨HN, HR⟩ Hk
  iapply (load_cm A c 3 1 rfl) $$ HN
  iintro HN
  iapply (set_base A c 1 (n := 1) (n' := 2) rfl rfl f rfl (base_word (grp A.D c) (zr c) 1)) $$ HR
  iintro HR
  iapply (load_cm A c 0 2 rfl) $$ HN
  iintro HN
  iapply (load_cm A c 1 2 rfl) $$ HN
  iintro HN
  iapply (load_cm A c 2 2 rfl) $$ HN
  iintro HN
  iapply (load_cm A c 3 2 rfl) $$ HN
  iintro HN
  iapply (set_base A c 2 (n := 2) (n' := 3) rfl rfl f rfl (base_word (grp A.D c) (zr c) 2)) $$ HR
  iintro HR
  iapply (load_cm A c 0 3 rfl) $$ HN
  iintro HN
  iapply (load_cm A c 1 3 rfl) $$ HN
  iintro HN
  iapply (Entails.of_eq (wp_ret frame (wpE (defs₀ (F := F)) 𝒱₀ (c : Thread nD τ) none) Set.univ _ _).symm)
  imodintro
  iapply Hk $$ HN
  iexact HR

/-- The last column finished, then rows 0 to 767. -/
theorem part8_run (K : GSem nD τ sig → ℕ) (c : Dev nD) (v2 v5 : BitVec 32) (f : (cc0_scratch3 : Ref sig .tc).ty.Contents (Elt F))
    (Q : (Σ' (_ : BitVec 32) (_ : BitVec 32) (_ : BitVec 32), BitVec 32) → sProp 𝕄) :
    iprop(A.rowKnow K c ∗ ((c : Thread nD τ).loc cc0_scratch1 ↦{fullShare} A.cm c) ∗ ((c : Thread nD τ).loc cc0_scratch3 ↦{fullShare} A.setTo c 3 f)
        ∗ (((c : Thread nD τ).loc cc0_scratch3 ↦{fullShare} A.cur c 0) -∗ A.rowState c (128 * 0) (0#32, 0#32, 0#32, 0#32)))
      ⊢ iprop((((c : Thread nD τ).loc cc0_scratch1 ↦{fullShare} A.cm c) -∗ ∀ a, ∀ b, ∀ d, ∀ e, A.rowState c (128 * 6) (a, b, d, e) -∗ Q ⟨a, b, d, e⟩)
        -∗ wp frame (wpE (defs₀ (F := F)) 𝒱₀ c none) Set.univ (atBufs (k0_part8 (F := F)) c v2 v5 (wd (zr c).val)
            (Scalar.addi 0#32 (before (zr c) 0#32 ((grp A.D c).cnt 0 3 2048))) (Scalar.cmpi .sgt (wd (zr c).val) 1#32) (wd ((grp A.D c).cnt 1 3 2048)) 0#32) Q) := by
  rw [k0_part8_eq_skeleton]; unfold k0_part8_skel
  iintro ⟨#HK, HN, HR, HS⟩ Hk
  iapply (load_cm A c 2 3 rfl) $$ HN
  iintro HN
  iapply (load_cm A c 3 3 rfl) $$ HN
  iintro HN
  iapply (set_base A c 3 (n := 3) (n' := 4) rfl rfl f rfl (base_word (grp A.D c) (zr c) 3)) $$ HR
  iintro HR
  rw [setTo_four A c f]
  ihave HS := HS $$ HR
  ispecialize Hk $$ HN
  iapply (rowLoop_run A K c 0 (by decide) (by decide) (shape1 c v2 v5 _ _ _ _)) $$ [HS]
  · isplitr; · iexact HK
    iexact HS
  iintro %st HS
  obtain ⟨a1, a2, a3, a4⟩ := st
  iapply (rowLoop_run A K c 1 (by decide) (by decide) (shape2 c v2 v5 _ _ _ _)) $$ [HS]
  · isplitr; · iexact HK
    iexact HS
  iintro %st HS
  obtain ⟨a1, a2, a3, a4⟩ := st
  iapply (rowLoop_run A K c 2 (by decide) (by decide) (shape3 c v2 v5 _ _ _ _)) $$ [HS]
  · isplitr; · iexact HK
    iexact HS
  iintro %st HS
  obtain ⟨a1, a2, a3, a4⟩ := st
  iapply (rowLoop_run A K c 3 (by decide) (by decide) (shape4 c v2 v5 _ _ _ _)) $$ [HS]
  · isplitr; · iexact HK
    iexact HS
  iintro %st HS
  obtain ⟨a1, a2, a3, a4⟩ := st
  iapply (rowLoop_run A K c 4 (by decide) (by decide) (shape5 c v2 v5 _ _ _ _)) $$ [HS]
  · isplitr; · iexact HK
    iexact HS
  iintro %st HS
  obtain ⟨a1, a2, a3, a4⟩ := st
  iapply (rowLoop_run A K c 5 (by decide) (by decide) (shape6 c v2 v5 _ _ _ _)) $$ [HS]
  · isplitr; · iexact HK
    iexact HS
  iintro %st HS
  obtain ⟨a1, a2, a3, a4⟩ := st
  iapply (Entails.of_eq (wp_ret frame (wpE (defs₀ (F := F)) 𝒱₀ (c : Thread nD τ) none) Set.univ _ _).symm)
  imodintro
  iapply Hk
  iexact HS

/-- Rows 768 to 2047. -/
theorem part9_run (K : GSem nD τ sig → ℕ) (c : Dev nD) (v2 v5 w0 w1 w2 w3 : BitVec 32)
    (Q : (Σ' (_ : BitVec 32) (_ : BitVec 32) (_ : BitVec 32), BitVec 32) → sProp 𝕄) :
    iprop(A.rowKnow K c ∗ A.rowState c (128 * 6) (w0, w1, w2, w3))
      ⊢ iprop((∀ a, ∀ b, ∀ d, ∀ e, A.rowState c (128 * 16) (a, b, d, e) -∗ Q ⟨a, b, d, e⟩)
        -∗ wp frame (wpE (defs₀ (F := F)) 𝒱₀ c none) Set.univ (atBufs (k0_part9 (F := F)) c v2 v5 (wd (zr c).val) w0 w1 w2 w3) Q) := by
  rw [k0_part9_eq_skeleton]
  unfold k0_part9_skel
  iintro ⟨#HK, HS⟩ Hk
  iapply (rowLoop_run A K c 6 (by decide) (by decide) (shape7 c v2 v5 w0 w1 w2 w3)) $$ [HS]
  · isplitr; · iexact HK
    iexact HS
  iintro %st HS
  obtain ⟨a1, a2, a3, a4⟩ := st
  iapply (rowLoop_run A K c 7 (by decide) (by decide) (shape8 c v2 v5 w0 w1 w2 w3)) $$ [HS]
  · isplitr; · iexact HK
    iexact HS
  iintro %st HS
  obtain ⟨a1, a2, a3, a4⟩ := st
  iapply (rowLoop_run A K c 8 (by decide) (by decide) (shape9 c v2 v5 w0 w1 w2 w3)) $$ [HS]
  · isplitr; · iexact HK
    iexact HS
  iintro %st HS
  obtain ⟨a1, a2, a3, a4⟩ := st
  iapply (rowLoop_run A K c 9 (by decide) (by decide) (shape10 c v2 v5 w0 w1 w2 w3)) $$ [HS]
  · isplitr; · iexact HK
    iexact HS
  iintro %st HS
  obtain ⟨a1, a2, a3, a4⟩ := st
  iapply (rowLoop_run A K c 10 (by decide) (by decide) (shape11 c v2 v5 w0 w1 w2 w3)) $$ [HS]
  · isplitr; · iexact HK
    iexact HS
  iintro %st HS
  obtain ⟨a1, a2, a3, a4⟩ := st
  iapply (rowLoop_run A K c 11 (by decide) (by decide) (shape12 c v2 v5 w0 w1 w2 w3)) $$ [HS]
  · isplitr; · iexact HK
    iexact HS
  iintro %st HS
  obtain ⟨a1, a2, a3, a4⟩ := st
  iapply (rowLoop_run A K c 12 (by decide) (by decide) (shape13 c v2 v5 w0 w1 w2 w3)) $$ [HS]
  · isplitr; · iexact HK
    iexact HS
  iintro %st HS
  obtain ⟨a1, a2, a3, a4⟩ := st
  iapply (rowLoop_run A K c 13 (by decide) (by decide) (shape14 c v2 v5 w0 w1 w2 w3)) $$ [HS]
  · isplitr; · iexact HK
    iexact HS
  iintro %st HS
  obtain ⟨a1, a2, a3, a4⟩ := st
  iapply (rowLoop_run A K c 14 (by decide) (by decide) (shape15 c v2 v5 w0 w1 w2 w3)) $$ [HS]
  · isplitr; · iexact HK
    iexact HS
  iintro %st HS
  obtain ⟨a1, a2, a3, a4⟩ := st
  iapply (rowLoop_run A K c 15 (by decide) (by decide) (shape16 c v2 v5 w0 w1 w2 w3)) $$ [HS]
  · isplitr; · iexact HK
    iexact HS
  iintro %st HS
  obtain ⟨a1, a2, a3, a4⟩ := st
  iapply (Entails.of_eq (wp_ret frame (wpE (defs₀ (F := F)) 𝒱₀ (c : Thread nD τ) none) Set.univ _ _).symm)
  imodintro
  iapply Hk
  iexact HS

end Cert.Proof
-- ==== Proof.Barrier.lean ====
/- The devices tell one another that they are ready: each hands the others the places where their rows go. -/
module

public import proofs.«01_k».proof.Proof.RowParts

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- Four things, seen from device `c`: its own first, then the others'. -/
theorem four {M : Type} [URA M] (c : Dev nD) (Φ : Fin 4 → sProp M) :
    bigSep Finset.univ Φ = iprop(Φ (zr c) ∗ Φ (nxt c 1) ∗ Φ (nxt c 2) ∗ Φ (nxt c 3)) := by
  have hu : ∀ z : Fin 4, (Finset.univ : Finset (Fin 4)) = {z, z + 1, z + 2, z + 3} := by decide
  have h0 : ∀ z : Fin 4, z ∉ ({z + 1, z + 2, z + 3} : Finset (Fin 4)) := by decide
  have h1 : ∀ z : Fin 4, z + 1 ∉ ({z + 2, z + 3} : Finset (Fin 4)) := by decide
  have h2 : ∀ z : Fin 4, z + 2 ∉ ({z + 3} : Finset (Fin 4)) := by decide
  rw [hu (zr c), bigSep_insert (h0 _), bigSep_insert (h1 _), bigSep_insert (h2 _), bigSep_singleton]
  rfl

/-- Each part of a conjunction replaced. -/
theorem each {ι : Type} {M : Type} [URA M] {S : Finset ι} {Φ Ψ : ι → sProp M} (h : ∀ i ∈ S, Φ i ⊢ Ψ i) : bigSep S Φ ⊢ bigSep S Ψ := bigSep_mono h

theorem nxt_ne (c : Dev nD) {j : Fin 4} (h : j ≠ 0) : nxt c j ≠ zr c := by
  have d : ∀ z j : Fin 4, j ≠ 0 → z + j ≠ z := by decide
  exact d _ _ h

theorem nxt_inj (c : Dev nD) {i j : Fin 4} (h : i ≠ j) : nxt c i ≠ nxt c j := by
  have d : ∀ z i j : Fin 4, i ≠ j → z + i ≠ z + j := by decide
  exact d _ _ _ h

theorem others_set (c : Dev nD) : (Finset.univ.filter fun d : Dt => d.1 ≠ zr c ∧ d.2 = 0) = {(nxt c 1, 0), (nxt c 2, 0), (nxt c 3, 0)} := by
  ext ⟨s, i⟩
  have h : ∀ z s : Fin 4, s ≠ z ↔ (s = z + 1 ∨ s = z + 2 ∨ s = z + 3) := by decide
  simp only [Finset.mem_filter, Finset.mem_univ, true_and, Finset.mem_insert, Finset.mem_singleton, Prod.mk.injEq]
  rw [h (zr c) s]
  unfold nxt
  tauto

/-- The payments of the three others. -/
theorem others {M : Type} [URA M] (c : Dev nD) (Φ : Dt → sProp M) :
    bigSep (Finset.univ.filter fun d : Dt => d.1 ≠ zr c ∧ d.2 = 0) Φ = iprop(Φ (nxt c 1, 0) ∗ Φ (nxt c 2, 0) ∗ Φ (nxt c 3, 0)) := by
  have h12 := nxt_inj c (i := 1) (j := 2) (by decide)
  have h13 := nxt_inj c (i := 1) (j := 3) (by decide)
  have h23 := nxt_inj c (i := 2) (j := 3) (by decide)
  rw [others_set, bigSep_insert (by simp [h12, h13]), bigSep_insert (by simp [h23]), bigSep_singleton]
  rfl

theorem others_card (c : Dev nD) : (Finset.univ.filter fun d : Dt => d.1 ≠ zr c ∧ d.2 = 0).card = 3 := by
  have h12 := nxt_inj c (i := 1) (j := 2) (by decide)
  have h13 := nxt_inj c (i := 1) (j := 3) (by decide)
  have h23 := nxt_inj c (i := 2) (j := 3) (by decide)
  rw [others_set, Finset.card_insert_of_notMem (by simp [h12, h13]), Finset.card_insert_of_notMem (by simp [h23]), Finset.card_singleton]

/-- A conjunction over the rows, by the destination of each. -/
theorem by_dest {M : Type} [URA M] (g : Fin 2048 → Fin 4) (Φ : Fin 2048 → sProp M) :
    (bigSep Finset.univ fun s : Fin 4 => bigSep (Finset.univ.filter fun i => g i = s) Φ) = bigSep Finset.univ Φ := by
  have e : (fun s : Fin 4 => bigSep (Finset.univ.filter fun i => g i = s) Φ) = fun s => bigSep Finset.univ fun i => if g i = s then Φ i else BI.emp :=
    funext fun s => bigSep_filter _ _ _
  rw [e, bigSep_univ_comm]
  refine bigSep_congr fun i _ => ?_
  rw [← bigSep_filter, show (Finset.univ.filter fun s => g i = s) = {g i} from by ext s; simp [eq_comm], bigSep_singleton]

variable (A : Inp F)

/-- The part of device `c`'s buffers that place `s` writes: its row of the counts, and the places of its rows. -/
def Inp.piece (c : Dev nD) (s : Fin 4) : sProp 𝕄 :=
  iprop((∃ f, crow fullShare c s.val f) ∗ bigSep (A.going (peer c s) (zr c)) fun i => iprop(∃ f, orow c (A.place (peer c s) i) f))

theorem pieces (c : Dev nD) (f : (cc0_stg2_0 : Ref sig .tc).ty.Contents (Elt F)) (g : (cc0_scratch0 : Ref sig .tc).ty.Contents (Elt F)) :
    iprop(((c : Thread nD τ).loc cc0_stg2_0 ↦{fullShare} f) ∗ ((c : Thread nD τ).loc cc0_scratch0 ↦{fullShare} g)) ⊢ (bigSep Finset.univ (A.piece c) : sProp 𝕄) := by
  rw [orows A c f, crows c fullShare g]
  unfold Dest.rowsTo
  rw [bigSep_filter, bigSep_univ_prod]
  iintro ⟨Ho, Hg⟩
  have e : bigSep Finset.univ (A.piece c) = iprop((bigSep Finset.univ fun s : Fin 4 => (iprop(∃ f, crow fullShare c s.val f) : sProp 𝕄))
      ∗ bigSep Finset.univ fun s : Fin 4 => bigSep (A.going (peer c s) (zr c)) fun i => iprop(∃ f, orow c (A.place (peer c s) i) f)) := bigSep_sep' _ _ _
  rw [e]
  isplitl [Hg]
  · iapply (each (S := Finset.univ) (Φ := fun s : Fin 4 => crow fullShare c s.val g) (Ψ := fun s : Fin 4 => (iprop(∃ f, crow fullShare c s.val f) : sProp 𝕄)) (fun s _ => by
      iintro H; iexists g; iexact H))
    iexact Hg
  iapply (each (S := Finset.univ) (Φ := fun s : Fin 4 => bigSep Finset.univ fun i : Fin 2048 => if grp A.D c s i = zr c then orow c ((grp A.D c).pos s i) f else BI.emp) (fun s _ => by
    unfold Inp.going
    rw [← bigSep_filter]
    refine each fun i _ => ?_
    unfold Inp.place
    rw [grp_peer, zr_peer]
    iintro H; iexists f; iexact H))
  iexact Ho

/-- With its two receiving semaphores open, a piece is what place `s` waits for. -/
theorem piece_pay (c : Dev nD) (s : Fin 4) :
    iprop(reached ER (cell c 2) 0 ∗ reached ER (cell c 4) 0 ∗ A.piece c s) ⊢ A.barPay (peer c s) (zr c) := by
  unfold Inp.piece Inp.barPay
  rw [peer_peer, peer_zr, zr_peer]
  iintro ⟨#H2, #H4, Hc, Ho⟩
  isplitl [Hc]; · iexact Hc
  isplitl [Ho]; · iexact Ho
  isplitr; · iexact H2
  iexact H4

theorem duty0 (c : Dev nD) {j : Fin 4} (hj : j ≠ 0) : (zr c, 0) ∈ A.rd.duties (cell (peer c (nxt c j)) 0) 0 := by
  rw [duties_cell]
  show _ ∈ Finset.univ.filter _
  simp only [Finset.mem_filter, Finset.mem_univ, true_and, zr_peer, and_true]
  exact fun e => nxt_ne c hj e.symm

/-- The word to the device `j` places on. -/
theorem signal_run (K : GSem nD τ sig → ℕ) (c : Dev nD) {j : Fin 4} (hj : j ≠ 0) {q : Dev nD} (hq : q = peer c (nxt c j)) {O₀ : CellTallies nD τ sig Unit} (O : CellTallies nD τ sig Unit)
    (hO : O₀ = O + toNxt c j 0 1) {W : Waits sig Unit} {α : Type} (k : PUnit → Prog (TpuEff nD τ sig (Elt F) Λ₀ .tc) α) (Q : α → sProp 𝕄) :
    iprop(A.recs K ∗ reached ER (cell c 2) 0 ∗ reached ER (cell c 4) 0 ∗ reached ER (cell (peer c (nxt c j)) 0) 0
        ∗ owes (c : Thread nD τ) O₀ W ∗ dutyTok ER (cell (peer c (nxt c j)) 0) 0 (zr c, 0) ∗ A.piece c (nxt c j))
      ⊢ iprop((owes (c : Thread nD τ) O W -∗ wp frame (wpE (defs₀ (F := F)) 𝒱₀ c none) Set.univ (k ⟨⟩) Q)
        -∗ wp frame (wpE (defs₀ (F := F)) 𝒱₀ c none) Set.univ (semSignalWord q barrier0 1#32 >>= k) Q) := by
  subst hq
  have hpay : iprop(reached ER (cell c 2) 0 ∗ reached ER (cell c 4) 0 ∗ A.piece c (nxt c j)) ⊢ A.rd.payload ((peer c (nxt c j) : Thread nD τ), .reg barrier0) 0 (zr c, 0) := by
    rw [show A.rd.payload ((peer c (nxt c j) : Thread nD τ), .reg barrier0) 0 (zr c, 0) = _ from payload_cell A (peer c (nxt c j)) 0 (zr c, 0)]
    exact piece_pay A c (nxt c j)
  unfold Inp.recs
  iintro ⟨⟨#HI, -⟩, #H2, #H4, #H0, HO, HT, HP⟩ Hk
  iapply (Rounds.wp_signal 𝒱₀ ER A.rd (c : Thread nD τ) none (dst := (peer c (nxt c j) : Thread nD τ)) (sem := barrier0) (r := 0) (d := (zr c, 0)) (k' := 1)
    (κ := K (cell (peer c (nxt c j)) 0)) (duty0 A c hj) (amount_cell A _ 0 _) () O hO) $$ [HO HT HP]
  · isplitr; · iapply HI $$ %_ %0
    isplitl [HO]; · iexact HO
    isplitl [HT]; · iexact HT
    isplitl [HP]
    · iapply hpay
      isplitr; · iexact H2
      isplitr; · iexact H4
      iexact HP
    iexact H0
  iexact Hk

/-- The wait for the three others' words. -/
theorem ready_run (K : GSem nD τ sig → ℕ) (c : Dev nD) {α : Type} (k : PUnit → Prog (TpuEff nD τ sig (Elt F) Λ₀ .tc) α) (Q : α → sProp 𝕄) :
    iprop(A.recs K ∗ A.drain c 0 0 3 ∗ ∃ W, owes (c : Thread nD τ) (A.owedCnt c) W)
      ⊢ iprop(((semVal (cell c 0) 0 ∗ A.barPay c (nxt c 1) ∗ A.barPay c (nxt c 2) ∗ A.barPay c (nxt c 3) ∗ ∃ W, owes (c : Thread nD τ) (A.owedCnt c) W)
          -∗ wp frame (wpE (defs₀ (F := F)) 𝒱₀ c none) Set.univ (k ⟨⟩) Q)
        -∗ wp frame (wpE (defs₀ (F := F)) 𝒱₀ c none) Set.univ (semWaitWord barrier0 3#32 >>= k) Q) := by
  have he := drain_end A K c 0 3 0 (others_card c).symm
  have hs : (bigSep (A.duty c (0 : Fin 8).val) fun d => A.pay c d (0 : Fin 8).val) = iprop(A.barPay c (nxt c 1) ∗ A.barPay c (nxt c 2) ∗ A.barPay c (nxt c 3)) := others c _
  rw [hs] at he
  unfold Inp.recs
  iintro ⟨⟨#HI, #Hlev⟩, HD, HO⟩ Hk
  iapply (drain_waits A K c 0 0 0 (j := 3) (by decide) (b := 1) (Above.cnt A c) (by decide) (n := 3) rfl (fun Q => wpE_semWait_eq 𝒱₀ (c : Thread nD τ) none Set.univ Q) k) $$ [HD HO]
  · isplitr; · iapply HI $$ %c %0
    isplitr; · iexact Hlev
    isplitl [HD]; · iexact HD
    iexact HO
  iintro ⟨HD, HO⟩
  imod he $$ [HD] with ⟨Hv, H1, H2, H3⟩
  · isplitr; · iapply HI $$ %c %0
    iexact HD
  iapply Hk
  isplitl [Hv]; · iexact Hv
  isplitl [H1]; · iexact H1
  isplitl [H2]; · iexact H2
  isplitl [H3]; · iexact H3
  iexact HO

end Cert.Proof
-- ==== Proof.CountRow.lean ====
/- A device counts its own rows by destination. -/
module

public import proofs.«01_k».proof.Proof.Barrier
public import Idealize.ShloMosaic.Lib.IndicatorCount

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

/-- The number of table entries equal to a word, as it is summed. -/
def tally (v : Vec F S16x128 .i32) (w : BitVec 32) : BitVec 32 :=
  extractAt ![0, 0, 0] (shapeCast S1x1x1 (multiReductionI .add [1, 2] S1
    (shapeCast S1x16x128 (extui 32 (cmpi .eq (shapeCast S16x128 v shapeCasts_S16x128_S16x128 : IVec S16x128 32) (broadcast S16x128 w)) natLt_1_32) shapeCasts_S16x128_S1x16x128)
    0#32 reduces_S1x16x128_S1 rfl) shapeCasts_S1_S1x1x1) inpos_S1x1x1_p0_0_0

theorem lin_bijective : Function.Bijective lin := by
  constructor
  · intro x y h
    have h' := congrArg Fin.val h
    have hx : (x 1).val < 128 := (x 1).isLt
    have hy : (y 1).val < 128 := (y 1).isLt
    change (x 0).val * 128 + (x 1).val = (y 0).val * 128 + (y 1).val at h'
    funext a
    match a with
    | 0 => exact Fin.ext (by omega)
    | 1 => exact Fin.ext (by omega)
  · intro i
    have hi := i.isLt
    refine ⟨fun a => match a with
      | 0 => (⟨i.val / 128, by omega⟩ : Fin 16)
      | 1 => (⟨i.val % 128, Nat.mod_lt _ (by decide)⟩ : Fin 128), Fin.ext ?_⟩
    show i.val / 128 * 128 + i.val % 128 = i.val
    omega

theorem tally_eq (v : Vec F S16x128 .i32) (g : Fin 2048 → Fin 4) (hv : ∀ x : S16x128.Idx, v x = wd (g (lin x)).val) (r : Fin 4) :
    tally v (wd r.val) = wd (Finset.univ.filter fun i => g i = r).card := by
  have hsub : ∀ j j' : S1.Idx, j = j' := fun j j' => funext fun a => by
    match a with
    | 0 =>
      have h : (j 0).val < 1 := (j 0).isLt
      have h' : (j' 0).val < 1 := (j' 0).isLt
      exact Fin.ext (by omega)
  unfold tally extractAt shapeCast
  refine (multiReductionI_eq_fold .add _ 0#32 reduces_S1x16x128_S1 rfl _).trans ?_
  rw [show (Finset.univ.filter fun i : S1x16x128.Idx => reduces_S1x16x128_S1.drop i = _) = Finset.univ from Finset.filter_true_of_mem fun i _ => hsub _ _]
  refine (IndicatorCount.fold_addi_setWidth_eq_card (w := 32) (fun k : S1x16x128.Idx => Scalar.cmpi .eq (v (Shape.reshapeEquiv shapeCasts_S16x128_S16x128 (Shape.reshapeEquiv shapeCasts_S16x128_S1x16x128 k))) (wd r.val)) Finset.univ).trans ?_
  refine congrArg wd ?_
  refine Finset.card_bijective (fun k => lin (Shape.reshapeEquiv shapeCasts_S16x128_S16x128 (Shape.reshapeEquiv shapeCasts_S16x128_S1x16x128 k)))
    (lin_bijective.comp ((Equiv.bijective _).comp (Equiv.bijective _))) fun k => ?_
  simp only [Finset.mem_filter, Finset.mem_univ, true_and]
  rw [hv]
  generalize g _ = s
  revert s r
  decide

/-- Four words laid out in the first four lanes. -/
theorem lanes (n : ℕ) (hn : n < 128) (a : Fin 4 → BitVec 32) :
    Scalar.addi (Scalar.addi (Scalar.addi (Scalar.addi 0#32 (Scalar.select (Scalar.cmpi .eq (wd n) 0#32) (a 0) 0#32)) (Scalar.select (Scalar.cmpi .eq (wd n) 1#32) (a 1) 0#32))
      (Scalar.select (Scalar.cmpi .eq (wd n) 2#32) (a 2) 0#32)) (Scalar.select (Scalar.cmpi .eq (wd n) 3#32) (a 3) 0#32)
      = if h : n < 4 then a ⟨n, h⟩ else 0#32 := by
  have hc : ∀ m : ℕ, m < 128 → Scalar.cmpi .eq (wd n) (wd m) = if n = m then 1#1 else 0#1 := fun m hm => by
    show IntOp.cmpi .eq (wd n) (wd m) = _
    rw [WordCmp.cmpi_eq_eq]
    by_cases h : n = m
    · rw [if_pos h, h, decide_eq_true rfl]; rfl
    · rw [if_neg h, decide_eq_false fun e => h ?_]; · rfl
      have e' := congrArg BitVec.toNat e
      rwa [wd_toNat (by omega), wd_toNat (by omega)] at e'
  rw [show (0#32 : BitVec 32) = wd 0 from rfl, show (1#32 : BitVec 32) = wd 1 from rfl, show (2#32 : BitVec 32) = wd 2 from rfl, show (3#32 : BitVec 32) = wd 3 from rfl,
    hc 0 (by decide), hc 1 (by decide), hc 2 (by decide), hc 3 (by decide)]
  have z1 : ∀ w : BitVec 32, Scalar.select 1#1 w (wd 0) = w := fun _ => rfl
  have z0 : ∀ w : BitVec 32, Scalar.select 0#1 w (wd 0) = wd 0 := fun _ => rfl
  have p0 : ∀ w : BitVec 32, Scalar.addi w (wd 0) = w := fun w => BitVec.add_zero w
  have q0 : ∀ w : BitVec 32, Scalar.addi (wd 0) w = w := fun w => BitVec.zero_add w
  match n, hn with
  | 0, _ => simp [z1, z0, p0, q0]
  | 1, _ => simp [z1, z0, p0, q0]
  | 2, _ => simp [z1, z0, p0, q0]
  | 3, _ => simp [z1, z0, p0, q0]
  | n + 4, _ =>
    rw [if_neg (by omega), if_neg (by omega), if_neg (by omega), if_neg (by omega), dif_neg (by omega)]
    simp only [z0, p0]

/-- One destination's lane added to what the others gave. -/
def lane (acc : IVec S1x128 32) (v : Vec F S16x128 .i32) (w : BitVec 32) : IVec S1x128 32 :=
  addi acc (select (cmpi .eq (iota .tc S1x128 32 [1] iota_S1x128_d1_w32) (broadcast S1x128 w)) (broadcast S1x128 (tally v w)) (broadcast S1x128 0#32))

theorem pay1_eq (v : Vec F S16x128 .i32) : k0_pay1 v v = lane (lane (broadcast S1x128 0#32) v 0#32) v 1#32 := rfl
theorem pay2_eq (acc : IVec S1x128 32) (v : Vec F S16x128 .i32) :
    k0_pay2 (F := F) (iota .tc S1x128 32 [1] iota_S1x128_d1_w32) acc v v = shapeCast S1x128 (lane (lane acc v 2#32) v 3#32) shapeCasts_S1x128_S1x128 := rfl

theorem lane_apply (acc : IVec S1x128 32) (v : Vec F S16x128 .i32) (w : BitVec 32) (x : S1x128.Idx) :
    lane acc v w x = Scalar.addi (acc x) (Scalar.select (Scalar.cmpi .eq (wd (x 1).val) w) (tally v w) 0#32) := by
  have hi : iota .tc S1x128 32 [1] iota_S1x128_d1_w32 x = wd (x 1).val := by
    show BitVec.ofNat 32 (0 * 128 + (x 1).val) = _
    rw [Nat.zero_mul, Nat.zero_add]
  rw [← hi]
  unfold lane
  generalize tally v w = t
  generalize iota .tc S1x128 32 [1] iota_S1x128_d1_w32 = n
  rfl

/-- The row of counts that a device stores, computed from its own table. -/
theorem count_row (v : Vec F S16x128 .i32) (D : Dest) (s : Fin 4) (hv : ∀ x : S16x128.Idx, v x = wd (D s (lin x)).val) (x : S1x128.Idx) :
    k0_pay2 (F := F) (iota .tc S1x128 32 [1] iota_S1x128_d1_w32) (k0_pay1 v v) v v x
      = if h : (x 1).val < 4 then wd (D.cnt s ⟨(x 1).val, h⟩ 2048) else 0#32 := by
  have hx : (x 1).val < 128 := (x 1).isLt
  have t : ∀ r : Fin 4, tally v (wd r.val) = wd (D.cnt s r 2048) := fun r => by rw [tally_eq v (D s) hv r, Dest.cnt_all]
  have hs : Shape.reshapeEquiv shapeCasts_S1x128_S1x128 x = x := Shape.reshapeEquiv_self _ x
  refine Eq.trans ?_ ((lanes (x 1).val hx (fun r => wd (D.cnt s r 2048))))
  rw [pay1_eq, pay2_eq]
  unfold shapeCast
  rw [hs, lane_apply, lane_apply, lane_apply, lane_apply]
  rw [show tally v 0#32 = _ from t 0, show tally v 1#32 = _ from t 1, show tally v 2#32 = _ from t 2, show tally v 3#32 = _ from t 3]
  rfl

end Cert.Proof
-- ==== Proof.CountSend.lean ====
/- The exchange of the counts, and the copies of the two tables into scalar memory. -/
module

public import proofs.«01_k».proof.Proof.CountRow

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- Device `c`'s row of the counts. -/
abbrev crowM (c : Dev nD) : Memref sig .tc .vmem S1x128 .i32 :=
  cM.slice (Rect.unit (s := S4x128) (k0_off2 c) S1x128.size (k0_off2_inb c)) (fun _ => rfl)

theorem unit_crow {o : Fin 2 → ℕ} {h : ∀ a, o a + S1x128.size a ≤ S4x128.size a} {n : ℕ} (ho : o = ![n, 0]) :
    (Rect.unit (s := S4x128) o S1x128.size h).set = crowSet n := by
  subst ho
  ext x
  rw [Rect.mem_set_unit, mem_crowSet]
  constructor
  · intro hx
    have h2 : n ≤ (x 0).val ∧ (x 0).val < n + 1 := hx 0
    omega
  · intro hx a
    match a with
    | 0 => exact (show n ≤ (x 0).val ∧ (x 0).val < n + 1 by omega)
    | 1 =>
      have hl : (x 1).val < 128 := (x 1).isLt
      exact (show 0 ≤ (x 1).val ∧ (x 1).val < 0 + 128 by omega)

theorem set_crowM (c : Dev nD) : (crowM c).view.set = crowSet (zr c).val := (View.set_slice_whole cc0_scratch0 _).trans (unit_crow (k0_off2_eq c))

/-- What is copied to the same view of another buffer of the kind. -/
theorem copied_same {κ : Kind} {sp : Space} {s : Shape} {e : EltTy} (v : View sig κ sp s e) (fd fs : v.ref.ty.Contents (Elt F)) (x : v.ref.ty.Idx) (hx : x ∈ v.set) :
    v.write (Elt F) fd (v.read (Elt F) fs) Finset.univ x = fs x := by
  obtain ⟨y, -, rfl⟩ := Finset.mem_map.mp hx
  rw [View.write_emb_of_mem _ _ (Finset.mem_univ y), View.read_apply, cast_cast, cast_eq]

variable (A : Inp F)

/-- The members of a four agree on the counts. -/
theorem cm_peer (c : Dev nD) (s : Fin 4) : A.cm (peer c s) = A.cm c := by
  unfold Inp.cm; rw [grp_peer]

/-- A row of counts to device `q`, and the waits. -/
def cntTo (c q : Dev nD) : TpuEff nD τ sig (Elt F) Λ₀ .tc PUnit :=
  .enqueueDma (crowM c) (.remote (Dev.tc q) (crowM c) (sm 1)) (sm 2) (View.wordExact_bits rfl) (View.wordExact_bits rfl) ⟨⟨rfl, Or.inl rfl⟩, trivial⟩
def waitCnt (c : Dev nD) : TpuEff nD τ sig (Elt F) Λ₀ .tc PUnit :=
  .waitDma2 cc0_scratch5.sem (crowM c) (crowM c) (View.wordExact_bits rfl) (View.wordExact_bits rfl)
def waitCntSent (c : Dev nD) : TpuEff nD τ sig (Elt F) Λ₀ .tc PUnit :=
  .waitDma2 cc0_scratch4.sem (crowM c) (crowM c) (View.wordExact_bits rfl) (View.wordExact_bits rfl)

theorem wait_cnt (c : Dev nD) (Q : PUnit → sProp 𝕄) :
    wpE (defs₀ (F := F)) 𝒱₀ (c : Thread nD τ) none Set.univ (waitCnt c) Q = waitSpec (c : Thread nD τ) Set.univ (sm 2) (amt 2) Q := by
  have e : sm 2 = .dma cc0_scratch5.sem := by decide
  rw [e]; unfold waitCnt; exact wpE_waitDma2_eq 𝒱₀ (c : Thread nD τ) none Set.univ Q
theorem wait_cntSent (c : Dev nD) (Q : PUnit → sProp 𝕄) :
    wpE (defs₀ (F := F)) 𝒱₀ (c : Thread nD τ) none Set.univ (waitCntSent c) Q = waitSpec (c : Thread nD τ) Set.univ (sm 1) (amt 1) Q := by
  have e : sm 1 = .dma cc0_scratch4.sem := by decide
  rw [e]; unfold waitCntSent; exact wpE_waitDma2_eq 𝒱₀ (c : Thread nD τ) none Set.univ Q

theorem duty1 (c : Dev nD) {j : Fin 2048} (h : 1 ≤ j.val ∧ j.val ≤ 3) : (zr c, j) ∈ A.rd.duties (cell c 1) 0 := by
  rw [duties_cell]
  show _ ∈ Finset.univ.filter _
  simp only [Finset.mem_filter, Finset.mem_univ, true_and]
  exact h
theorem duty2 (c : Dev nD) {j : Fin 4} (hj : j ≠ 0) : (zr c, 0) ∈ A.rd.duties (cell (peer c (nxt c j)) 2) 0 := by
  rw [duties_cell]
  show _ ∈ Finset.univ.filter _
  simp only [Finset.mem_filter, Finset.mem_univ, true_and, zr_peer, and_true]
  exact fun e => nxt_ne c hj e.symm

theorem sent_set (c : Dev nD) : Inp.duty A c 1 = {(zr c, 1), (zr c, 2), (zr c, 3)} := by
  ext ⟨s, i⟩
  show (s, i) ∈ Finset.univ.filter _ ↔ _
  have h1 : (1 : Fin 2048).val = 1 := rfl
  have h2 : (2 : Fin 2048).val = 2 := rfl
  have h3 : (3 : Fin 2048).val = 3 := rfl
  simp only [Finset.mem_filter, Finset.mem_univ, true_and, Finset.mem_insert, Finset.mem_singleton, Prod.mk.injEq, Fin.ext_iff, h1, h2, h3]
  omega

theorem sent_distinct : (1 : Fin 2048) ≠ 2 ∧ (1 : Fin 2048) ≠ 3 ∧ (2 : Fin 2048) ≠ 3 := by decide

theorem sent_card (c : Dev nD) : (A.duty c 1).card = 3 := by
  obtain ⟨h12, h13, h23⟩ := sent_distinct
  rw [sent_set, Finset.card_insert_of_notMem (by simp [h12, h13]), Finset.card_insert_of_notMem (by simp [h23]), Finset.card_singleton]

theorem sent_all {M : Type} [URA M] (c : Dev nD) (Φ : Dt → sProp M) : bigSep (A.duty c 1) Φ = iprop(Φ (zr c, 1) ∗ Φ (zr c, 2) ∗ Φ (zr c, 3)) := by
  obtain ⟨h12, h13, h23⟩ := sent_distinct
  rw [sent_set, bigSep_insert (by simp [h12, h13]), bigSep_insert (by simp [h23]), bigSep_singleton]
  rfl

/-- The three shares of the own counts. -/
theorem thirds (c : Dev nD) (n : ℕ) (f : (cc0_scratch0 : Ref sig .tc).ty.Contents (Elt F)) :
    (crow fullShare c n f : sProp 𝕄) = iprop(crow (cshare 1) c n f ∗ crow (cshare 2) c n f ∗ crow (cshare 3) c n f) := by
  have e : ∀ q : PosShare TreeShare, (crow q c n f : sProp 𝕄) = iprop(crow q.left c n f ∗ crow q.right c n f) := fun q =>
    BI.Entails.antisymm (pointsTo_share (PosShare.mem_left_op_right q)).1 (pointsTo_share (PosShare.mem_left_op_right q)).2
  unfold cshare
  rw [e fullShare, e (fullShare : PosShare TreeShare).right]
  rfl

/-- The message to the device `j` places on. -/
theorem cnt_run (K : GSem nD τ sig → ℕ) (c : Dev nD) {j : Fin 4} (hj : j ≠ 0) {i : Fin 2048} (hi : i.val = j.val) {O₀ : CellTallies nD τ sig Unit} (O : CellTallies nD τ sig Unit)
    (hO : O₀ = O + toNxt c j 2 Ncnt) {W : Waits sig Unit} {α : Type} (k : PUnit → Prog (TpuEff nD τ sig (Elt F) Λ₀ .tc) α) (Q : α → sProp 𝕄) :
    iprop(A.recs K ∗ reached ER (cell c 1) 0 ∗ reached ER (cell (peer c (nxt c j)) 2) 0
        ∗ owes (c : Thread nD τ) O₀ W ∗ dutyTok ER (cell c 1) 0 (zr c, i) ∗ dutyTok ER (cell (peer c (nxt c j)) 2) 0 (zr c, 0)
        ∗ crow (cshare j.val) c (zr c).val (A.cm c) ∗ (∃ f, crow fullShare (peer c (nxt c j)) (zr c).val f))
      ⊢ iprop(((cred (tallyAt (cell c 1) () (amt 1)) ∗ owes (c : Thread nD τ) O W) -∗ wp frame (wpE (defs₀ (F := F)) 𝒱₀ c none) Set.univ (k ⟨⟩) Q)
        -∗ wp frame (wpE (defs₀ (F := F)) 𝒱₀ c none) Set.univ (.op (cntTo c (peer c (nxt c j))) k) Q) := by
  have hj0 : j.val ≠ 0 := fun e => hj (Fin.ext e)
  have hj3 := j.isLt
  unfold Inp.recs cntTo
  iintro ⟨⟨#HI, -⟩, #R1, #R2, HO, T1, T2, Hc, ⟨%f, Hd⟩⟩ Hk
  iapply (Rounds.wp_send_pointsTo 𝒱₀ ER A.rd (c : Thread nD τ) none (c' := (peer c (nxt c j) : Thread nD τ)) (src := crowM c)
      (dst := crowM c) (sS := sm 1) (sem := sm 2) (q := cshare j.val) (fs := A.cm c)
      (κ₁ := K (cell c 1)) (κ₂ := K (cell (peer c (nxt c j)) 2)) (r₁ := 0) (r₂ := 0) (d₁ := (zr c, i)) (d₂ := (zr c, 0)) (fd := f)
      (duty1 A c (by omega)) (duty2 A c hj) () () Ncnt rfl (amount_cell A c 1 _) (amount_cell A _ 2 _) O hO (W := W)
      (by
        rw [payload_cell A c 1]
        show _ ⊢ crow (cshare i.val) c (zr c).val (A.cm c)
        rw [hi]
        exact Entails.of_eq (by rw [set_crowM]))
      (by
        rw [payload_cell A _ 2]
        show _ ⊢ crow fullShare (peer c (nxt c j)) (zr c).val (A.cm (peer c (nxt c j)))
        rw [cm_peer]
        refine Entails.of_eq ((pointsTo_congr fun x hx => copied_same (crowM c).view f (A.cm c) x hx).trans ?_)
        rw [set_crowM])) $$ [Hc Hd HO T1 T2]
  · isplitr; · iapply HI $$ %c %1
    isplitr; · iapply HI $$ %_ %2
    isplitl [Hc]; · rw [set_crowM]; iexact Hc
    isplitl [Hd]; · rw [set_crowM]; iexact Hd
    isplitl [HO]; · iexact HO
    isplitl [T1]; · iexact T1
    isplitr; · iexact R1
    isplitl [T2]; · iexact T2
    iexact R2
  iintro ⟨Hc, HO⟩
  iapply Hk
  isplitl [Hc]; · iexact Hc
  iexact HO

end Cert.Proof
-- ==== Proof.Tables.lean ====
/- The copies of the destination table and of the counts into scalar memory, and the row of counts a device stores. -/
module

public import proofs.«01_k».proof.Proof.CountSend

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- The two copies and their waits. -/
def tabCopy : TpuEff nD τ sig (Elt F) Λ₀ .tc PUnit :=
  .enqueueDma dM (.here tS) (sm 6) (Memref.isWhole_whole cc0_stg1_0).wordExact (Memref.isWhole_whole cc0_scratch2).wordExact ⟨Or.inl rfl, trivial⟩
def cntCopy : TpuEff nD τ sig (Elt F) Λ₀ .tc PUnit :=
  .enqueueDma cM (.here nS) (sm 7) (Memref.isWhole_whole cc0_scratch0).wordExact (Memref.isWhole_whole cc0_scratch1).wordExact ⟨Or.inl rfl, trivial⟩
def tabWait : TpuEff nD τ sig (Elt F) Λ₀ .tc PUnit :=
  .waitDma2 (⟨8, by decide⟩ : DmaSem sig) dM tS (Memref.isWhole_whole cc0_stg1_0).wordExact (Memref.isWhole_whole cc0_scratch2).wordExact
def cntWait : TpuEff nD τ sig (Elt F) Λ₀ .tc PUnit :=
  .waitDma2 (⟨9, by decide⟩ : DmaSem sig) cM nS (Memref.isWhole_whole cc0_scratch0).wordExact (Memref.isWhole_whole cc0_scratch1).wordExact

theorem wait_tab (c : Dev nD) (Q : PUnit → sProp 𝕄) :
    wpE (defs₀ (F := F)) 𝒱₀ (c : Thread nD τ) none Set.univ tabWait Q = waitSpec (c : Thread nD τ) Set.univ (sm 6) (amt 6) Q := by
  have e : sm 6 = .dma (⟨8, by decide⟩ : DmaSem sig) := by decide
  rw [e]; unfold tabWait; exact wpE_waitDma2_eq 𝒱₀ (c : Thread nD τ) none Set.univ Q
theorem wait_mat (c : Dev nD) (Q : PUnit → sProp 𝕄) :
    wpE (defs₀ (F := F)) 𝒱₀ (c : Thread nD τ) none Set.univ cntWait Q = waitSpec (c : Thread nD τ) Set.univ (sm 7) (amt 7) Q := by
  have e : sm 7 = .dma (⟨9, by decide⟩ : DmaSem sig) := by decide
  rw [e]; unfold cntWait; exact wpE_waitDma2_eq 𝒱₀ (c : Thread nD τ) none Set.univ Q

variable (A : Inp F)

theorem duty6 (c : Dev nD) : (zr c, 0) ∈ A.rd.duties (cell c 6) 0 := by
  rw [duties_cell]; exact Finset.mem_singleton_self _
theorem duty7 (c : Dev nD) : (zr c, 0) ∈ A.rd.duties (cell c 7) 0 := by
  rw [duties_cell]; exact Finset.mem_singleton_self _

theorem tab_written (f g) : tS.view.write (Elt F) f (dM.view.read (Elt F) g) Finset.univ = g := by
  funext x
  exact (View.write_emb_of_mem (v := tS.view) f _ (Finset.mem_univ x)).trans (by rw [View.read_apply]; rfl)
theorem mat_written (f g) : nS.view.write (Elt F) f (cM.view.read (Elt F) g) Finset.univ = g := by
  funext x
  exact (View.write_emb_of_mem (v := nS.view) f _ (Finset.mem_univ x)).trans (by rw [View.read_apply]; rfl)

theorem tab_run (K : GSem nD τ sig → ℕ) (c : Dev nD) (f : (cc0_scratch2 : Ref sig .tc).ty.Contents (Elt F)) {α : Type} (k : PUnit → Prog (TpuEff nD τ sig (Elt F) Λ₀ .tc) α) (Q : α → sProp 𝕄) :
    iprop(A.recs K ∗ reached ER (cell c 6) 0 ∗ dutyTok ER (cell c 6) 0 (zr c, 0) ∗ ((c : Thread nD τ).loc cc0_stg1_0 ↦{(fullShare : PosShare TreeShare).left} A.dw c) ∗ ((c : Thread nD τ).loc cc0_scratch2 ↦{fullShare} f))
      ⊢ iprop((cred (tallyAt (cell c 6) () (amt 6)) -∗ wp frame (wpE (defs₀ (F := F)) 𝒱₀ c none) Set.univ (k ⟨⟩) Q)
        -∗ wp frame (wpE (defs₀ (F := F)) 𝒱₀ c none) Set.univ (.op tabCopy k) Q) := by
  unfold Inp.recs tabCopy
  iintro ⟨⟨#HI, -⟩, #R, T, Hd, Ht⟩ Hk
  iapply (Rounds.wp_copy_pointsTo 𝒱₀ ER A.rd (c : Thread nD τ) none (src := dM) (dst := tS) (sem := sm 6) (q := (fullShare : PosShare TreeShare).left) (fs := A.dw c) (fd := f) (r := 0) (d := (zr c, 0))
      (κ := K (cell c 6)) (duty6 A c) () Ntab rfl (amount_cell A c 6 _)
      (by
        rw [payload_cell A c 6, tab_written, View.set_whole, View.set_whole]
        exact Entails.refl _)) $$ [Hd Ht T]
  · isplitr; · iapply HI $$ %c %6
    isplitl [Hd]; · rw [View.set_whole]; iexact Hd
    isplitl [Ht]; · rw [View.set_whole]; iexact Ht
    isplitl [T]; · iexact T
    iexact R
  iexact Hk

theorem mat_run (K : GSem nD τ sig → ℕ) (c : Dev nD) (f : (cc0_scratch1 : Ref sig .tc).ty.Contents (Elt F)) {α : Type} (k : PUnit → Prog (TpuEff nD τ sig (Elt F) Λ₀ .tc) α) (Q : α → sProp 𝕄) :
    iprop(A.recs K ∗ reached ER (cell c 7) 0 ∗ dutyTok ER (cell c 7) 0 (zr c, 0) ∗ ((c : Thread nD τ).loc cc0_scratch0 ↦{fullShare} A.cm c) ∗ ((c : Thread nD τ).loc cc0_scratch1 ↦{fullShare} f))
      ⊢ iprop((cred (tallyAt (cell c 7) () (amt 7)) -∗ wp frame (wpE (defs₀ (F := F)) 𝒱₀ c none) Set.univ (k ⟨⟩) Q)
        -∗ wp frame (wpE (defs₀ (F := F)) 𝒱₀ c none) Set.univ (.op cntCopy k) Q) := by
  unfold Inp.recs cntCopy
  iintro ⟨⟨#HI, -⟩, #R, T, Hd, Ht⟩ Hk
  iapply (Rounds.wp_copy_pointsTo 𝒱₀ ER A.rd (c : Thread nD τ) none (src := cM) (dst := nS) (sem := sm 7) (q := fullShare) (fs := A.cm c) (fd := f) (r := 0) (d := (zr c, 0))
      (κ := K (cell c 7)) (duty7 A c) () Nmat rfl (amount_cell A c 7 _)
      (by
        rw [payload_cell A c 7, mat_written, View.set_whole, View.set_whole]
        exact Entails.refl _)) $$ [Hd Ht T]
  · isplitr; · iapply HI $$ %c %7
    isplitl [Hd]; · rw [View.set_whole]; iexact Hd
    isplitl [Ht]; · rw [View.set_whole]; iexact Ht
    isplitl [T]; · iexact T
    iexact R
  iexact Hk

/-- What a load of the whole table gives. -/
abbrev tabVec (c : Dev nD) : Vec F S16x128 .i32 :=
  (dM.access (Rect.unit (s := S16x128) ![0, 0] S16x128.size inb_S16x128_S16x128_0_0)).read (Elt F) (A.dw c)

theorem tabVec_apply (c : Dev nD) (x : S16x128.Idx) : tabVec A c x = wd (grp A.D c (zr c) (lin x)).val := by
  rw [grp_own]
  have e0 : ((dM.access (Rect.unit (s := S16x128) ![0, 0] S16x128.size inb_S16x128_S16x128_0_0)).emb x 0).val = (x 0).val := by
    show 0 + 1 * (x 0).val = _; omega
  have e1 : ((dM.access (Rect.unit (s := S16x128) ![0, 0] S16x128.size inb_S16x128_S16x128_0_0)).emb x 1).val = (x 1).val := by
    show 0 + 1 * (x 1).val = _; omega
  show A.dw c ((dM.access (Rect.unit (s := S16x128) ![0, 0] S16x128.size inb_S16x128_S16x128_0_0)).emb x) = _
  unfold Inp.dw
  have el : lin ((dM.access (Rect.unit (s := S16x128) ![0, 0] S16x128.size inb_S16x128_S16x128_0_0)).emb x) = lin x := Fin.ext (by
    unfold lin; exact congrArg₂ (fun a b => a * 128 + b) e0 e1)
  exact congrArg (fun i => wd (A.D c i).val) el

/-- A load of the table. -/
theorem loadTab (c : Dev nD) (q : PosShare TreeShare) {α : Type} (k : Vec F S16x128 .i32 → Prog (TpuEff nD τ sig (Elt F) Λ₀ .tc) α) (Q : α → sProp 𝕄)
    {hl : dM.view.LoadsAt (Rect.unit (s := S16x128) ![0, 0] S16x128.size inb_S16x128_S16x128_0_0).toLoadRect} :
    ((c : Thread nD τ).loc cc0_stg1_0 ↦{q} A.dw c : sProp 𝕄)
      ⊢ iprop((((c : Thread nD τ).loc cc0_stg1_0 ↦{q} A.dw c) -∗ wp frame (wpE (defs₀ (F := F)) 𝒱₀ c none) Set.univ (k (tabVec A c)) Q)
        -∗ wp frame (wpE (defs₀ (F := F)) 𝒱₀ c none) Set.univ (.op (.load dM (Rect.unit (s := S16x128) ![0, 0] S16x128.size inb_S16x128_S16x128_0_0).toLoadRect hl) k) Q) := by
  exact wp_load_rect 𝒱₀ (c : Thread nD τ) none Set.univ (m := dM) (r := Rect.unit (s := S16x128) ![0, 0] S16x128.size inb_S16x128_S16x128_0_0) (S := Finset.univ) (f := A.dw c) (Finset.subset_univ _)

/-- The rectangle of the own row of counts. -/
abbrev ownRect (c : Dev nD) : Rect S4x128 := Rect.unit (s := S4x128) (k0_off1 c) S1x128.size (k0_off1_inb c)

theorem set_ownRect (c : Dev nD) : (cM.access (ownRect c)).set = crowSet (zr c).val := (View.set_slice_whole cc0_scratch0 _).trans (unit_crow (k0_off1_eq c))

/-- The row of counts a device computes. -/
abbrev ownCounts (c : Dev nD) : IVec S1x128 32 :=
  k0_pay2 (F := F) (iota .tc S1x128 32 [1] iota_S1x128_d1_w32) (k0_pay1 (tabVec A c) (tabVec A c)) (tabVec A c) (tabVec A c)

theorem own_written (c : Dev nD) (f : (cc0_scratch0 : Ref sig .tc).ty.Contents (Elt F)) (x : S4x128.Idx) (hx : x ∈ crowSet (zr c).val) :
    (cM.access (ownRect c)).write (Elt F) f (ownCounts A c) Finset.univ x = A.cm c x := by
  rw [← set_ownRect c] at hx
  obtain ⟨y, -, rfl⟩ := Finset.mem_map.mp hx
  rw [View.write_emb_of_mem _ _ (Finset.mem_univ y)]
  have e0 : ((cM.access (ownRect c)).emb y 0).val = (zr c).val := by
    have hy : (y 0).val < 1 := (y 0).isLt
    show k0_off1 c 0 + 1 * (y 0).val = c.val % 4
    rw [k0_off1_eq]
    show c.val % 4 + 1 * (y 0).val = c.val % 4
    omega
  have e1 : ((cM.access (ownRect c)).emb y 1).val = (y 1).val := by
    show k0_off1 c 1 + 1 * (y 1).val = _
    rw [k0_off1_eq]
    show 0 + 1 * (y 1).val = _
    omega
  refine Eq.trans (b := ownCounts A c y) rfl ?_
  rw [show ownCounts A c y = _ from count_row (tabVec A c) (grp A.D c) (zr c) (tabVec_apply A c) y]
  unfold Inp.cm
  simp only [e1]
  by_cases h : (y 1).val < 4
  · rw [dif_pos h, dif_pos h]
    exact congrArg (fun s => wd ((grp A.D c).cnt s ⟨(y 1).val, h⟩ 2048)) (Fin.ext e0.symm)
  · rw [dif_neg h, dif_neg h]

/-- The printed part that finishes the counting and stores the row. -/
theorem part3_run (c : Dev nD) (v2 v5 v8 : BitVec 32) (q : PosShare TreeShare) (f : (cc0_scratch0 : Ref sig .tc).ty.Contents (Elt F)) (Q : PUnit → sProp 𝕄) :
    iprop(((c : Thread nD τ).loc cc0_stg1_0 ↦{q} A.dw c) ∗ crow fullShare c (zr c).val f)
      ⊢ iprop((((c : Thread nD τ).loc cc0_stg1_0 ↦{q} A.dw c) -∗ crow fullShare c (zr c).val (A.cm c) -∗ Q ⟨⟩)
        -∗ wp frame (wpE (defs₀ (F := F)) 𝒱₀ c none) Set.univ (atBufs (k0_part3 (F := F)) c v2 v5 v8 (iota .tc S1x128 32 [1] iota_S1x128_d1_w32)
          (k0_pay1 (tabVec A c) (tabVec A c)) (tabVec A c)) Q) := by
  rw [k0_part3_eq_skeleton]; unfold k0_part3_skel
  iintro ⟨HD, HC⟩ Hk
  iapply (loadTab A c q) $$ HD
  iintro HD
  iapply (wp_load_rect 𝒱₀ (c : Thread nD τ) none Set.univ (m := cM) (r := ownRect c) (S := crowSet (zr c).val) (f := f) (set_ownRect c).le) $$ HC
  iintro HC
  iapply (wp_store 𝒱₀ (c : Thread nD τ) none Set.univ (m := cM) (r := ownRect c) (w := ownCounts A c) (Mk := Finset.univ) (S := crowSet (zr c).val) (f := f) (set_ownRect c).le) $$ HC
  iintro HC
  iapply (Entails.of_eq (wp_ret frame (wpE (defs₀ (F := F)) 𝒱₀ (c : Thread nD τ) none) Set.univ _ _).symm)
  imodintro
  iapply Hk $$ HD
  iapply (Entails.of_eq (pointsTo_congr (own_written A c f)))
  iexact HC

end Cert.Proof
-- ==== Proof.Exchange.lean ====
/- The printed parts that come before the row loop: the words to the others, the counting, the exchange of the counts. -/
module

public import proofs.«01_k».proof.Proof.Tables
public import proofs.«01_k».proof.Proof.RowParts

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

variable (A : Inp F)

/-- What a device knows from the start. -/
def Inp.know (K : GSem nD τ sig → ℕ) (c : Dev nD) : sProp 𝕄 :=
  iprop(A.recs K ∗ (∀ k, reached ER (cell c k) 0) ∗ ∀ s, reached ER (cell (peer c s) 0) 0)

instance know_persistent (K : GSem nD τ sig → ℕ) (c : Dev nD) : BI.Persistent (A.know K c : sProp 𝕄) := by unfold Inp.know; infer_instance

/-- The first two words. -/
theorem part1_run (K : GSem nD τ sig → ℕ) (c : Dev nD) {W : Waits sig Unit}
    (Q : (Σ' (_ : Dev nD) (_ : BitVec 32) (_ : BitVec 32) (_ : BitVec 32) (_ : Sems sig S_) (_ : BitVec 32) (_ : BitVec 32), BitVec 32) → sProp 𝕄) :
    iprop(A.know K c ∗ owes (c : Thread nD τ) (A.O₀ c) W
        ∗ dutyTok ER (cell (peer c (nxt c 1)) 0) 0 (zr c, 0) ∗ A.piece c (nxt c 1) ∗ dutyTok ER (cell (peer c (nxt c 2)) 0) 0 (zr c, 0) ∗ A.piece c (nxt c 2))
      ⊢ iprop((owes (c : Thread nD τ) (A.owedCnt c + toNxt c 3 0 1) W -∗ ∀ v2, ∀ v5, ∀ v27, ∀ v29, ∀ v30,
          Q ⟨c, v2, v5, wd (zr c).val, SemArray.scalar (sig.barrier 0 rfl), v27, v29, v30⟩)
        -∗ wp frame (wpE (defs₀ (F := F)) 𝒱₀ c none) Set.univ (atBufs (k0_part1 (F := F))) Q) := by
  rw [k0_part1_eq_skeleton]; unfold k0_part1_skel Inp.know
  iintro ⟨⟨#HR, #Ho, #Hb⟩, HO, T1, P1, T2, P2⟩ Hk
  iapply (Entails.of_eq (wp_deviceId 𝒱₀ (c : Thread nD τ) none Set.univ).symm)
  iapply (signal_run A K c (j := 1) (by decide) (q := ⟨k0_dev1 c, k0_dev1_lt c⟩) (Fin.ext (dev1_eq c)) (A.owedCnt c + toNxt c 3 0 1 + toNxt c 2 0 1) rfl) $$ [HO T1 P1]
  · isplitr; · iexact HR
    isplitr; · iapply Ho $$ %2
    isplitr; · iapply Ho $$ %4
    isplitr; · iapply Hb $$ %_
    isplitl [HO]; · iexact HO
    isplitl [T1] <;> iassumption
  iintro HO
  iapply (signal_run A K c (j := 2) (by decide) (q := ⟨k0_dev2 c, k0_dev2_lt c⟩) (Fin.ext (dev2_eq c)) (A.owedCnt c + toNxt c 3 0 1) rfl) $$ [HO T2 P2]
  · isplitr; · iexact HR
    isplitr; · iapply Ho $$ %2
    isplitr; · iapply Ho $$ %4
    isplitr; · iapply Hb $$ %_
    isplitl [HO]; · iexact HO
    isplitl [T2] <;> iassumption
  iintro HO
  iapply (Entails.of_eq (wp_ret frame (wpE (defs₀ (F := F)) 𝒱₀ (c : Thread nD τ) none) Set.univ _ _).symm)
  imodintro
  rw [place_word c]
  iapply Hk $$ HO

/-- The last word, the wait for the others', and the beginning of the counting. -/
theorem part2_run (K : GSem nD τ sig → ℕ) (c : Dev nD) (v27 v29 v30 : BitVec 32) {W : Waits sig Unit} (f : (cc0_scratch2 : Ref sig .tc).ty.Contents (Elt F))
    (Q : (Σ' (_ : IVec S1x128 32) (_ : IVec S1x128 32), Vec F S16x128 .i32) → sProp 𝕄) :
    iprop(A.know K c ∗ owes (c : Thread nD τ) (A.owedCnt c + toNxt c 3 0 1) W ∗ dutyTok ER (cell (peer c (nxt c 3)) 0) 0 (zr c, 0) ∗ A.piece c (nxt c 3)
        ∗ A.drain c 0 0 3 ∗ ((c : Thread nD τ).loc cc0_stg1_0 ↦{fullShare} A.dw c) ∗ ((c : Thread nD τ).loc cc0_scratch2 ↦{fullShare} f) ∗ dutyTok ER (cell c 6) 0 (zr c, 0))
      ⊢ iprop(((semVal (cell c 0) 0 ∗ A.barPay c (nxt c 1) ∗ A.barPay c (nxt c 2) ∗ A.barPay c (nxt c 3) ∗ (∃ W, owes (c : Thread nD τ) (A.owedCnt c) W)
            ∗ cred (tallyAt (cell c 6) () (amt 6)) ∗ ((c : Thread nD τ).loc cc0_stg1_0 ↦{(fullShare : PosShare TreeShare).right} A.dw c))
          -∗ Q ⟨iota .tc S1x128 32 [1] iota_S1x128_d1_w32, k0_pay1 (tabVec A c) (tabVec A c), tabVec A c⟩)
        -∗ wp frame (wpE (defs₀ (F := F)) 𝒱₀ c none) Set.univ (atBufs (k0_part2 (F := F)) c (SemArray.scalar (sig.barrier 0 rfl)) v27 v29 v30) Q) := by
  rw [k0_part2_eq_skeleton]; unfold k0_part2_skel Inp.know
  iintro ⟨⟨#HR, #Ho, #Hb⟩, HO, T3, P3, D0, Hd, Ht, T6⟩ Hk
  ihave Hd := (pointsTo_share (PosShare.mem_left_op_right fullShare)).1 $$ Hd
  icases Hd with ⟨HdL, Hd⟩
  iapply (signal_run A K c (j := 3) (by decide) (q := ⟨k0_dev3 c, k0_dev3_lt c⟩) (Fin.ext (dev3_eq c)) (A.owedCnt c) rfl) $$ [HO T3 P3]
  · isplitr; · iexact HR
    isplitr; · iapply Ho $$ %2
    isplitr; · iapply Ho $$ %4
    isplitr; · iapply Hb $$ %_
    isplitl [HO]; · iexact HO
    isplitl [T3] <;> iassumption
  iintro HO
  iapply (ready_run A K c) $$ [D0 HO]
  · isplitr; · iexact HR
    isplitl [D0]; · iexact D0
    iexists _; iexact HO
  iintro ⟨Hv, B1, B2, B3, HO⟩
  iapply (tab_run A K c f) $$ [T6 HdL Ht]
  · isplitr; · iexact HR
    isplitr; · iapply Ho $$ %6
    isplitl [T6]; · iexact T6
    isplitl [HdL] <;> iassumption
  iintro C6
  iapply (loadTab A c _) $$ Hd
  iintro Hd
  iapply (loadTab A c _) $$ Hd
  iintro Hd
  iapply (loadTab A c _) $$ Hd
  iintro Hd
  iapply (Entails.of_eq (wp_ret frame (wpE (defs₀ (F := F)) 𝒱₀ (c : Thread nD τ) none) Set.univ _ _).symm)
  imodintro
  iapply Hk
  isplitl [Hv]; · iexact Hv
  isplitl [B1]; · iexact B1
  isplitl [B2]; · iexact B2
  isplitl [B3]; · iexact B3
  isplitl [HO]; · iexact HO
  isplitl [C6] <;> iassumption

/-- The messages to three devices, and a wait. -/
def cntProg (c q1 q2 q3 : Dev nD) (v2 : BitVec 32) : Prog (TpuEff nD τ sig (Elt F) Λ₀ .tc) (Σ' (_ : BitVec 32), BitVec 32) :=
  .op (cntTo c q1) fun _ => .op (cntTo c q2) fun _ => .op (cntTo c q3) fun _ => .op (waitCnt c) fun _ => .ret ⟨Scalar.muli v2 8#32, 0#32⟩

theorem part4_eq (c : Dev nD) (v2 v5 v8 : BitVec 32) :
    atBufs (k0_part4 (F := F)) c v2 v5 v8 = cntProg c (peer c (nxt c 1)) (peer c (nxt c 2)) (peer c (nxt c 3)) v2 := by
  rw [← show (⟨k0_dev4 c, k0_dev4_lt c⟩ : Dev nD) = peer c (nxt c 1) from Fin.ext (dev4_eq c),
    ← show (⟨k0_dev5 c, k0_dev5_lt c⟩ : Dev nD) = peer c (nxt c 2) from Fin.ext (dev5_eq c),
    ← show (⟨k0_dev6 c, k0_dev6_lt c⟩ : Dev nD) = peer c (nxt c 3) from Fin.ext (dev6_eq c)]
  rfl

/-- The messages with the counts, and the first wait. -/
theorem part4_run (K : GSem nD τ sig → ℕ) (c : Dev nD) (v2 v5 v8 : BitVec 32) {W : Waits sig Unit} (Q : (Σ' (_ : BitVec 32), BitVec 32) → sProp 𝕄) :
    iprop(A.know K c ∗ (reached ER (cell (peer c (nxt c 1)) 2) 0 ∗ reached ER (cell (peer c (nxt c 2)) 2) 0 ∗ reached ER (cell (peer c (nxt c 3)) 2) 0)
        ∗ owes (c : Thread nD τ) (A.owedCnt c) W ∗ (dutyTok ER (cell c 1) 0 (zr c, 1) ∗ dutyTok ER (cell c 1) 0 (zr c, 2) ∗ dutyTok ER (cell c 1) 0 (zr c, 3))
        ∗ (dutyTok ER (cell (peer c (nxt c 1)) 2) 0 (zr c, 0) ∗ dutyTok ER (cell (peer c (nxt c 2)) 2) 0 (zr c, 0) ∗ dutyTok ER (cell (peer c (nxt c 3)) 2) 0 (zr c, 0))
        ∗ crow fullShare c (zr c).val (A.cm c)
        ∗ ((∃ f, crow fullShare (peer c (nxt c 1)) (zr c).val f) ∗ (∃ f, crow fullShare (peer c (nxt c 2)) (zr c).val f) ∗ (∃ f, crow fullShare (peer c (nxt c 3)) (zr c).val f))
        ∗ A.drain c 1 0 0 ∗ A.drain c 2 0 3)
      ⊢ iprop(((A.drain c 1 0 3 ∗ A.drain c 2 1 2 ∗ ∃ W, owes (c : Thread nD τ) (A.owedRows c 0) W) -∗ ∀ v140, Q ⟨v140, 0#32⟩)
        -∗ wp frame (wpE (defs₀ (F := F)) 𝒱₀ c none) Set.univ (atBufs (k0_part4 (F := F)) c v2 v5 v8) Q) := by
  rw [part4_eq]; unfold cntProg Inp.know
  rw [thirds c (zr c).val (A.cm c)]
  iintro ⟨⟨#HR, #Ho, -⟩, ⟨#R1, #R2, #R3⟩, HO, ⟨S1, S2, S3⟩, ⟨T1, T2, T3⟩, ⟨G1, G2, G3⟩, ⟨B1, B2, B3⟩, D1, D2⟩ Hk
  iapply (cnt_run A K c (j := 1) (by decide) (i := 1) rfl (A.owedRows c 0 + toNxt c 3 2 Ncnt + toNxt c 2 2 Ncnt) rfl) $$ [HO S1 T1 G1 B1]
  · isplitr; · iexact HR
    isplitr; · iapply Ho $$ %1
    isplitr; · iexact R1
    isplitl [HO]; · iexact HO
    isplitl [S1]; · iexact S1
    isplitl [T1]; · iexact T1
    isplitl [G1]; · iexact G1
    iexact B1
  iintro ⟨C1, HO⟩
  ihave D1 := (drain_cred A c 1 0 0) $$ [D1 C1]
  · isplitl [D1]; · iexact D1
    iexact C1
  iapply (cnt_run A K c (j := 2) (by decide) (i := 2) rfl (A.owedRows c 0 + toNxt c 3 2 Ncnt) rfl) $$ [HO S2 T2 G2 B2]
  · isplitr; · iexact HR
    isplitr; · iapply Ho $$ %1
    isplitr; · iexact R2
    isplitl [HO]; · iexact HO
    isplitl [S2]; · iexact S2
    isplitl [T2]; · iexact T2
    isplitl [G2]; · iexact G2
    iexact B2
  iintro ⟨C1, HO⟩
  ihave D1 := (drain_cred A c 1 0 1) $$ [D1 C1]
  · isplitl [D1]; · iexact D1
    iexact C1
  iapply (cnt_run A K c (j := 3) (by decide) (i := 3) rfl (A.owedRows c 0) rfl) $$ [HO S3 T3 G3 B3]
  · isplitr; · iexact HR
    isplitr; · iapply Ho $$ %1
    isplitr; · iexact R3
    isplitl [HO]; · iexact HO
    isplitl [S3]; · iexact S3
    isplitl [T3]; · iexact T3
    isplitl [G3]; · iexact G3
    iexact B3
  iintro ⟨C1, HO⟩
  ihave D1 := (drain_cred A c 1 0 2) $$ [D1 C1]
  · isplitl [D1]; · iexact D1
    iexact C1
  unfold Inp.recs
  icases HR with ⟨#HI, #Hl⟩
  iapply (drain_wait A K c 2 0 2 (Above.rows A c 0) (by decide) (op := waitCnt c) rfl (wait_cnt c)) $$ [D2 HO]
  · isplitr; · iapply HI $$ %c %2
    isplitr; · iexact Hl
    isplitl [D2]; · iexact D2
    iexists _; iexact HO
  iintro ⟨D2, HO⟩
  iapply (Entails.of_eq (wp_ret frame (wpE (defs₀ (F := F)) 𝒱₀ (c : Thread nD τ) none) Set.univ _ _).symm)
  imodintro
  iapply Hk $$ [D1 D2 HO]
  isplitl [D1]; · iexact D1
  isplitl [D2] <;> iassumption

/-- The rows of counts that come with the payments make the whole table. -/
theorem whole_counts (c : Dev nD) :
    iprop((bigSep (A.duty c 1) fun d => A.pay c d 1) ∗ (bigSep (A.duty c 2) fun d => A.pay c d 2)) ⊢ ((c : Thread nD τ).loc cc0_scratch0 ↦{fullShare} A.cm c : sProp 𝕄) := by
  rw [sent_all, crows c fullShare (A.cm c), four c]
  have e2 : (bigSep (A.duty c 2) fun d => A.pay c d 2) = iprop(A.pay c (nxt c 1, 0) 2 ∗ A.pay c (nxt c 2, 0) 2 ∗ A.pay c (nxt c 3, 0) 2) := others c _
  rw [e2]
  refine BI.sep_mono ?_ (Entails.refl _)
  exact Entails.of_eq (thirds c (zr c).val (A.cm c)).symm

/-- The remaining waits for counts, and the copies of the tables. -/
theorem part5_run (K : GSem nD τ sig → ℕ) (c : Dev nD) (v2 v5 v140 c0 : BitVec 32) (f : (cc0_scratch1 : Ref sig .tc).ty.Contents (Elt F)) (Q : BitVec 1 → sProp 𝕄) :
    iprop(A.know K c ∗ A.drain c 1 0 3 ∗ A.drain c 2 1 2 ∗ A.drain c 6 0 1 ∗ A.drain c 7 0 0 ∗ (∃ W, owes (c : Thread nD τ) (A.owedRows c 0) W)
        ∗ dutyTok ER (cell c 7) 0 (zr c, 0) ∗ ((c : Thread nD τ).loc cc0_stg1_0 ↦{(fullShare : PosShare TreeShare).right} A.dw c) ∗ ((c : Thread nD τ).loc cc0_scratch1 ↦{fullShare} f))
      ⊢ iprop(((semVal (cell c 1) 0 ∗ semVal (cell c 2) 0 ∗ semVal (cell c 6) 0 ∗ semVal (cell c 7) 0 ∗ (∃ W, owes (c : Thread nD τ) (A.owedRows c 0) W)
            ∗ ((c : Thread nD τ).loc cc0_stg1_0 ↦{fullShare} A.dw c) ∗ ((c : Thread nD τ).loc cc0_scratch0 ↦{fullShare} A.cm c)
            ∗ ((c : Thread nD τ).loc cc0_scratch1 ↦{fullShare} A.cm c) ∗ ((c : Thread nD τ).loc cc0_scratch2 ↦{fullShare} A.dw c))
          -∗ Q (Scalar.cmpi .sgt (wd (zr c).val) 0#32))
        -∗ wp frame (wpE (defs₀ (F := F)) 𝒱₀ c none) Set.univ (atBufs (k0_part5 (F := F)) c v2 v5 (wd (zr c).val) v140 c0) Q) := by
  rw [k0_part5_eq_skeleton]; unfold k0_part5_skel Inp.know
  iintro ⟨⟨#HR, #Ho, -⟩, D1, D2, D6, D7, HO, T7, Hd, Hn⟩ Hk
  ihave #HX := (show A.recs K ⊢ iprop((∀ c, ∀ k, A.inv K c k) ∗ levAts L lv) from Entails.refl _) $$ HR
  icases HX with ⟨#HI, #Hl⟩
  iapply (drain_wait A K c 2 1 1 (Above.rows A c 0) (by decide) (op := waitCnt c) rfl (wait_cnt c)) $$ [D2 HO]
  · isplitr; · iapply HI $$ %c %2
    isplitr; · iexact Hl
    isplitl [D2]; · iexact D2
    iexact HO
  iintro ⟨D2, HO⟩
  iapply (drain_wait A K c 2 2 0 (Above.rows A c 0) (by decide) (op := waitCnt c) rfl (wait_cnt c)) $$ [D2 HO]
  · isplitr; · iapply HI $$ %c %2
    isplitr; · iexact Hl
    isplitl [D2]; · iexact D2
    iexact HO
  iintro ⟨D2, HO⟩
  iapply (drain_wait A K c 1 0 2 (Above.rows A c 0) (by decide) (op := waitCntSent c) rfl (wait_cntSent c)) $$ [D1 HO]
  · isplitr; · iapply HI $$ %c %1
    isplitr; · iexact Hl
    isplitl [D1]; · iexact D1
    iexact HO
  iintro ⟨D1, HO⟩
  iapply (drain_wait A K c 1 1 1 (Above.rows A c 0) (by decide) (op := waitCntSent c) rfl (wait_cntSent c)) $$ [D1 HO]
  · isplitr; · iapply HI $$ %c %1
    isplitr; · iexact Hl
    isplitl [D1]; · iexact D1
    iexact HO
  iintro ⟨D1, HO⟩
  iapply (drain_wait A K c 1 2 0 (Above.rows A c 0) (by decide) (op := waitCntSent c) rfl (wait_cntSent c)) $$ [D1 HO]
  · isplitr; · iapply HI $$ %c %1
    isplitr; · iexact Hl
    isplitl [D1]; · iexact D1
    iexact HO
  iintro ⟨D1, HO⟩
  imod (drain_end A K c 1 3 0 (sent_card A c).symm) $$ [D1] with ⟨V1, P1⟩
  · isplitr; · iapply HI $$ %c %1
    iexact D1
  imod (drain_end A K c 2 3 0 (others_card c).symm) $$ [D2] with ⟨V2, P2⟩
  · isplitr; · iapply HI $$ %c %2
    iexact D2
  ihave Hc := (whole_counts A c) $$ [P1 P2]
  · isplitl [P1]; · iexact P1
    iexact P2
  iapply (mat_run A K c f) $$ [T7 Hc Hn]
  · isplitr; · iexact HR
    isplitr; · iapply Ho $$ %7
    isplitl [T7]; · iexact T7
    isplitl [Hc]; · iexact Hc
    iexact Hn
  iintro C7
  ihave D7 := (drain_cred A c 7 0 0) $$ [D7 C7]
  · isplitl [D7]; · iexact D7
    iexact C7
  iapply (drain_wait A K c 7 0 0 (Above.rows A c 0) (by decide) (op := cntWait) rfl (wait_mat c)) $$ [D7 HO]
  · isplitr; · iapply HI $$ %c %7
    isplitr; · iexact Hl
    isplitl [D7]; · iexact D7
    iexact HO
  iintro ⟨D7, HO⟩
  iapply (drain_wait A K c 6 0 0 (Above.rows A c 0) (by decide) (op := tabWait) rfl (wait_tab c)) $$ [D6 HO]
  · isplitr; · iapply HI $$ %c %6
    isplitr; · iexact Hl
    isplitl [D6]; · iexact D6
    iexact HO
  iintro ⟨D6, HO⟩
  imod (drain_end A K c 6 1 0 rfl) $$ [D6] with ⟨V6, P6⟩
  · isplitr; · iapply HI $$ %c %6
    iexact D6
  imod (drain_end A K c 7 1 0 rfl) $$ [D7] with ⟨V7, P7⟩
  · isplitr; · iapply HI $$ %c %7
    iexact D7
  ihave P6 := (show (bigSep (A.duty c ((6 : Fin 8).val)) fun d => A.pay c d ((6 : Fin 8).val)) ⊢ A.pay c (zr c, 0) 6 from Entails.of_eq (bigSep_singleton (i := (zr c, (0 : Fin 2048))) (Φ := fun d => A.pay c d 6))) $$ P6
  ihave P6 := (show A.pay c (zr c, 0) 6 ⊢ iprop(_ ∗ _) from Entails.refl _) $$ P6
  ihave P7 := (show (bigSep (A.duty c ((7 : Fin 8).val)) fun d => A.pay c d ((7 : Fin 8).val)) ⊢ A.pay c (zr c, 0) 7 from Entails.of_eq (bigSep_singleton (i := (zr c, (0 : Fin 2048))) (Φ := fun d => A.pay c d 7))) $$ P7
  ihave P7 := (show A.pay c (zr c, 0) 7 ⊢ iprop(_ ∗ _) from Entails.refl _) $$ P7
  icases P6 with ⟨Ht, HdL⟩
  icases P7 with ⟨Hn, Hc⟩
  iapply (Entails.of_eq (wp_ret frame (wpE (defs₀ (F := F)) 𝒱₀ (c : Thread nD τ) none) Set.univ _ _).symm)
  imodintro
  iapply Hk
  isplitl [V1]; · iexact V1
  isplitl [V2]; · iexact V2
  isplitl [V6]; · iexact V6
  isplitl [V7]; · iexact V7
  isplitl [HO]; · iexact HO
  isplitl [Hd HdL]
  · iapply (pointsTo_share (PosShare.mem_left_op_right fullShare)).2
    isplitl [HdL] <;> iassumption
  isplitl [Hc]; · iexact Hc
  isplitl [Hn] <;> iassumption

end Cert.Proof
-- ==== Proof.DrainLoop.lean ====
/- The loops that wait for what is still under way. -/
module

public import proofs.«01_k».proof.Proof.Exchange

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

/-- A loop up to a small count makes that many trips. -/
theorem trips_count (a : BitVec 32) {n : ℕ} (hn : n ≤ 4096) (h : a = wd n) :
    (⟨0#32, Scalar.addi 0#32 (Scalar.muli (Scalar.divsi (Scalar.subi a 0#32) 1#32) 1#32), 1#32⟩ : Scf.Loop 32).trips = n := by
  have h0 : Affine.IsInt 0#32 0 := Affine.ofNat _ (by omega)
  have h1 : Affine.IsInt 1#32 1 := Affine.ofNat _ (by omega)
  have ha : Affine.IsInt a (n : ℤ) := by rw [h]; exact Affine.ofNat _ (by omega)
  have h2 := Affine.subi (e := (n : ℤ)) ha h0 (by omega)
  have h3 := Affine.divsi_one (e := (n : ℤ)) h2 h1 (by omega)
  have h4 := Affine.muli (e := (n : ℤ)) h3 h1 (by omega)
  have h5 := Affine.addi (e := (n : ℤ)) h0 h4 (by omega)
  generalize Scalar.addi 0#32 (Scalar.muli (Scalar.divsi (Scalar.subi a 0#32) 1#32) 1#32) = u at h5 ⊢
  have e : u.toInt = n := by unfold Affine.IsInt at h5; exact h5
  show ((u.toInt - (0#32 : BitVec 32).toInt + (1#32 : BitVec 32).toInt - 1) / (1#32 : BitVec 32).toInt).toNat = n
  rw [e]
  have z : (0#32 : BitVec 32).toInt = 0 := rfl
  have o : (1#32 : BitVec 32).toInt = 1 := rfl
  rw [z, o]
  omega

theorem trips17 {a b n : ℕ} (h : a = b + n) (hn : n ≤ 4096) (ha : a < 4294967296) : (k0_t17_loop (wd a) (wd b)).trips = n :=
  trips_count _ hn (by rw [wd_sub (by omega) ha]; congr 1; omega)
theorem trips19 {a b n : ℕ} (h : a = b + n) (hn : n ≤ 4096) (ha : a < 4294967296) : (k0_t19_loop (wd a) (wd b)).trips = n :=
  trips_count _ hn (by rw [wd_sub (by omega) ha]; congr 1; omega)

/-- A loop without trips. -/
theorem skipLoop_run (c : Dev nD) {l : Scf.Loop 32} (hl : l.trips ≤ 0) {hok : l.OK} {σ : Type} {init : σ} {body : Fin l.trips → σ → Prog (TpuEff nD τ sig (Elt F) Λ₀ .tc) σ}
    {α : Type} (kk : σ → Prog (TpuEff nD τ sig (Elt F) Λ₀ .tc) α) (Q : α → sProp 𝕄) :
    wp frame (wpE (defs₀ (F := F)) 𝒱₀ c none) Set.univ (kk init) Q ⊢ wp frame (wpE (defs₀ (F := F)) 𝒱₀ c none) Set.univ (Scf.Loop.for l hok init body >>= kk) Q := by
  iintro H
  iapply (Scf.wp_for_bind frame (wpE (defs₀ (F := F)) 𝒱₀ (c : Thread nD τ) none) Set.univ l.lb l.ub l.st hok init body
    (I := fun n st => iprop(⌜st = init⌝ ∗ wp frame (wpE (defs₀ (F := F)) 𝒱₀ c none) Set.univ (kk init) Q)) (kk := kk) (Q := Q) (fun n st => by
      exact absurd n.isLt (by have : Scf.trips l.lb l.ub l.st ≤ 0 := hl; omega))) $$ [H]
  · isplitr; · ipureintro; rfl
    iexact H
  iintro %st ⟨%h, H⟩
  rw [h]
  iexact H

variable (A : Inp F)

/-- A loop of waits on one semaphore. -/
theorem drainLoop_run (K : GSem nD τ sig → ℕ) (c : Dev nD) (k : Fin 8) (w n : ℕ) {l : Scf.Loop 32} (hl : l.trips = n) {hok : l.OK}
    {op : TpuEff nD τ sig (Elt F) Λ₀ .tc PUnit} {body : Fin l.trips → Unit → Prog (TpuEff nD τ sig (Elt F) Λ₀ .tc) Unit} (hb : ∀ i s, body i s = .op op fun _ => .ret ())
    {b : ℕ} {O : CellTallies nD τ sig Unit} (hO : Above b O) (hk : lvn k.val ≤ b)
    (hw : ∀ Q : PUnit → sProp 𝕄, wpE (defs₀ (F := F)) 𝒱₀ (c : Thread nD τ) none Set.univ op Q = waitSpec (c : Thread nD τ) Set.univ (sm k) (amt k.val) Q)
    {α : Type} (kk : Unit → Prog (TpuEff nD τ sig (Elt F) Λ₀ .tc) α) (Q : α → sProp 𝕄) :
    iprop(A.recs K ∗ A.drain c k w n ∗ (∃ W, owes (c : Thread nD τ) O W))
      ⊢ iprop(((A.drain c k (w + n) 0 ∗ ∃ W, owes (c : Thread nD τ) O W) -∗ wp frame (wpE (defs₀ (F := F)) 𝒱₀ c none) Set.univ (kk ()) Q)
        -∗ wp frame (wpE (defs₀ (F := F)) 𝒱₀ c none) Set.univ (Scf.Loop.for l hok () body >>= kk) Q) := by
  have hl' : Scf.trips l.lb l.ub l.st = n := hl
  unfold Inp.recs
  iintro ⟨⟨#HI, #Hl⟩, HD, HO⟩ Hk
  iapply (Scf.wp_for_bind frame (wpE (defs₀ (F := F)) 𝒱₀ (c : Thread nD τ) none) Set.univ l.lb l.ub l.st hok () body
    (I := fun m _ => iprop(A.inv K c k ∗ levAts L lv ∗ A.drain c k (w + m) (n - m) ∗ (∃ W, owes (c : Thread nD τ) O W))) (kk := kk) (Q := Q) (fun m st => by
      have hm : m.val < n := hl ▸ m.isLt
      rw [hb]
      obtain ⟨e, he⟩ : ∃ e, n - m.val = e + 1 := ⟨n - m.val - 1, by omega⟩
      rw [he, show n - (m.val + 1) = e by omega]
      iintro ⟨#HI, #Hl, HD, HO⟩
      iapply (drain_wait A K c k (w + m.val) e hO hk rfl hw) $$ [HD HO]
      · isplitr; · iexact HI
        isplitr; · iexact Hl
        isplitl [HD]; · iexact HD
        iexact HO
      iintro ⟨HD, HO⟩
      iapply (Entails.of_eq (wp_ret frame (wpE (defs₀ (F := F)) 𝒱₀ (c : Thread nD τ) none) Set.univ () _).symm)
      imodintro
      isplitr; · iexact HI
      isplitr; · iexact Hl
      isplitl [HD]; · iexact HD
      iexact HO)) $$ [HD HO]
  · isplitr; · iapply HI $$ %c %k
    isplitr; · iexact Hl
    isplitl [HD]; · iexact HD
    iexact HO
  iintro %st ⟨-, -, HD, HO⟩
  iapply Hk
  rw [hl', Nat.sub_self]
  isplitl [HD] <;> iassumption

/-! ## How much each semaphore gets -/

theorem card5 (c : Dev nD) : (A.duty c 5).card = (grp A.D c).cnt (zr c) (zr c) 2048 := by
  rw [Dest.cnt_all]
  show (Finset.univ.filter fun d : Dt => d.1 = zr c ∧ A.D c d.2 = zr c).card = _
  rw [Finset.card_filter, Fintype.sum_prod_type, Finset.card_filter, ← Finset.sum_erase_add Finset.univ _ (Finset.mem_univ (zr c)), Finset.sum_eq_zero, Nat.zero_add]
  · refine Finset.sum_congr rfl fun i _ => ?_
    rw [grp_own]
    simp only [true_and]
  · intro s hs
    exact Finset.sum_eq_zero fun i _ => if_neg fun h => (Finset.ne_of_mem_erase hs) h.1

theorem card3 (c : Dev nD) : (A.duty c 3).card + (A.duty c 5).card = 2048 := by
  show (Finset.univ.filter fun d : Dt => d.1 = zr c ∧ A.D c d.2 ≠ zr c).card + (Finset.univ.filter fun d : Dt => d.1 = zr c ∧ A.D c d.2 = zr c).card = _
  rw [Finset.card_filter, Finset.card_filter, ← Finset.sum_add_distrib, Fintype.sum_prod_type, ← Finset.sum_erase_add Finset.univ _ (Finset.mem_univ (zr c)), Finset.sum_eq_zero, Nat.zero_add]
  · rw [Finset.sum_congr rfl (g := fun _ => 1) fun i _ => by
      by_cases h : A.D c i = zr c <;> simp [h]]
    simp
  · intro s hs
    exact Finset.sum_eq_zero fun i _ => by
      have h := Finset.ne_of_mem_erase hs
      simp [h]

theorem card4 (c : Dev nD) : (A.duty c 4).card = ∑ s : Fin 4, if s = zr c then 0 else (grp A.D c).cnt s (zr c) 2048 := by
  show (Finset.univ.filter fun d : Dt => d.1 ≠ zr c ∧ A.D (peer c d.1) d.2 = zr c).card = _
  rw [Finset.card_filter, Fintype.sum_prod_type]
  refine Finset.sum_congr rfl fun s _ => ?_
  by_cases h : s = zr c
  · rw [if_pos h]
    exact Finset.sum_eq_zero fun i _ => if_neg fun hh => hh.1 h
  · rw [if_neg h, Dest.cnt_all, Finset.card_filter]
    exact Finset.sum_congr rfl fun i _ => if_congr (by show _ ↔ A.D (peer c s) i = zr c; exact ⟨fun hh => hh.2, fun hh => ⟨h, hh⟩⟩) rfl rfl

theorem card4_le (c : Dev nD) : (A.duty c 4).card ≤ 2048 := by
  rw [card4]
  exact (Finset.sum_le_sum fun s _ => by split <;> omega).trans (A.bal c (zr c)).le

/-- A count that is left out for the device's own place. -/
theorem select_own (z s : Fin 4) (n : ℕ) : Scalar.select (Scalar.cmpi .eq (wd z.val) (wd s.val)) 0#32 (wd n) = wd (if s = z then 0 else n) := by
  have h : ∀ z s : Fin 4, Scalar.cmpi .eq (wd z.val) (wd s.val) = if s = z then 1#1 else 0#1 := by decide
  rw [h]
  by_cases hs : s = z
  · rw [if_pos hs, if_pos hs]; rfl
  · rw [if_neg hs, if_neg hs]; rfl

theorem trips21 (c : Dev nD) :
    (k0_t21_loop c (wd ((grp A.D c).cnt 0 (zr c) 2048)) (wd ((grp A.D c).cnt 1 (zr c) 2048)) (wd ((grp A.D c).cnt 2 (zr c) 2048)) (wd ((grp A.D c).cnt 3 (zr c) 2048))).trips
      = (A.duty c 4).card := by
  have hc := card4_le A c
  refine trips_count _ (by omega) ?_
  rw [place_word]
  rw [show (0#32 : BitVec 32) = wd (0 : Fin 4).val from rfl, show (1#32 : BitVec 32) = wd (1 : Fin 4).val from rfl, show (2#32 : BitVec 32) = wd (2 : Fin 4).val from rfl,
    show (3#32 : BitVec 32) = wd (3 : Fin 4).val from rfl]
  have e : (wd (0 : Fin 4).val : BitVec 32) = 0#32 := rfl
  have s0 := select_own (zr c) 0 ((grp A.D c).cnt 0 (zr c) 2048)
  have s1 := select_own (zr c) 1 ((grp A.D c).cnt 1 (zr c) 2048)
  have s2 := select_own (zr c) 2 ((grp A.D c).cnt 2 (zr c) 2048)
  have s3 := select_own (zr c) 3 ((grp A.D c).cnt 3 (zr c) 2048)
  rw [← e] at s0 s1 s2 s3
  rw [s0, s1, s2, s3, show (wd (0 : Fin 4).val : BitVec 32) = wd 0 from rfl, wd_add, wd_add, wd_add, wd_add, card4, Fin.sum_univ_four]
  congr 1
  omega

/-- The waits for the rows sent and copied, and the reading of how many are to come. -/
theorem part10_run (K : GSem nD τ sig → ℕ) (c : Dev nD) (a b d e : BitVec 32)
    (Q : (Σ' (v282 : Elt F .i32) (v287 : Elt F .i32) (v292 : Elt F .i32) (_ : BitVec 32) (_ : BitVec 1) (v297 : Elt F .i32), k0_chk35 c v282 v287 v292 v297) → sProp 𝕄) :
    iprop(A.recs K ∗ A.rowState c (128 * 16) (a, b, d, e) ∗ ((c : Thread nD τ).loc cc0_scratch1 ↦{fullShare} A.cm c))
      ⊢ iprop(((semVal (cell c 3) 0 ∗ semVal (cell c 5) 0 ∗ (bigSep (A.duty c 3) fun d => A.pay c d 3) ∗ (bigSep (A.duty c 5) fun d => A.pay c d 5)
            ∗ (∃ W, owes (c : Thread nD τ) 0 W) ∗ ((c : Thread nD τ).loc cc0_scratch1 ↦{fullShare} A.cm c)
            ∗ ((c : Thread nD τ).loc cc0_scratch2 ↦{fullShare} A.dw c) ∗ ((c : Thread nD τ).loc cc0_scratch3 ↦{fullShare} A.cur c 2048))
          -∗ ∀ v294, ∀ v295, ∀ h, Q ⟨wd ((grp A.D c).cnt 0 (zr c) 2048), wd ((grp A.D c).cnt 1 (zr c) 2048), wd ((grp A.D c).cnt 2 (zr c) 2048), v294, v295, wd ((grp A.D c).cnt 3 (zr c) 2048), h⟩)
        -∗ wp frame (wpE (defs₀ (F := F)) 𝒱₀ c none) Set.univ (atBufs (k0_part10 (F := F)) c (wd (zr c).val) a b d e) Q) := by
  rw [k0_part10_eq_skeleton]; unfold k0_part10_skel Inp.rowState
  iintro ⟨#HR, ⟨%ws, %n, %wo, %m, %hst, Ht, Hr, D3, D5, -, HO⟩, Hn⟩ Hk
  obtain ⟨hn, hc, he⟩ := hst
  simp only [Prod.mk.injEq] at he
  obtain ⟨rfl, rfl, rfl, rfl⟩ := he
  have c5 := card5 A c
  have c3 := card3 A c
  replace hc : wo + m = (grp A.D c).cnt (zr c) (zr c) 2048 := hc
  rw [owedRows_end]
  iapply (wp_assume 𝒱₀ (c : Thread nD τ) none Set.univ (k0_chk34_all _ _))
  iapply (wp_assume 𝒱₀ (c : Thread nD τ) none Set.univ (k0_chk33_all _ _))
  iapply (drainLoop_run A K c 3 ws n (trips17 rfl (by omega) (by omega)) (op := waitSent) (fun _ _ => rfl) (Above.zero 2) (le_refl _) (wait_sent c)) $$ [D3 HO]
  · isplitr; · iexact HR
    isplitl [D3]; · iexact D3
    iexact HO
  iintro ⟨D3, HO⟩
  iapply (skipLoop_run c (k0_t18_abs _ _).2.1)
  iapply (drainLoop_run A K c 5 wo m (trips19 rfl (by omega) (by omega)) (op := waitOwn) (fun _ _ => rfl) (Above.zero 2) (le_refl _) (wait_own c)) $$ [D5 HO]
  · isplitr; · iexact HR
    isplitl [D5]; · iexact D5
    iexact HO
  iintro ⟨D5, HO⟩
  iapply (skipLoop_run c (k0_t20_abs _ _).2.1)
  iapply (load_cm A c 0 (zr c) (k0_off99_eq c)) $$ Hn
  iintro Hn
  iapply (load_cm A c 1 (zr c) (k0_off100_eq c)) $$ Hn
  iintro Hn
  iapply (load_cm A c 2 (zr c) (k0_off101_eq c)) $$ Hn
  iintro Hn
  iapply (load_cm A c 3 (zr c) (k0_off102_eq c)) $$ Hn
  iintro Hn
  iapply (wp_assume 𝒱₀ (c : Thread nD τ) none Set.univ (k0_chk35_all c _ _ _ _))
  unfold Inp.recs
  icases HR with ⟨#HI, -⟩
  imod (drain_end A K c 3 (ws + n) 0 (by show _ = (A.duty c 3).card; omega)) $$ [D3] with ⟨V3, P3⟩
  · isplitr; · iapply HI $$ %c %3
    iexact D3
  imod (drain_end A K c 5 (wo + m) 0 (by show _ = (A.duty c 5).card; omega)) $$ [D5] with ⟨V5, P5⟩
  · isplitr; · iapply HI $$ %c %5
    iexact D5
  iapply (Entails.of_eq (wp_ret frame (wpE (defs₀ (F := F)) 𝒱₀ (c : Thread nD τ) none) Set.univ _ _).symm)
  imodintro
  ihave Hk := Hk $$ [V3 V5 P3 P5 HO Hn Ht Hr]
  · isplitl [V3]; · iexact V3
    isplitl [V5]; · iexact V5
    isplitl [P3]; · iexact P3
    isplitl [P5]; · iexact P5
    isplitl [HO]; · iexact HO
    isplitl [Hn]; · iexact Hn
    isplitl [Ht]; · iexact Ht
    iexact Hr
  iapply Hk $$ %_ %_ %(k0_chk35_all c _ _ _ _)

/-- The wait for one row to come. -/
def waitRow : TpuEff nD τ sig (Elt F) Λ₀ .tc PUnit :=
  .waitDma2 cc0_scratch7.sem (rowOf xM ![0, 0] inb_S2048x1024_S1x1024_0_0) (rowOf oM ![0, 0] inb_S2048x1024_S1x1024_0_0) (View.wordExact_bits rfl) (View.wordExact_bits rfl)
theorem wait_row (c : Dev nD) (Q : PUnit → sProp 𝕄) :
    wpE (defs₀ (F := F)) 𝒱₀ (c : Thread nD τ) none Set.univ waitRow Q = waitSpec (c : Thread nD τ) Set.univ (sm 4) (amt 4) Q := by
  have e : sm 4 = .dma cc0_scratch7.sem := by decide
  rw [e]; unfold waitRow; exact wpE_waitDma2_eq 𝒱₀ (c : Thread nD τ) none Set.univ Q

end Cert.Proof
-- ==== Proof.Assemble.lean ====
/- Gathering the places that the others grant, and the rows that have come. -/
module

public import proofs.«01_k».proof.Proof.DrainLoop

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

variable (A : Inp F)

/-- The places granted for the rows bound for place `s`. -/
def Inp.granted (c : Dev nD) (s : Fin 4) : sProp 𝕄 := bigSep (A.going c s) fun i => iprop(∃ f, orow (peer c s) (A.place c i) f)

theorem granted_all (c : Dev nD) :
    iprop(A.granted c (zr c) ∗ A.granted c (nxt c 1) ∗ A.granted c (nxt c 2) ∗ A.granted c (nxt c 3))
      = bigSep Finset.univ fun i => iprop(∃ f, orow (peer c (A.D c i)) (A.place c i) f) := by
  rw [← four c (A.granted c), ← by_dest (A.D c)]
  refine bigSep_congr fun s _ => ?_
  refine bigSep_congr fun i hi => ?_
  rw [(Finset.mem_filter.mp hi).2]

/-- Everything the row loop starts from. -/
theorem rows_ready (c : Dev nD) :
    iprop((A.granted c (zr c) ∗ A.granted c (nxt c 1) ∗ A.granted c (nxt c 2) ∗ A.granted c (nxt c 3)) ∗ ((c : Thread nD τ).loc cc0_stg0_0 ↦{fullShare} A.X c)
        ∗ bigSep Finset.univ (A.rowTok c)) ⊢ A.rowsFrom c 0 := by
  rw [granted_all, xrows c (A.X c)]
  have e : A.rowsFrom c 0 = iprop((bigSep Finset.univ fun i => iprop(∃ f, orow (peer c (A.D c i)) (A.place c i) f)) ∗ (bigSep Finset.univ fun i : Fin 2048 => xrow c i.val (A.X c)) ∗ bigSep Finset.univ (A.rowTok c)) := by
    unfold Inp.rowsFrom
    rw [show (Finset.univ.filter fun i : Fin 2048 => 0 ≤ i.val) = Finset.univ from Finset.filter_true_of_mem fun _ _ => Nat.zero_le _]
    unfold Inp.rowRes
    exact (bigSep_sep' _ _ _).trans (congrArg (fun P : sProp 𝕄 => iprop((bigSep Finset.univ fun i => iprop(∃ f, orow (peer c (A.D c i)) (A.place c i) f)) ∗ P)) (bigSep_sep' _ _ _))
  rw [e]

/-- Payments of the device itself, by their row. -/
theorem by_row {M : Type} [URA M] (c : Dev nD) (P : Fin 2048 → Prop) [DecidablePred P] (Φ : Dt → sProp M) :
    bigSep (Finset.univ.filter fun d : Dt => d.1 = zr c ∧ P d.2) Φ = bigSep (Finset.univ.filter P) fun i => Φ (zr c, i) := by
  have e : (Finset.univ.filter fun d : Dt => d.1 = zr c ∧ P d.2) = (Finset.univ.filter P).map ⟨fun i => (zr c, i), fun i j h => (Prod.mk.inj h).2⟩ := by
    ext ⟨s, i⟩
    simp only [Finset.mem_filter, Finset.mem_univ, _root_.true_and, Finset.mem_map, Function.Embedding.coeFn_mk, Prod.mk.injEq]
    constructor
    · intro h; exact ⟨i, h.2, congrArg (·, i) h.1.symm⟩
    · intro ⟨j, h, e⟩; exact ⟨(Prod.mk.inj e).1.symm, (Prod.mk.inj e).2 ▸ h⟩
  rw [e, bigSep_map]; rfl

/-- The rows that came, that stayed and that went make the result and the rows' buffer. -/
theorem rows_done (c : Dev nD) :
    iprop((bigSep (A.duty c 3) fun d => A.pay c d 3) ∗ (bigSep (A.duty c 5) fun d => A.pay c d 5) ∗ (bigSep (A.duty c 4) fun d => A.pay c d 4))
      ⊢ iprop(((c : Thread nD τ).loc cc0_stg0_0 ↦{fullShare} A.X c) ∗ ((c : Thread nD τ).loc cc0_stg2_0 ↦{fullShare} A.G c) : sProp 𝕄) := by
  have e3 : (bigSep (A.duty c 3) fun d => A.pay c d 3) = bigSep (Finset.univ.filter fun i => ¬ A.D c i = zr c) fun i => xrow c i.val (A.X c) := by_row c (fun i => ¬ A.D c i = zr c) _
  have e5 : (bigSep (A.duty c 5) fun d => A.pay c d 5) = iprop((bigSep (A.duty c 5) fun d => orow c ((grp A.D c).pos d.1 d.2) (A.G c))
      ∗ bigSep (Finset.univ.filter fun i => A.D c i = zr c) fun i => xrow c i.val (A.X c)) := by
    refine (bigSep_sep' (A.duty c 5) (fun d => orow c (A.place c d.2) (A.G c)) (fun d => xrow c d.2.val (A.X c))).trans ?_
    refine congrArg₂ (fun P Q : sProp 𝕄 => iprop(P ∗ Q)) (bigSep_congr fun d hd => ?_) (by_row c (fun i => A.D c i = zr c) _)
    have hd' : d.1 = zr c ∧ A.D c d.2 = zr c := (Finset.mem_filter.mp hd).2
    rw [hd'.1]; rfl
  have ex : ((c : Thread nD τ).loc cc0_stg0_0 ↦{fullShare} A.X c : sProp 𝕄)
      = iprop((bigSep (Finset.univ.filter fun i => A.D c i = zr c) fun i => xrow c i.val (A.X c)) ∗ bigSep (Finset.univ.filter fun i => ¬ A.D c i = zr c) fun i => xrow c i.val (A.X c)) := by
    rw [xrows c (A.X c)]
    exact bigSep_filter_split _ _
  have eo : ((c : Thread nD τ).loc cc0_stg2_0 ↦{fullShare} A.G c : sProp 𝕄)
      = iprop((bigSep (A.duty c 5) fun d => orow c ((grp A.D c).pos d.1 d.2) (A.G c)) ∗ bigSep (A.duty c 4) fun d => A.pay c d 4) := by
    have es : (grp A.D c).rowsTo (zr c) = A.duty c 5 ∪ A.duty c 4 := by
      ext ⟨s, i⟩
      show (s, i) ∈ (grp A.D c).rowsTo (zr c) ↔ (s, i) ∈ (Finset.univ.filter fun d : Dt => d.1 = zr c ∧ A.D c d.2 = zr c) ∪ (Finset.univ.filter fun d : Dt => d.1 ≠ zr c ∧ A.D (peer c d.1) d.2 = zr c)
      rw [Dest.mem_rowsTo, Finset.mem_union]
      simp only [Finset.mem_filter, Finset.mem_univ, _root_.true_and]
      show A.D (peer c s) i = zr c ↔ _
      by_cases h : s = zr c
      · subst h; rw [peer_zr]; simp
      · simp [h]
    have hd : Disjoint (A.duty c 5) (A.duty c 4) := Finset.disjoint_left.mpr fun d h5 h4 => (Finset.mem_filter.mp h4).2.1 (Finset.mem_filter.mp h5).2.1
    rw [orows A c (A.G c), es, bigSep_union hd]
    rfl
  rw [e3, e5, ex, eo]
  iintro ⟨H3, ⟨Ho, Hx⟩, H4⟩
  isplitl [H3 Hx]
  · isplitl [Hx] <;> iassumption
  isplitl [Ho] <;> iassumption

end Cert.Proof
-- ==== Proof.Body.lean ====
/- The whole kernel on one device. -/
module

public import proofs.«01_k».proof.Proof.Assemble

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

variable (A : Inp F)

/-- What the device may signal or send. -/
def Inp.toks (c : Dev nD) : sProp 𝕄 :=
  iprop((dutyTok ER (cell (peer c (nxt c 1)) 0) 0 (zr c, 0) ∗ dutyTok ER (cell (peer c (nxt c 2)) 0) 0 (zr c, 0) ∗ dutyTok ER (cell (peer c (nxt c 3)) 0) 0 (zr c, 0))
    ∗ (dutyTok ER (cell c 1) 0 (zr c, 1) ∗ dutyTok ER (cell c 1) 0 (zr c, 2) ∗ dutyTok ER (cell c 1) 0 (zr c, 3))
    ∗ (dutyTok ER (cell (peer c (nxt c 1)) 2) 0 (zr c, 0) ∗ dutyTok ER (cell (peer c (nxt c 2)) 2) 0 (zr c, 0) ∗ dutyTok ER (cell (peer c (nxt c 3)) 2) 0 (zr c, 0))
    ∗ dutyTok ER (cell c 6) 0 (zr c, 0) ∗ dutyTok ER (cell c 7) 0 (zr c, 0) ∗ bigSep Finset.univ (A.rowTok c))

/-- Its own semaphores, nothing waited for yet. -/
def Inp.drains (c : Dev nD) : sProp 𝕄 :=
  iprop(A.drain c 0 0 3 ∗ A.drain c 1 0 0 ∗ A.drain c 2 0 3 ∗ A.drain c 3 0 0 ∗ A.drain c 4 0 (A.duty c 4).card ∗ A.drain c 5 0 0 ∗ A.drain c 6 0 0 ∗ A.drain c 7 0 0)

/-- Its own semaphores at zero. -/
def Inp.zeros (_ : Inp F) (c : Dev nD) : sProp 𝕄 :=
  iprop(semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0)

/-- The scratch buffers. -/
def Inp.scratch (_ : Inp F) (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

theorem body_run (K : GSem nD τ sig → ℕ) (c : Dev nD) {W : Waits sig Unit} (f : (cc0_stg2_0 : Ref sig .tc).ty.Contents (Elt F)) (Q : PUnit → sProp 𝕄) :
    iprop(A.know K c ∗ owes (c : Thread nD τ) (A.O₀ c) W ∗ A.toks c ∗ A.drains c ∗ A.scratch c
        ∗ ((c : Thread nD τ).loc cc0_stg0_0 ↦{fullShare} A.X c) ∗ ((c : Thread nD τ).loc cc0_stg1_0 ↦{fullShare} A.dw c) ∗ ((c : Thread nD τ).loc cc0_stg2_0 ↦{fullShare} f))
      ⊢ iprop(((∃ W, owes (c : Thread nD τ) 0 W) -∗ A.zeros c -∗ A.scratch c
          -∗ ((c : Thread nD τ).loc cc0_stg0_0 ↦{fullShare} A.X c) -∗ ((c : Thread nD τ).loc cc0_stg1_0 ↦{fullShare} A.dw c) -∗ ((c : Thread nD τ).loc cc0_stg2_0 ↦{fullShare} A.G c) -∗ Q ⟨⟩)
        -∗ wp frame (wpE (defs₀ (F := F)) 𝒱₀ c none) Set.univ (atBufs (cc0_body (F := F))) Q) := by
  rw [cc0_body_eq_skeleton]; unfold cc0_body_skel Inp.toks Inp.drains Inp.scratch
  iintro ⟨#HK, HO, ⟨⟨B1, B2, B3⟩, ⟨S1, S2, S3⟩, ⟨T1, T2, T3⟩, T6, T7, TR⟩, ⟨D0, D1, D2, D3, D4, D5, D6, D7⟩, ⟨⟨%g0, M0⟩, ⟨%g1, M1⟩, ⟨%g2, M2⟩, ⟨%g3, M3⟩⟩, HX, HD, HG⟩ Hk
  ihave HP := (pieces A c f g0) $$ [HG M0]
  · isplitl [HG] <;> iassumption
  ihave HP := (Entails.of_eq (four c (A.piece c))) $$ HP
  icases HP with ⟨P0, P1, P2, P3⟩
  ihave #HKn := (show A.know K c ⊢ iprop(A.recs K ∗ (∀ k, reached ER (cell c k) 0) ∗ ∀ s, reached ER (cell (peer c s) 0) 0) from Entails.refl _) $$ HK
  icases HKn with ⟨#HR, #Ho, -⟩
  rw [wp_bind]
  iapply (part1_run A K c) $$ [HO B1 P1 B2 P2]
  · isplitr; · iexact HK
    isplitl [HO]; · iexact HO
    isplitl [B1]; · iexact B1
    isplitl [P1]; · iexact P1
    isplitl [B2]; · iexact B2
    iexact P2
  iintro HO %v2 %v5 %v27 %v29 %v30
  beta_reduce; dsimp only; rw [wp_bind]
  iapply (part2_run A K c v27 v29 v30 g2) $$ [HO B3 P3 D0 HD M2 T6]
  · isplitr; · iexact HK
    isplitl [HO]; · iexact HO
    isplitl [B3]; · iexact B3
    isplitl [P3]; · iexact P3
    isplitl [D0]; · iexact D0
    isplitl [HD]; · iexact HD
    isplitl [M2]; · iexact M2
    iexact T6
  unfold Inp.barPay
  iintro ⟨Z0, ⟨C1, G1, #R1, #I1⟩, ⟨C2, G2, #R2, #I2⟩, ⟨C3, G3, #R3, #I3⟩, ⟨%W1, HO⟩, Cr, HD⟩
  ihave D6 := (drain_cred A c 6 0 0) $$ [D6 Cr]
  · isplitl [D6]; · iexact D6
    iexact Cr
  unfold Inp.piece
  icases P0 with ⟨⟨%g, C0⟩, G0⟩
  (try dsimp only); rw [wp_bind]
  iapply (part3_run A c v2 v5 (wd (zr c).val) _ g) $$ [HD C0]
  · isplitl [HD] <;> iassumption
  iintro HD C0
  (try dsimp only); rw [wp_bind]
  iapply (part4_run A K c v2 v5 (wd (zr c).val)) $$ [HO S1 S2 S3 T1 T2 T3 C0 C1 C2 C3 D1 D2]
  · isplitr; · iexact HK
    isplitr
    · isplitr; · iexact R1
      isplitr; · iexact R2
      iexact R3
    isplitl [HO]; · iexact HO
    isplitl [S1 S2 S3]
    · isplitl [S1]; · iexact S1
      isplitl [S2]; · iexact S2
      iexact S3
    isplitl [T1 T2 T3]
    · isplitl [T1]; · iexact T1
      isplitl [T2]; · iexact T2
      iexact T3
    isplitl [C0]; · iexact C0
    isplitl [C1 C2 C3]
    · isplitl [C1]; · iexact C1
      isplitl [C2]; · iexact C2
      iexact C3
    isplitl [D1]; · iexact D1
    iexact D2
  iintro ⟨D1, D2, HO⟩ %v140
  (try dsimp only); rw [wp_bind]
  iapply (part5_run A K c v2 v5 v140 0#32 g1) $$ [D1 D2 D6 D7 HO T7 HD M1]
  · isplitr; · iexact HK
    isplitl [D1]; · iexact D1
    isplitl [D2]; · iexact D2
    isplitl [D6]; · iexact D6
    isplitl [D7]; · iexact D7
    isplitl [HO]; · iexact HO
    isplitl [T7]; · iexact T7
    isplitl [HD]; · iexact HD
    iexact M1
  iintro ⟨Z1, Z2, Z6, Z7, HO, HD, M0, M1, M2⟩
  (try dsimp only); rw [wp_bind]
  iapply (part6_run A c g3) $$ [M1 M3]
  · isplitl [M1]; · iexact M1
    rw [setTo_zero]; iexact M3
  iintro M1 M3
  (try dsimp only); rw [wp_bind]
  iapply (part7_run A c g3) $$ [M1 M3]
  · isplitl [M1] <;> iassumption
  iintro M1 M3
  ihave #HKr : A.rowKnow K c $$ []
  · unfold Inp.rowKnow
    isplitr; · iexact HR
    isplitr; · iapply Ho $$ %3
    isplitr; · iapply Ho $$ %5
    iintro %s
    rcases (show s = zr c ∨ s = nxt c 1 ∨ s = nxt c 2 ∨ s = nxt c 3 from by
      have h : ∀ z s : Fin 4, s = z ∨ s = z + 1 ∨ s = z + 2 ∨ s = z + 3 := by decide
      exact h (zr c) s) with rfl | rfl | rfl | rfl
    · rw [peer_zr]; iapply Ho $$ %4
    · iexact I1
    · iexact I2
    · iexact I3
  ihave HRows := (rows_ready A c) $$ [G0 G1 G2 G3 HX TR]
  · isplitl [G0 G1 G2 G3]
    · isplitl [G0]; · unfold Inp.granted; rw [peer_zr]; iexact G0
      isplitl [G1]; · unfold Inp.granted; iexact G1
      isplitl [G2]; · unfold Inp.granted; iexact G2
      unfold Inp.granted; iexact G3
    isplitl [HX]; · iexact HX
    iexact TR
  (try dsimp only); rw [wp_bind]
  iapply (part8_run A K c v2 v5 g3) $$ [M1 M3 M2 D3 D5 HRows HO]
  · isplitr; · iexact HKr
    isplitl [M1]; · iexact M1
    isplitl [M3]; · iexact M3
    iintro M3
    unfold Inp.rowState
    iexists 0, 0, 0, 0
    isplitr
    · ipureintro
      exact ⟨rfl, (Dest.cnt_zero _ _ _).symm, rfl⟩
    isplitl [M2]; · iexact M2
    isplitl [M3]; · iexact M3
    isplitl [D3]; · iexact D3
    isplitl [D5]; · iexact D5
    isplitl [HRows]; · iexact HRows
    iexact HO
  iintro M1 %a1 %a2 %a3 %a4 HS
  (try dsimp only); rw [wp_bind]
  iapply (part9_run A K c v2 v5 a1 a2 a3 a4) $$ [HS]
  · isplitr; · iexact HKr
    iexact HS
  iintro %b1 %b2 %b3 %b4 HS
  (try dsimp only); rw [wp_bind]
  iapply (part10_run A K c b1 b2 b3 b4) $$ [HS M1]
  · isplitr; · iexact HR
    isplitl [HS]; · iexact HS
    iexact M1
  iintro ⟨Z3, Z5, Y3, Y5, HO, M1, M2, M3⟩ %v294 %v295 %hw
  try dsimp only
  iapply (drainLoop_run A K c 4 0 (A.duty c 4).card (trips21 A c) (op := waitRow) (fun _ _ => rfl) (Above.zero 3) (by decide) (wait_row c)) $$ [D4 HO]
  · isplitr; · iexact HR
    isplitl [D4]; · iexact D4
    iexact HO
  iintro ⟨D4, HO⟩
  iapply (skipLoop_run c (k0_t22_abs c _ _ _ _).2.1)
  iapply (Entails.of_eq (wp_ret frame (wpE (defs₀ (F := F)) 𝒱₀ (c : Thread nD τ) none) Set.univ _ _).symm)
  ihave #HRn := (show A.recs K ⊢ iprop((∀ c, ∀ k, A.inv K c k) ∗ levAts L lv) from Entails.refl _) $$ HR
  icases HRn with ⟨#HI, -⟩
  imod (drain_end A K c 4 _ _ (Nat.zero_add _)) $$ [D4] with ⟨Z4, Y4⟩
  · isplitr; · iapply HI $$ %c %4
    iexact D4
  imodintro
  ihave HXG := (rows_done A c) $$ [Y3 Y5 Y4]
  · isplitl [Y3]; · iexact Y3
    isplitl [Y5]; · iexact Y5
    iexact Y4
  icases HXG with ⟨HX, HG⟩
  iapply Hk $$ [HO] [Z0 Z1 Z2 Z3 Z4 Z5 Z6 Z7] [M0 M1 M2 M3] [HX] [HD] [HG]
  · iexact HO
  · unfold Inp.zeros
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  · isplitl [M0]; · iexists _; iexact M0
    isplitl [M1]; · iexists _; iexact M1
    isplitl [M2]; · iexists _; iexact M2
    iexists _; iexact M3
  · iexact HX
  · iexact HD
  · iexact HG

end Cert.Proof
-- ==== Proof.Region.lean ====
/- The kernel as a region of the program: what enters it on each device and what leaves it. -/
module

public import proofs.«01_k».proof.Proof.Body
public import Idealize.ShloMosaic.Lib.StableHlo
public import Idealize.ShloMosaic.Lib.Pipeline.RegionTalk
public import Idealize.ShloMosaic.Lib.Pipeline.Value

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Idealize.ShloMosaic.Pipeline (Dat BodyObligation)
open Cert.KernelIdeal Cert.KernelIdeal.Gen

variable {F : FTy → Type} [FloatOps F]

local notation "𝕄" => MT nD τ sig Unit (Elt F) ℕ UU ℕ

variable (A : Inp F) (m : (ℓ : Loc nD τ sig) → Buf (Elt F) ℓ)

/-- The memory holds these rows and these destinations. -/
structure Inp.Fits : Prop where
  rows : ∀ c : Dev nD, m ((c : Thread nD τ).loc main_arg0) = A.X c
  dest : ∀ (c : Dev nD) (i : S2048.Idx), (m ((c : Thread nD τ).loc main_arg1) : S2048.Idx → BitVec 32) i = BitVec.ofNat 32 (A.D c (i 0)).val

/-- The buffers at launch, before the kernel, after it. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v2) (A.G c)

theorem V₁_of_ne (c : Dev nD) (b : Ref sig .tc) (h : b ≠ main_v1) : V₁ m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- The index of a list of 2048. -/
def at1 (i : Fin 2048) : S2048.Idx := fun | ⟨0, _⟩ => i

/-- The destinations, once they are laid out as the kernel's table. -/
theorem V₁_table (hA : A.Fits m) (c : Dev nD) : V₁ m c (Proc.devRef .tc main_v1) = A.dw c := by
  unfold V₁ hostOps0
  rw [StableHlo.after_cons, StableHlo.after_nil, StableHlo.reshape_result]
  funext x
  show shapeCast S16x128 (m ((c : Thread nD τ).loc main_arg1) : S2048.Idx → BitVec 32) shapeCasts_S2048_S16x128 x = _
  rw [shapeCast_apply (k := at1 (lin x))]
  · exact hA.dest c _
  rw [Shape.rowMajor_val_one, Shape.rowMajor_val_two]
  rfl

theorem V₂_of_ne (c : Dev nD) (b : Ref sig .tc) (h : b ≠ main_v2) : V₂ A m c (Proc.devRef .tc b) = V₁ m c (Proc.devRef .tc b) :=
  Function.update_of_ne (StableHlo.devRef_ne_of_ne h) _ _
theorem V₂_result (c : Dev nD) : V₂ A m c (Proc.devRef .tc main_v2) = A.G c := Function.update_self _ _ _

/-! ## What enters and what leaves -/

/-- Its own semaphores but the barrier. -/
abbrev osem : Fin 7 → SemLoc sig := fun k => sm k.succ

theorem ownSems_eq (c : Dev nD) : (Pipeline.ownSems0 osem c : sProp 𝕄)
    = iprop(semVal (cell c 1) 0 ∗ semVal (cell c 2) 0 ∗ semVal (cell c 3) 0 ∗ semVal (cell c 4) 0 ∗ semVal (cell c 5) 0 ∗ semVal (cell c 6) 0 ∗ semVal (cell c 7) 0) := by
  rw [Pipeline.ownSems0_eq_of_list c osem [0, 1, 2, 3, 4, 5, 6] (by decide) (by decide)]; rfl

/-- The right to use its own semaphores. -/
def opens (c : Dev nD) : sProp 𝕄 :=
  iprop(openTok ER (cell c 1) ∗ openTok ER (cell c 2) ∗ openTok ER (cell c 3) ∗ openTok ER (cell c 4) ∗ openTok ER (cell c 5) ∗ openTok ER (cell c 6) ∗ openTok ER (cell c 7))

/-- The units that others owe to the device. -/
def Inp.credits (c : Dev nD) : sProp 𝕄 :=
  iprop(cred (tallyAt (cell c 0) () (3 * amt 0)) ∗ cred (tallyAt (cell c 2) () (3 * amt 2)) ∗ cred (tallyAt (cell c 4) () ((A.duty c 4).card * amt 4)))

/-- What every device knows from the launch on. -/
def Inp.records (K : GSem nD τ sig → ℕ) : sProp 𝕄 := iprop((∀ c, ∀ k, A.inv K c k) ∗ ∀ c, reached ER (cell c 0) 0)

instance records_persistent (K : GSem nD τ sig → ℕ) : BI.Persistent (A.records K : sProp 𝕄) := by unfold Inp.records; infer_instance

/-- What a device has from the launch on. -/
def Inp.linear (c : Dev nD) : sProp 𝕄 := iprop(atPos ER (cell c 0) 0 ∅ 0 ∗ opens c ∗ A.toks c)

def Inp.Tk (c : Dev nD) : sProp 𝕄 := iprop((∃ K, A.records K) ∗ A.linear c ∗ A.credits c)
def Inp.Xk (c : Dev nD) : sProp 𝕄 := iprop((∃ K, A.know K c) ∗ A.toks c ∗ A.drains c)
def Yk (c : Dev nD) : sProp 𝕄 := semVal (cell c 0) 0

theorem region_open (c : Dev nD) : iprop(A.Tk c ∗ Pipeline.ownSems0 osem c ∗ levAts L lv) ⊢ (|={Set.univ}=> A.Xk c : sProp 𝕄) := by
  rw [ownSems_eq]
  unfold Inp.Tk Inp.Xk Inp.records Inp.linear opens Inp.credits Inp.know Inp.recs Inp.drains
  iintro ⟨⟨⟨%K, #HI, #HB⟩, ⟨P0, ⟨O1, O2, O3, O4, O5, O6, O7⟩, HT⟩, C0, C2, C4⟩, ⟨Z1, Z2, Z3, Z4, Z5, Z6, Z7⟩, #Hl⟩
  imod (Rounds.cell_open ER A.rd (g := cell c 1) (Set.mem_univ (K (cell c 1)))) $$ [O1 Z1] with ⟨P1, #R1⟩
  · isplitr; · iapply HI $$ %c %1
    isplitl [O1]; · iexact O1
    iexact Z1
  imod (Rounds.cell_open ER A.rd (g := cell c 2) (Set.mem_univ (K (cell c 2)))) $$ [O2 Z2] with ⟨P2, #R2⟩
  · isplitr; · iapply HI $$ %c %2
    isplitl [O2]; · iexact O2
    iexact Z2
  imod (Rounds.cell_open ER A.rd (g := cell c 3) (Set.mem_univ (K (cell c 3)))) $$ [O3 Z3] with ⟨P3, #R3⟩
  · isplitr; · iapply HI $$ %c %3
    isplitl [O3]; · iexact O3
    iexact Z3
  imod (Rounds.cell_open ER A.rd (g := cell c 4) (Set.mem_univ (K (cell c 4)))) $$ [O4 Z4] with ⟨P4, #R4⟩
  · isplitr; · iapply HI $$ %c %4
    isplitl [O4]; · iexact O4
    iexact Z4
  imod (Rounds.cell_open ER A.rd (g := cell c 5) (Set.mem_univ (K (cell c 5)))) $$ [O5 Z5] with ⟨P5, #R5⟩
  · isplitr; · iapply HI $$ %c %5
    isplitl [O5]; · iexact O5
    iexact Z5
  imod (Rounds.cell_open ER A.rd (g := cell c 6) (Set.mem_univ (K (cell c 6)))) $$ [O6 Z6] with ⟨P6, #R6⟩
  · isplitr; · iapply HI $$ %c %6
    isplitl [O6]; · iexact O6
    iexact Z6
  imod (Rounds.cell_open ER A.rd (g := cell c 7) (Set.mem_univ (K (cell c 7)))) $$ [O7 Z7] with ⟨P7, #R7⟩
  · isplitr; · iapply HI $$ %c %7
    isplitl [O7]; · iexact O7
    iexact Z7
  imodintro
  isplitr
  · iexists K
    isplitr
    · isplitr; · iexact HI
      iexact Hl
    isplitr
    · iintro %k
      rcases (show k = 0 ∨ k = 1 ∨ k = 2 ∨ k = 3 ∨ k = 4 ∨ k = 5 ∨ k = 6 ∨ k = 7 from by revert k; decide) with rfl | rfl | rfl | rfl | rfl | rfl | rfl | rfl
      · iapply HB $$ %c
      · iexact R1
      · iexact R2
      · iexact R3
      · iexact R4
      · iexact R5
      · iexact R6
      · iexact R7
    iintro %s
    iapply HB $$ %_
  isplitl [HT]; · iexact HT
  isplitl [P0 C0]
  · iapply (drain_start A c 0 3); isplitl [P0]; · iexact P0
    iexact C0
  isplitl [P1]; · iapply (drain_start0 A c 1); iexact P1
  isplitl [P2 C2]
  · iapply (drain_start A c 2 3); isplitl [P2]; · iexact P2
    iexact C2
  isplitl [P3]; · iapply (drain_start0 A c 3); iexact P3
  isplitl [P4 C4]
  · iapply (drain_start A c 4 (A.duty c 4).card); isplitl [P4]; · iexact P4
    iexact C4
  isplitl [P5]; · iapply (drain_start0 A c 5); iexact P5
  isplitl [P6]; · iapply (drain_start0 A c 6); iexact P6
  iapply (drain_start0 A c 7); iexact P7

/-! ## The region -/

/-- The windows' arrays, what the kernel leaves in their buffers, and what it holds beside. -/
def dat (c : Dev nD) : Dat τ (Elt F) Unit ℕ UU ℕ cfg0 c where
  A w := V₁ m c (Proc.devRef .tc (Pipeline.arrRef spec0 w))
  after w _ := match w with
    | ⟨0, _⟩ => A.X c
    | ⟨1, _⟩ => A.dw c
    | ⟨2, _⟩ => A.G c
  Φ t := if t.val = 0 then iprop(A.Xk c ∗ A.scratch c ∗ ∃ r, prngReg c r) else iprop(A.zeros c ∗ A.scratch c ∗ ∃ r, prngReg c r)
  q _ := fullShare
  owed t := if t.val = 0 then A.O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat A m

theorem owed_first (c : Dev nD) : (dat A m c).owed t0_0.castSucc = A.O₀ c := by
  show (if (t0_0.castSucc).val = 0 then A.O₀ c else 0) = _
  exact if_pos rfl
theorem owed_last (c : Dev nD) : (dat A m c).owed t0_0.succ = 0 := by
  show (if (t0_0.succ).val = 0 then A.O₀ c else 0) = _
  exact if_neg (Nat.succ_ne_zero _)
theorem held_first (c : Dev nD) : (dat A m c).Φ t0_0.castSucc = iprop(A.Xk c ∗ A.scratch c ∗ ∃ r, prngReg c r) := by
  show (if (t0_0.castSucc).val = 0 then iprop(A.Xk c ∗ A.scratch c ∗ ∃ r, prngReg c r) else iprop(A.zeros c ∗ A.scratch c ∗ ∃ r, prngReg c r)) = _
  exact if_pos rfl
theorem held_last (c : Dev nD) : (dat A m c).Φ t0_0.succ = iprop(A.zeros c ∗ A.scratch c ∗ ∃ r, prngReg c r) := by
  show (if (t0_0.succ).val = 0 then iprop(A.Xk c ∗ A.scratch c ∗ ∃ r, prngReg c r) else iprop(A.zeros c ∗ A.scratch c ∗ ∃ r, prngReg c r)) = _
  exact if_neg (Nat.succ_ne_zero _)

theorem owes_in (c : Dev nD) (t : Fin (cfg0.N + 1)) {O : CellTallies nD τ sig Unit} (h : (dat A m c).owed t = O) :
    (iprop(∃ W, owes (c : Thread nD τ) O W) : sProp 𝕄) ⊢ ((dat A m c).owesAt () t : sProp 𝕄) := by
  unfold Dat.owesAt Pipeline.owesWithin Dat.bound
  rw [h]
  iintro ⟨%W, HO⟩
  iexists W
  isplitr; · ipureintro; exact fun _ _ => Or.inl trivial
  iexact HO

theorem owes_out (c : Dev nD) (t : Fin (cfg0.N + 1)) {O : CellTallies nD τ sig Unit} (h : (dat A m c).owed t = O) :
    ((dat A m c).owesAt () t : sProp 𝕄) ⊢ iprop(∃ W, owes (c : Thread nD τ) O W) := by
  unfold Dat.owesAt Pipeline.owesWithin
  rw [h]
  iintro ⟨%W, -, HO⟩
  iexists W
  iexact HO

theorem fetched0 (c : Dev nD) (d) : (dat A m c).fetched (0 : Fin 3) t0_0 d = V₁ m c (Proc.devRef .tc main_arg0) := by
  funext j
  have hm : (cfg0.win (0 : Fin 3)).moved (cfg0.grid.coords t0_0) j = true :=
    ((cfg0.win (0 : Fin 3)).moved_iff _ j).mpr fun a => (j a).isLt
  unfold Dat.fetched Pipeline.Window.fill
  rw [dif_pos hm]
  unfold Dat.blockOf
  refine congrArg (V₁ m c (Proc.devRef .tc main_arg0)) (funext fun a => Fin.ext ?_)
  show 0 * _ + 1 * (j a).val = (j a).val
  omega
theorem fetched1 (c : Dev nD) (d) : (dat A m c).fetched (1 : Fin 3) t0_0 d = V₁ m c (Proc.devRef .tc main_v1) := by
  funext j
  have hm : (cfg0.win (1 : Fin 3)).moved (cfg0.grid.coords t0_0) j = true :=
    ((cfg0.win (1 : Fin 3)).moved_iff _ j).mpr fun a => (j a).isLt
  unfold Dat.fetched Pipeline.Window.fill
  rw [dif_pos hm]
  unfold Dat.blockOf
  refine congrArg (V₁ m c (Proc.devRef .tc main_v1)) (funext fun a => Fin.ext ?_)
  show 0 * _ + 1 * (j a).val = (j a).val
  omega
theorem before_rows (hA : A.Fits m) (c : Dev nD) (d) : (dat A m c).before (0 : Fin 3) t0_0 d = A.X c := by
  unfold Dat.before; rw [if_pos (fetch0_0 t0_0)]
  refine Eq.trans (b := V₁ m c (Proc.devRef .tc main_arg0)) (fetched0 A m c d) ?_
  exact (V₁_of_ne m c main_arg0 (by decide)).trans (hA.rows c)
theorem before_table (hA : A.Fits m) (c : Dev nD) (d) : (dat A m c).before (1 : Fin 3) t0_0 d = A.dw c := by
  unfold Dat.before; rw [if_pos (fetch0_1 t0_0)]
  refine Eq.trans (b := V₁ m c (Proc.devRef .tc main_v1)) (fetched1 A m c d) ?_
  exact V₁_table A m hA c

theorem owns0 (c : Dev nD) (X : (cc0_stg0_0 : Ref sig .tc).ty.Contents (Elt F)) :
    (owns (c : Thread nD τ) (stage0_0 0) fullShare X : sProp 𝕄) = (c : Thread nD τ).loc cc0_stg0_0 ↦{fullShare} X :=
  owns_whole (c : Thread nD τ) cc0_stg0_0 fullShare X
theorem owns1 (c : Dev nD) (X : (cc0_stg1_0 : Ref sig .tc).ty.Contents (Elt F)) :
    (owns (c : Thread nD τ) (stage0_1 0) fullShare X : sProp 𝕄) = (c : Thread nD τ).loc cc0_stg1_0 ↦{fullShare} X :=
  owns_whole (c : Thread nD τ) cc0_stg1_0 fullShare X
theorem owns2 (c : Dev nD) (X : (cc0_stg2_0 : Ref sig .tc).ty.Contents (Elt F)) :
    (owns (c : Thread nD τ) (stage0_2 0) fullShare X : sProp 𝕄) = (c : Thread nD τ).loc cc0_stg2_0 ↦{fullShare} X :=
  owns_whole (c : Thread nD τ) cc0_stg2_0 fullShare X

theorem body_ok (hA : A.Fits m) (c : Dev nD) : BodyObligation (dat A m c) (defs₀ (F := F)) 𝒱₀ () Set.univ := fun t => by
  obtain rfl := fin_N0 t
  rw [bigSep_W0, bigSep_W0]
  show iprop((dat A m c).Φ t0_0.castSucc ∗ (dat A m c).owesAt () t0_0.castSucc
      ∗ (∃ d, owns (c : Thread nD τ) (stage0_0 0) fullShare ((dat A m c).before (0 : Fin 3) t0_0 d))
      ∗ (∃ d, owns (c : Thread nD τ) (stage0_1 0) fullShare ((dat A m c).before (1 : Fin 3) t0_0 d))
      ∗ (∃ d, owns (c : Thread nD τ) (stage0_2 0) fullShare ((dat A m c).before (2 : Fin 3) t0_0 d)))
    ⊢ wp frame (wpE (defs₀ (F := F)) 𝒱₀ c none) Set.univ (atBufs (cc0_body (F := F))) fun _ => iprop((dat A m c).Φ t0_0.succ ∗ (dat A m c).owesAt () t0_0.succ
      ∗ owns (c : Thread nD τ) (stage0_0 0) fullShare (A.X c)
      ∗ owns (c : Thread nD τ) (stage0_1 0) fullShare (A.dw c)
      ∗ owns (c : Thread nD τ) (stage0_2 0) fullShare (A.G c))
  simp only [before_rows A m hA c, before_table A m hA c]
  rw [held_first, held_last]
  unfold Inp.Xk
  iintro ⟨⟨⟨⟨%K, #HK⟩, HT, HD⟩, HS, Hp⟩, HO, ⟨%d0, H0⟩, ⟨%d1, H1⟩, ⟨%d2, H2⟩⟩
  ihave HO := (owes_out A m c _ (owed_first A m c)) $$ HO
  icases HO with ⟨%W, HO⟩
  iapply (body_run A K c) $$ [HO HT HD HS H0 H1 H2]
  · isplitr; · iexact HK
    isplitl [HO]; · iexact HO
    isplitl [HT]; · iexact HT
    isplitl [HD]; · iexact HD
    isplitl [HS]; · iexact HS
    isplitl [H0]; · iapply (Entails.of_eq (owns0 c (A.X c))); iexact H0
    isplitl [H1]; · iapply (Entails.of_eq (owns1 c (A.dw c))); iexact H1
    iapply (Entails.of_eq (owns2 c _)); iexact H2
  iintro HO HZ HS H0 H1 H2
  isplitl [HZ HS Hp]
  · isplitl [HZ]; · iexact HZ
    isplitl [HS]; · iexact HS
    iexact Hp
  isplitl [HO]
  · iapply (owes_in A m c _ (owed_last A m c)); iexact HO
  isplitl [H0]; · iapply (Entails.of_eq (owns0 c (A.X c)).symm); iexact H0
  isplitl [H1]; · iapply (Entails.of_eq (owns1 c (A.dw c)).symm); iexact H1
  iapply (Entails.of_eq (owns2 c (A.G c)).symm); iexact H2

/-! ## The region as one segment of the run -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_owed (c : Dev nD) (t : Fin ((Pipeline.pin (pcfgs (F := F)) adm 0).N + 1)) (g : GSem nD τ sig) (i : Unit) (h : 0 < (pdats A m 0 c).owed t g i) :
    i ∈ L g ∧ (0 : ℕ) < lv g i := by
  have e : (pdats A m 0 c).owed t = if t.val = 0 then A.O₀ c else 0 := rfl
  rw [e] at h
  split at h
  · obtain ⟨hl, hg⟩ := Above.all A c g i h
    exact ⟨by rw [show L g = {()} from if_pos hg]; exact Finset.mem_singleton_self _, hl⟩
  · exact absurd h (Nat.lt_irrefl 0)

/-- The arrays no window stages: the destinations as they came. -/
abbrev rest : Finset (DevRef τ sig) := {Proc.devRef .tc main_arg1}

theorem region_in (c : Dev nD) : iprop(Pipeline.scopedRest (Pipeline.pin (pcfgs (F := F)) adm 0).spec c ∗ (∃ r, prngReg c r) ∗ StableHlo.held (c.tc : Thread nD τ) ∅ (V₁ m c) ∗ A.Xk c)
    ⊢ ((pdats A m 0 c).Φ 0 : sProp 𝕄) := by
  refine BI.Entails.trans ?_ (Entails.of_eq (held_first A m c).symm)
  show iprop(Pipeline.scopedRest spec0 c ∗ _) ⊢ _
  rw [scopedRest0_eq]
  unfold Inp.scratch
  iintro ⟨HS, Hp, -, HX⟩
  isplitl [HX]; · iexact HX
  isplitl [HS]; · iexact HS
  iexact Hp

theorem region_out (c : Dev nD) : ((pdats A m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) ∅ (V₂ A m c) ∗ Pipeline.ownSems0 osem c ∗ Yk c) := by
  refine BI.Entails.trans (Entails.of_eq (held_last A m c)) ?_
  show _ ⊢ iprop(Pipeline.scopedRest spec0 c ∗ _)
  rw [scopedRest0_eq, ownSems_eq]
  unfold Inp.scratch Inp.zeros Yk StableHlo.held
  rw [BI.bigSep_empty]
  iintro ⟨⟨Z0, HZ⟩, HS, Hp⟩
  isplitl [HS]; · iexact HS
  isplitl [Hp]; · iexact Hp
  isplitr; · iempintro
  isplitl [HZ]; · iexact HZ
  iexact Z0

theorem stage_level : ∀ (w : Fin 3) (s : Fin (win0 w).nbuf), lvn (kd (.dma ((win0 w).sem s))) ≤ 0 := by decide

theorem array_in (c : Dev nD) (w : Fin 3) : (dat A m c).arrAt w 0 = V₁ m c (Proc.devRef .tc (Pipeline.arrRef spec0 w)) := rfl

theorem array_result (c : Dev nD) : (dat A m c).arrAt (2 : Fin 3) (t0_0.val + 1) = A.G c := by
  rw [(dat A m c).arrAt_succ (2 : Fin 3) t0_0, if_pos (flush0_2 t0_0)]
  funext i
  have he : i = ((cfg0.win (2 : Fin 3)).blk t0_0).view.emb (fun a => ⟨(i a).val, (i a).isLt⟩) := funext fun a => Fin.ext (by
    show (i a).val = 0 * _ + 1 * (i a).val
    omega)
  conv_lhs => rw [he]
  rw [View.write_emb_of_mem _ _ (Finset.mem_univ _)]
  rfl

theorem array_out (hA : A.Fits m) (c : Dev nD) (w : Fin 3) : (dat A m c).arrAt w cfg0.N = V₂ A m c (Proc.devRef .tc (Pipeline.arrRef spec0 w)) := by
  rcases (show w = 0 ∨ w = 1 ∨ w = 2 from by revert w; decide) with rfl | rfl | rfl
  · exact ((dat A m c).arrAt_in (0 : Fin 3) rfl _).trans (V₂_of_ne A m c main_arg0 (by decide)).symm
  · exact ((dat A m c).arrAt_in (1 : Fin 3) rfl _).trans (V₂_of_ne A m c main_v1 (by decide)).symm
  · exact (array_result A m c).trans (V₂_result A m c).symm

set_option backward.isDefEq.respectTransparency.types false in
def region (hA : A.Fits m) : Pipeline.RegionSeg (pcfgs (F := F)) adm (pdats A m) () (defs₀ (F := F)) 𝒱₀ L lv 0 :=
  Pipeline.RegionSeg.ofTalk (pcfgs (F := F)) adm (pdats A m) () defs₀ 𝒱₀ L lv 0 osem (by decide : Pipeline.OwnSemFacts spec0 osem)
    ∅ rest (Finset.empty_subset _) kit rfl (fun c => (body_ok A m hA c).loose)
    (fun _ => 0) A.O₀ (fun c => (owed_first A m c).trans (zero_add _).symm) (owed_last A m) (fun _ => rfl) (fun _ w => by unfold Dat.share; split <;> rfl)
    (V₁ m) (V₂ A m) (fun c b hb => by
      rw [Finset.sdiff_empty, Finset.mem_singleton] at hb
      subst hb
      exact V₂_of_ne A m c main_arg1 (by decide))
    A.Tk Yk A.Xk Yk (region_open A) (region_in A m) (region_out A m)
    (fun c => by iintro H; imodintro; iexact H)
    (fun _ => 0)
    ⟨fun c w s => by rw [L_tc]; exact Finset.mem_singleton_self _, fun c w s => stage_level w s, fun c t g i h => cut_owed A m c t g i h⟩
    (fun _ => iprop(emp))
    (fun c w => array_in A m c w) (fun c w => array_out A m hA c w)

end Cert.Proof
-- ==== Proof.Deal.lean ====
/- What the launch deals: every right to every device, and the units owed counted. -/
module

public import proofs.«01_k».proof.Proof.Region

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Cert.KernelIdeal Cert.KernelIdeal.Gen

variable {F : FTy → Type} [FloatOps F]

local notation "𝕄" => MT nD τ sig Unit (Elt F) ℕ UU ℕ

variable (A : Inp F)

/-! ## The semaphores and the rights to pay on them -/

def barEmb : Dev nD ↪ GSem nD τ sig := ⟨fun c => cell c 0, fun _ _ h => congrArg (fun g : GSem nD τ sig => g.1.1) h⟩
def ownEmb : Dev nD × Fin 7 ↪ GSem nD τ sig :=
  ⟨fun q => cell q.1 q.2.succ, fun _ _ h =>
    Prod.ext (congrArg (fun g : GSem nD τ sig => g.1.1) h) (Fin.succ_injective _ (sm_inj (congrArg Prod.snd h)))⟩

abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  rintro g h₁ h₂
  obtain ⟨c, -, rfl⟩ := Finset.mem_map.mp h₁
  obtain ⟨q, -, h⟩ := Finset.mem_map.mp h₂
  exact Fin.succ_ne_zero q.2 (sm_inj (congrArg Prod.snd h))

theorem cell_mem (c : Dev nD) (k : Fin 8) : cell c k ∈ (barCells ∪ ownCells : Finset (GSem nD τ sig)) := by
  refine Fin.cases ?_ (fun k => ?_) k
  · exact Finset.mem_union_left _ (Finset.mem_map_of_mem barEmb (Finset.mem_univ c))
  · exact Finset.mem_union_right _ (Finset.mem_map_of_mem ownEmb (Finset.mem_univ (c, k)))

/-- Every right: on device `q.1.1`'s semaphore `q.2.1`, by place `q.1.2` for row `q.2.2`. -/
def tokEmb : (Dev nD × Fin 4) × (Fin 8 × Fin 2048) ↪ GSem nD τ sig × ℕ × Dt :=
  ⟨fun q => (cell q.1.1 q.2.1, 0, (q.1.2, q.2.2)), fun a b h => by
    have h1 := congrArg (fun t : GSem nD τ sig × ℕ × Dt => t.1.1.1) h
    have h2 := sm_inj (congrArg (fun t : GSem nD τ sig × ℕ × Dt => t.1.2) h)
    have h3 := congrArg (fun t : GSem nD τ sig × ℕ × Dt => t.2.2.1) h
    have h4 := congrArg (fun t : GSem nD τ sig × ℕ × Dt => t.2.2.2) h
    exact Prod.ext (Prod.ext h1 h3) (Prod.ext h2 h4)⟩
def allToks : Finset (GSem nD τ sig × ℕ × Dt) := Finset.univ.map tokEmb

/-- The rights of one kind that a device gets. -/
def kindToks (c : Dev nD) (k : Fin 8) : sProp 𝕄 :=
  bigSep Finset.univ fun r : Fin 4 => bigSep Finset.univ fun i : Fin 2048 => dutyTok ER (cell (peer c r) k) 0 (zr c, i)

theorem toks_dealt : bigSep allToks (fun x => (dutyTok ER x.1 x.2.1 x.2.2 : sProp 𝕄))
    = bigSep Finset.univ fun c : Dev nD => bigSep Finset.univ fun k : Fin 8 => kindToks c k := by
  unfold allToks
  rw [bigSep_map, bigSep_univ_prod, bigSep_univ_equiv swap, bigSep_univ_prod]
  refine bigSep_congr fun c _ => ?_
  unfold kindToks
  rw [bigSep_univ_comm (fun (k : Fin 8) (r : Fin 4) => bigSep Finset.univ fun i : Fin 2048 => (dutyTok ER (cell (peer c r) k) 0 (zr c, i) : sProp 𝕄))]
  refine bigSep_congr fun r _ => ?_
  rw [bigSep_univ_prod]
  rfl

theorem one_of {I : Type} [Fintype I] [DecidableEq I] (Φ : I → sProp 𝕄) (i : I) : bigSep Finset.univ Φ ⊢ Φ i := bigSep_elim (Finset.mem_univ i)

/-- One right of those to the next three. -/
theorem toks_three (c : Dev nD) (k : Fin 8) : (kindToks c k : sProp 𝕄)
    ⊢ iprop(dutyTok ER (cell (peer c (nxt c 1)) k) 0 (zr c, 0) ∗ dutyTok ER (cell (peer c (nxt c 2)) k) 0 (zr c, 0) ∗ dutyTok ER (cell (peer c (nxt c 3)) k) 0 (zr c, 0)) := by
  unfold kindToks
  rw [four c]
  iintro ⟨-, H1, H2, H3⟩
  isplitl [H1]; · iapply (one_of (fun i : Fin 2048 => (dutyTok ER (cell (peer c (nxt c 1)) k) 0 (zr c, i) : sProp 𝕄)) 0); iexact H1
  isplitl [H2]; · iapply (one_of (fun i : Fin 2048 => (dutyTok ER (cell (peer c (nxt c 2)) k) 0 (zr c, i) : sProp 𝕄)) 0); iexact H2
  iapply (one_of (fun i : Fin 2048 => (dutyTok ER (cell (peer c (nxt c 3)) k) 0 (zr c, i) : sProp 𝕄)) 0); iexact H3

/-- Those on its own semaphore. -/
theorem toks_own (c : Dev nD) (k : Fin 8) : (kindToks c k : sProp 𝕄) ⊢ bigSep Finset.univ fun i : Fin 2048 => dutyTok ER (cell c k) 0 (zr c, i) := by
  refine BI.Entails.trans (bigSep_elim (Φ := fun r : Fin 4 => bigSep Finset.univ fun i : Fin 2048 => (dutyTok ER (cell (peer c r) k) 0 (zr c, i) : sProp 𝕄)) (Finset.mem_univ (zr c))) ?_
  rw [peer_zr]
  exact BI.Entails.refl _

theorem toks_first (c : Dev nD) (k : Fin 8) : (kindToks c k : sProp 𝕄) ⊢ dutyTok ER (cell c k) 0 (zr c, 0) :=
  BI.Entails.trans (toks_own c k) (one_of (fun i : Fin 2048 => (dutyTok ER (cell c k) 0 (zr c, i) : sProp 𝕄)) 0)

theorem toks_counts (c : Dev nD) : (kindToks c 1 : sProp 𝕄)
    ⊢ iprop(dutyTok ER (cell c 1) 0 (zr c, 1) ∗ dutyTok ER (cell c 1) 0 (zr c, 2) ∗ dutyTok ER (cell c 1) 0 (zr c, 3)) := by
  refine BI.Entails.trans (toks_own c 1) (BI.Entails.trans (bigSep_subset (t := {1, 2, 3}) (Finset.subset_univ _)) ?_)
  rw [bigSep_insert (by decide), bigSep_insert (by decide), bigSep_singleton]
  exact BI.Entails.refl _

/-- One right per row, wherever the row goes. -/
theorem toks_goal (c : Dev nD) : (kindToks c 4 : sProp 𝕄) ⊢ bigSep Finset.univ fun i : Fin 2048 => dutyTok ER (cell (peer c (A.D c i)) 4) 0 (zr c, i) := by
  unfold kindToks
  rw [bigSep_univ_comm]
  exact bigSep_mono fun i _ => bigSep_elim (Φ := fun r : Fin 4 => (dutyTok ER (cell (peer c r) 4) 0 (zr c, i) : sProp 𝕄)) (Finset.mem_univ (A.D c i))

theorem toks_rows (c : Dev nD) : iprop(kindToks c 3 ∗ kindToks c 4 ∗ kindToks c 5) ⊢ (bigSep Finset.univ (A.rowTok c) : sProp 𝕄) := by
  refine BI.Entails.trans (BI.sep_mono (toks_own c 3) (BI.sep_mono (toks_goal A c) (toks_own c 5))) ?_
  show iprop((bigSep Finset.univ fun i : Fin 2048 => dutyTok ER (cell c 3) 0 (zr c, i)) ∗ (bigSep Finset.univ fun i : Fin 2048 => dutyTok ER (cell (peer c (A.D c i)) 4) 0 (zr c, i))
    ∗ (bigSep Finset.univ fun i : Fin 2048 => dutyTok ER (cell c 5) 0 (zr c, i))) ⊢ _
  rw [← bigSep_sep', ← bigSep_sep']
  refine bigSep_mono fun i _ => ?_
  show iprop(dutyTok ER (cell c 3) 0 (zr c, i) ∗ dutyTok ER (cell (peer c (A.D c i)) 4) 0 (zr c, i) ∗ dutyTok ER (cell c 5) 0 (zr c, i)) ⊢ _
  unfold Inp.rowTok
  split
  · iintro ⟨-, -, H⟩; iexact H
  · iintro ⟨H3, H4, -⟩
    isplitl [H3] <;> iassumption

theorem toks_of_dealt (c : Dev nD) : bigSep Finset.univ (fun k : Fin 8 => kindToks c k) ⊢ (A.toks c : sProp 𝕄) := by
  rw [bigSep_univ_eq_bigSepL [0, 1, 2, 3, 4, 5, 6, 7] (by decide) (by decide)]
  show iprop(kindToks c 0 ∗ kindToks c 1 ∗ kindToks c 2 ∗ kindToks c 3 ∗ kindToks c 4 ∗ kindToks c 5 ∗ kindToks c 6 ∗ kindToks c 7) ⊢ _
  unfold Inp.toks
  iintro ⟨H0, H1, H2, H3, H4, H5, H6, H7⟩
  isplitl [H0]; · iapply (toks_three c 0); iexact H0
  isplitl [H1]; · iapply (toks_counts c); iexact H1
  isplitl [H2]; · iapply (toks_three c 2); iexact H2
  isplitl [H6]; · iapply (toks_first c 6); iexact H6
  isplitl [H7]; · iapply (toks_first c 7); iexact H7
  iapply (toks_rows A c)
  isplitl [H3]; · iexact H3
  isplitl [H4] <;> iassumption

/-! ## The units owed -/

theorem tally_cell (p c : Dev nD) (k l : Fin 8) (n : ℕ) : (tallyAt (cell p k) () n : CellTallies nD τ sig Unit) (cell c l) () = if p = c ∧ k = l then n else 0 := by
  rw [tallyAt_apply]
  refine if_congr ⟨fun h => ?_, fun h => ?_⟩ rfl rfl
  · exact ⟨(congrArg (fun g : GSem nD τ sig => g.1.1) h.1).symm, (sm_inj (congrArg Prod.snd h.1)).symm⟩
  · exact ⟨by rw [h.1, h.2], rfl⟩

theorem owed_three (c : Dev nD) (j : Fin 4) (k l : Fin 8) (n : ℕ) :
    ∑ d : Dev nD, (toNxt d j k n : CellTallies nD τ sig Unit) (cell c l) () = if k = l then n else 0 := by
  have h : ∀ (c : Fin 16) (j : Fin 4), (Finset.univ.filter fun d : Dev nD => peer d (nxt d j) = c).card = 1 := by decide
  rw [Finset.sum_congr rfl fun d _ => tally_cell (peer d (nxt d j)) c k l n]
  by_cases hk : k = l
  · simp only [hk, and_true, if_true]
    rw [← Finset.sum_filter, Finset.sum_const, h c j, one_smul]
  · simp only [hk, and_false, if_false, Finset.sum_const_zero]

theorem owed_rows (c : Dev nD) (l : Fin 8) : ∑ d : Dev nD, A.owedRows d 0 (cell c l) () = if 4 = l then (A.duty c 4).card * Nrow else 0 := by
  have e (d : Dev nD) : A.owedRows d 0 (cell c l) () = ∑ i : Fin 2048, if (A.D d i ≠ zr d ∧ peer d (A.D d i) = c) ∧ 4 = l then Nrow else 0 := by
    unfold Inp.owedRows
    generalize Nrow = n
    rw [Finset.sum_apply, Finsupp.finset_sum_apply]
    refine Finset.sum_congr rfl fun i _ => ?_
    by_cases hi : A.D d i = zr d
    · rw [if_neg (fun h => h.2 hi), if_neg (fun h => h.1.1 hi)]; rfl
    · rw [if_pos ⟨Nat.zero_le _, hi⟩, tally_cell]
      exact if_congr ⟨fun h => ⟨⟨hi, h.1⟩, h.2⟩, fun h => ⟨h.1.2, h.2⟩⟩ rfl rfl
  rw [Finset.sum_congr rfl fun d _ => e d]
  clear e
  generalize Nrow = n
  by_cases hl : 4 = l
  · simp only [hl, and_true, if_true]
    rw [← Fintype.sum_prod_type' (f := fun (d : Dev nD) (i : Fin 2048) => if A.D d i ≠ zr d ∧ peer d (A.D d i) = c then n else 0),
      ← Finset.sum_filter, Finset.sum_const, smul_eq_mul]
    refine congrArg (· * n) (Finset.card_bij' (fun p _ => (zr p.1, p.2)) (fun p _ => (peer c p.1, p.2)) ?_ ?_ ?_ ?_)
    · rintro ⟨d, i⟩ h
      have h := (Finset.mem_filter.mp h).2
      refine Finset.mem_filter.mpr ⟨Finset.mem_univ _, ?_, ?_⟩
      · show zr d ≠ zr c
        rw [← h.2, zr_peer]; exact fun h' => h.1 h'.symm
      · show A.D (peer c (zr d)) i = zr c
        rw [← h.2, peer_peer, peer_zr, zr_peer]
    · rintro ⟨s, i⟩ h
      have h := (Finset.mem_filter.mp h).2
      have h1 : s ≠ zr c := h.1
      have h2 : A.D (peer c s) i = zr c := h.2
      refine Finset.mem_filter.mpr ⟨Finset.mem_univ _, ?_, ?_⟩
      · show A.D (peer c s) i ≠ zr (peer c s)
        rw [h2, zr_peer]; exact h1.symm
      · show peer (peer c s) (A.D (peer c s) i) = c
        rw [h2, peer_peer, peer_zr]
    · rintro ⟨d, i⟩ h
      have h := (Finset.mem_filter.mp h).2
      show (peer c (zr d), i) = (d, i)
      rw [← h.2, peer_peer, peer_zr]
    · rintro ⟨s, i⟩ h
      show (zr (peer c s), i) = (s, i)
      rw [zr_peer]
  · simp only [hl, and_false, if_false, Finset.sum_const_zero]

theorem owed_all (c : Dev nD) (l : Fin 8) : ∑ d : Dev nD, A.O₀ d (cell c l) ()
    = (if 4 = l then (A.duty c 4).card * Nrow else 0) + 3 * (if 2 = l then Ncnt else 0) + 3 * (if 0 = l then 1 else 0) := by
  have e (d : Dev nD) : A.O₀ d (cell c l) () = A.owedRows d 0 (cell c l) () + (toNxt d 3 2 Ncnt : CellTallies nD τ sig Unit) (cell c l) ()
      + (toNxt d 2 2 Ncnt : CellTallies nD τ sig Unit) (cell c l) () + (toNxt d 1 2 Ncnt : CellTallies nD τ sig Unit) (cell c l) ()
      + (toNxt d 3 0 1 : CellTallies nD τ sig Unit) (cell c l) () + (toNxt d 2 0 1 : CellTallies nD τ sig Unit) (cell c l) ()
      + (toNxt d 1 0 1 : CellTallies nD τ sig Unit) (cell c l) () := rfl
  rw [Finset.sum_congr rfl fun d _ => e d]
  simp only [Finset.sum_add_distrib, owed_rows, owed_three]
  generalize (if (2 : Fin 8) = l then Ncnt else 0) = a
  generalize (if (0 : Fin 8) = l then 1 else 0) = b
  omega

theorem credit_at (c : Dev nD) (l : Fin 8) {n : ℕ} (h : ∑ d : Dev nD, A.O₀ d (cell c l) () = n) :
    tallyOn (cell c l) (launchCredit (Pipeline.owing A.O₀) 0 (cell c l)) = (tallyAt (cell c l) () n : CellTallies nD τ sig Unit) := by
  unfold tallyAt
  refine congrArg _ (Finsupp.ext fun u => ?_)
  cases u
  rw [Pipeline.launchCredit_owing, Finsupp.single_eq_same, h]

theorem credits_of_launch (c : Dev nD) : (Pipeline.launchCred A.O₀ c : sProp 𝕄) ⊢ A.credits c := by
  have a2 : amt 2 = Ncnt := rfl
  have a4 : amt 4 = Nrow := rfl
  have h0 := credit_at A c 0 (n := 3 * amt 0) (by
    rw [owed_all, if_neg (by decide), if_neg (by decide), if_pos rfl, Nat.mul_zero, Nat.zero_add]; rfl)
  have h2 := credit_at A c 2 (n := 3 * amt 2) (by
    rw [owed_all, if_neg (by decide), if_pos rfl, if_neg (by decide), Nat.mul_zero, Nat.zero_add, Nat.add_zero, a2])
  have h4 := credit_at A c 4 (n := (A.duty c 4).card * amt 4) (by
    rw [owed_all, if_pos rfl, if_neg (by decide), if_neg (by decide), Nat.mul_zero, Nat.add_zero, a4])
  unfold Pipeline.launchCred Inp.credits
  rw [← h0, ← h2, ← h4]
  refine BI.Entails.trans (bigSep_subset (t := {sm 0, sm 2, sm 4}) (Finset.subset_univ _)) ?_
  rw [bigSep_insert (by decide), bigSep_insert (by decide), bigSep_singleton]
  exact BI.Entails.refl _

end Cert.Proof
-- ==== Proof.Launch.lean ====
/- The run of the whole program: from a memory that holds given rows and balanced destinations to the rows delivered. -/
module

public import proofs.«01_k».proof.Proof.Deal
public import Idealize.ShloMosaic.Lib.Pipeline.Regions
public import Idealize.ShloMosaic.Lib.Pipeline.Kit
public import Idealize.ShloMosaic.Lib.Quiescent

@[expose] public section

noncomputable section

namespace Cert.Proof

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem
open Idealize.ShloMosaic.Pipeline (Dat)
open Cert.KernelIdeal Cert.KernelIdeal.Gen

variable {F : FTy → Type} [FloatOps F]

local notation "𝕄" => MT nD τ sig Unit (Elt F) ℕ UU ℕ

variable (A : Inp F) (m : (ℓ : Loc nD τ sig) → Buf (Elt F) ℓ) (ρ : Dev nD → PrngReg)

/-! ## The buffers of the program -/

/-- The buffers that outlive the kernel. -/
def bufs : Finset (DevRef τ sig) := (StableHlo.tcRefs τ sig).filter fun b => ¬ b.isScoped

theorem unscoped_held (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (cell c 0) 0 := by
  unfold unscopedSems0
  rw [show (Finset.univ.filter fun s : SemLoc sig => ¬ s.isScoped .tc) = {sm 0} from by decide, BI.bigSep_singleton]

theorem unscoped_sem : ∀ s : SemLoc sig, s.isScoped .tc = false → s = sm 0 := by decide

theorem bufs_split (c : Dev nD) (W : Valuation τ sig (Elt F)) : (StableHlo.held (c : Thread nD τ) bufs W : sProp 𝕄)
    = iprop(StableHlo.held (c.tc : Thread nD τ) (Pipeline.arrRefs (τ := τ) (pcfgs (F := F) 0).spec) W ∗ StableHlo.held (c.tc : Thread nD τ) rest W) := by
  unfold StableHlo.held
  rw [show bufs = Pipeline.arrRefs (τ := τ) (pcfgs (F := F) 0).spec ∪ rest from by
    show bufs = Pipeline.arrRefs (τ := τ) spec0 ∪ rest
    decide]
  exact bigSep_union (by
    show Disjoint (Pipeline.arrRefs (τ := τ) spec0) rest
    decide)

/-- What a device has beside its buffers until the kernel starts. -/
def Inp.ride (c : Dev nD) : sProp 𝕄 := iprop(A.Tk c ∗ (∃ r, prngReg c r) ∗ ∃ W, owes (c : Thread nD τ) (A.O₀ c) W)

theorem ops_sub : ∀ op ∈ (hostOps0 : List (HloOp τ sig (Elt F))), op.bufs ⊆ bufs := fun op h => by
  simp only [hostOps0, List.mem_singleton] at h
  subst h
  show ({Proc.devRef .tc main_arg1, Proc.devRef .tc main_v1} : Finset (DevRef τ sig)) ⊆ bufs
  decide
theorem ops_fresh : ∀ op ∈ (hostOps0 : List (HloOp τ sig (Elt F))), op.fresh = ∅ := fun op h => by
  simp only [hostOps0, List.mem_singleton] at h
  subst h
  rfl

/-- The reshape before the kernel. -/
def host : Pipeline.HostSeg (Ix := Unit) (Name := ℕ) (U := UU) (Lvl := ℕ) (pcfgs (F := F)) defs₀ 𝒱₀ L lv :=
  Pipeline.HostSeg.ofOps _ _ _ _ _ bufs hostOps0 ops_sub ops_fresh (V₀ m) A.ride

def segs (hA : A.Fits m) : List (Pipeline.Seg (pcfgs (F := F)) adm (pdats A m) () defs₀ 𝒱₀ L lv) := [.host (host A m), .region (region A m hA)]

theorem region_pre (hA : A.Fits m) (c : Dev nD) : iprop(StableHlo.held (c : Thread nD τ) bufs (V₁ m c) ∗ A.ride c) ⊢ ((region A m hA).pre c : sProp 𝕄) := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ A.Tk c ∗ ∃ W, owes (c : Thread nD τ) (0 + A.O₀ c) W)
  rw [bufs_split, zero_add]
  unfold Inp.ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (hA : A.Fits m) (c : Dev nD) : ((region A m hA).post c : sProp 𝕄)
    ⊢ iprop((StableHlo.held (c : Thread nD τ) bufs (V₂ A m c) ∗ semVal (cell c 0) 0) ∗ ∃ W, owes (c : Thread nD τ) (0 : CellTallies nD τ sig Unit) W) := by
  show iprop(StableHlo.held (c.tc : Thread nD τ) (Pipeline.arrRefs (τ := τ) (pcfgs (F := F) 0).spec) (V₂ A m c) ∗ (∃ r, prngReg c r)
    ∗ (StableHlo.held (c.tc : Thread nD τ) rest (V₂ A m c) ∗ emp) ∗ Yk c ∗ ∃ W, owes (c : Thread nD τ) (0 : CellTallies nD τ sig Unit) W) ⊢ _
  rw [bufs_split]
  unfold Yk
  iintro ⟨Ha, -, ⟨Hr, -⟩, Hb, HO⟩
  isplitr [HO]
  · isplitr [Hb]
    · isplitl [Ha] <;> iassumption
    iexact Hb
  iexact HO

/-! ## The launch -/

theorem each_join {Φ Ψ : Dev nD → sProp 𝕄} : iprop(bigSep Finset.univ Φ ∗ bigSep Finset.univ Ψ) ⊢ bigSep Finset.univ fun c => iprop(Φ c ∗ Ψ c) := by
  rw [bigSep_sep']
theorem each_split {Φ Ψ : Dev nD → sProp 𝕄} : bigSep Finset.univ (fun c => iprop(Φ c ∗ Ψ c)) ⊢ iprop(bigSep Finset.univ Φ ∗ bigSep Finset.univ Ψ) := by
  rw [bigSep_sep']

/-- The launch element: the staging's and the exchange's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- Everything of the exchange, held by device 0 until it is dealt. -/
def parked (c : Dev nD) : sProp 𝕄 := if c = 0 then BI.own (ER (launchOf barCells ownCells allToks)) else iprop(emp)

theorem parked_all : bigSep Finset.univ (parked (F := F)) = BI.own (ER (launchOf barCells ownCells allToks)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

abbrev T₀ (c : Dev nD) : sProp 𝕄 := iprop(StableHlo.held (c : Thread nD τ) bufs (V₀ m c) ∗ A.ride c)
abbrev Tₙ (c : Dev nD) : sProp 𝕄 := iprop(StableHlo.held (c : Thread nD τ) bufs (V₂ A m c) ∗ semVal (cell c 0) 0)

/-- What a device has of the launch that is not the exchange's. -/
def Inp.plain (c : Dev nD) : sProp 𝕄 :=
  iprop(StableHlo.held (c : Thread nD τ) bufs (V₀ m c) ∗ A.credits c ∗ owes (c : Thread nD τ) (A.O₀ c) ∅ ∗ ∃ r, prngReg c r)

theorem start_intro (K : GSem nD τ sig → ℕ) (c : Dev nD) : iprop(A.records K ∗ (A.linear c ∗ A.plain m c)) ⊢ (T₀ A m c : sProp 𝕄) := by
  unfold Inp.plain T₀ Inp.ride Inp.Tk
  iintro ⟨#HR, HL, Hh, HC, HO, Hp⟩
  isplitl [Hh]; · iexact Hh
  isplitl [HL HC]
  · isplitr; · iexists K; iexact HR
    isplitl [HL] <;> iassumption
  isplitl [Hp]; · iexact Hp
  iexists ∅; iexact HO

theorem opens_of_cells : bigSep ownCells (fun g => (openTok ER g : sProp 𝕄)) ⊢ bigSep Finset.univ (fun c : Dev nD => (opens c : sProp 𝕄)) := by
  rw [bigSep_map, bigSep_univ_prod]
  refine bigSep_mono fun c _ => ?_
  rw [bigSep_univ_eq_bigSepL [0, 1, 2, 3, 4, 5, 6] (by decide) (by decide)]
  exact BI.Entails.refl _

theorem records_of_cells (K : GSem nD τ sig → ℕ) :
    iprop((bigSep (barCells ∪ ownCells) fun g => cellInv ER A.rd (K g) g) ∗ bigSep barCells fun g => reached ER g 0) ⊢ (A.records K : sProp 𝕄) := by
  have hI (c : Dev nD) (k : Fin 8) : (bigSep (barCells ∪ ownCells) fun g => (cellInv ER A.rd (K g) g : sProp 𝕄)) ⊢ A.inv K c k := bigSep_elim (cell_mem c k)
  have hB (c : Dev nD) : (bigSep barCells fun g => (reached ER g 0 : sProp 𝕄)) ⊢ reached ER (cell c 0) 0 :=
    bigSep_elim (Finset.mem_map_of_mem barEmb (Finset.mem_univ c))
  unfold Inp.records
  iintro ⟨#HI, #HB⟩
  isplitr
  · iintro %c %k
    iapply (hI c k); iexact HI
  · iintro %c
    iapply (hB c); iexact HB

theorem launch :
    iprop((bigSep Finset.univ fun c : Dev nD => iprop(unscopedBufs c (fun b => m ((c : Thread nD τ).loc b)) ∗ unscopedSems0 c
          ∗ owes (c : Thread nD τ) (A.O₀ c) ∅ ∗ Pipeline.launchCred A.O₀ c ∗ prngReg c (ρ c) ∗ parked c)) ∗ levAts L lv)
      ⊢ (|={Set.univ}=> bigSep Finset.univ (T₀ A m) : sProp 𝕄) := by
  have hcore (c : Dev nD) : iprop(unscopedBufs c (fun b => m ((c : Thread nD τ).loc b)) ∗ unscopedSems0 c
        ∗ owes (c : Thread nD τ) (A.O₀ c) ∅ ∗ Pipeline.launchCred A.O₀ c ∗ prngReg c (ρ c) ∗ parked c)
      ⊢ (iprop(A.plain m c ∗ (semVal (cell c 0) 0 ∗ parked c)) : sProp 𝕄) := by
    rw [show unscopedBufs c (fun b => m ((c : Thread nD τ).loc b)) = StableHlo.held (c : Thread nD τ) bufs (V₀ m c) from unscoped_held c (V₀ m c), unscoped_sems]
    unfold Inp.plain
    iintro ⟨Hh, Hs, HO, HC, Hp, HG⟩
    isplitl [Hh HO HC Hp]
    · isplitl [Hh]; · iexact Hh
      isplitl [HC]; · iapply (credits_of_launch A c); iexact HC
      isplitl [HO]; · iexact HO
      iexists (ρ c); iexact Hp
    isplitl [Hs] <;> iassumption
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 0) 0 ∅ 0 : sProp 𝕄)) :=
    Entails.of_eq (bigSep_map (s := Finset.univ) barEmb (Φ := fun g : GSem nD τ sig => (atPos ER g 0 ∅ 0 : sProp 𝕄)))
  have htok : bigSep allToks (fun x => (dutyTok ER x.1 x.2.1 x.2.2 : sProp 𝕄)) ⊢ bigSep Finset.univ A.toks :=
    BI.Entails.trans (Entails.of_eq toks_dealt) (bigSep_mono fun c _ => toks_of_dealt A c)
  iintro ⟨H, -⟩
  ihave H := (show (bigSep Finset.univ fun c : Dev nD => iprop(unscopedBufs c (fun b => m ((c : Thread nD τ).loc b)) ∗ unscopedSems0 c
          ∗ owes (c : Thread nD τ) (A.O₀ c) ∅ ∗ Pipeline.launchCred A.O₀ c ∗ prngReg c (ρ c) ∗ parked c))
      ⊢ (bigSep Finset.univ fun c : Dev nD => iprop(A.plain m c ∗ (semVal (cell c 0) 0 ∗ parked c)) : sProp 𝕄) from bigSep_mono fun c _ => hcore c) $$ H
  ihave H := each_split $$ H; icases H with ⟨HB, H⟩
  ihave H := each_split $$ H; icases H with ⟨Hv, HG⟩
  ihave Hu := (show bigSep Finset.univ (parked (F := F)) ⊢ BI.own (ER (launchOf barCells ownCells allToks)) from Entails.of_eq parked_all) $$ HG
  imod (Rounds.fund_launch ER A.rd cells_apart (fun g _ h => h) allToks) $$ [Hv Hu] with ⟨%K, -, #HI, #HR, Hat, Ho, Ht⟩
  · isplitl [Hv]
    · iapply hv $$ Hv
    · iexact Hu
  imodintro
  iapply (bigSep_with_persistent (R := A.records K) (Φ := fun c => iprop(A.linear c ∗ A.plain m c)) fun c _ => start_intro A m K c)
  isplitr
  · iapply (records_of_cells A K)
    isplitr; · iexact HI
    iexact HR
  iapply each_join
  isplitr [HB]
  · unfold Inp.linear
    iapply each_join; isplitl [Hat]; · iapply hat $$ Hat
    iapply each_join; isplitl [Ho]; · iapply opens_of_cells $$ Ho
    iapply htok $$ Ht
  · iexact HB

/-! ## The run -/

theorem held_at (c : Dev nD) (W : Valuation τ sig (Elt F)) (b : Ref sig .tc) (hb : Proc.devRef .tc b ∈ bufs) :
    (StableHlo.held (c : Thread nD τ) bufs W : sProp 𝕄) ⊢ ((c : Thread nD τ).loc b ↦{fullShare} W (Proc.devRef .tc b)) := by
  unfold StableHlo.held
  exact bigSep_elim hb

set_option backward.isDefEq.respectTransparency.types false in
/-- From a memory with these rows and destinations and no count pending, the program ends, its arguments unchanged,
    every device's result the rows sent to it in order, no count pending. -/
theorem run_main (hA : A.Fits m) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = A.G c) ∧ r.2.sem = fun _ => 0) :=
  Pipeline.θ_run_regions_kit_sems (pcfgs (F := F)) adm (pdats A m) () cellOf_inj EP defs₀ 𝒱₀ L lv m ρ main (segs A m hA)
    (fun c Q => by rw [main_segs adm (pdats A m) () 𝒱₀ L lv (host A m) (region A m hA) rfl c]; rfl)
    (by simp only [segs, Pipeline.Seg.pipes_host, Pipeline.Seg.pipes_region, Pipeline.Seg.pipes_nil]; decide)
    (O₀ := A.O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ A m) (Tₙ := Tₙ A m)
    (hch := ⟨fun c => .rfl, fun c => region_pre A m hA c, fun c => region_post A m hA c⟩)
    (hinit := launch A m ρ)
    (QY := fun c s => (s.mem ((c : Thread nD τ).loc main_arg0) = V₂ A m c (Proc.devRef .tc main_arg0)
        ∧ s.mem ((c : Thread nD τ).loc main_arg1) = V₂ A m c (Proc.devRef .tc main_arg1)
        ∧ s.mem ((c : Thread nD τ).loc main_v2) = V₂ A m c (Proc.devRef .tc main_v2))
      ∧ s.sem (cell c 0) = 0)
    (hfin := fun c s' => by
      dsimp only [Tₙ]
      unfold StableHlo.held
      rw [bigSep_eq_bigSepL_of_eq [Proc.devRef .tc main_arg0, Proc.devRef .tc main_arg1, Proc.devRef .tc main_v1, Proc.devRef .tc main_v2] (by decide) (by decide)]
      show iprop(((((c : Thread nD τ).loc main_arg0 ↦{fullShare} V₂ A m c (Proc.devRef .tc main_arg0)) ∗ ((c : Thread nD τ).loc main_arg1 ↦{fullShare} V₂ A m c (Proc.devRef .tc main_arg1))
        ∗ ((c : Thread nD τ).loc main_v1 ↦{fullShare} V₂ A m c (Proc.devRef .tc main_v1)) ∗ ((c : Thread nD τ).loc main_v2 ↦{fullShare} V₂ A m c (Proc.devRef .tc main_v2))) ∗ semVal (cell c 0) 0) ∗ _) ⊢ _
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_of_ne A m c main_arg0 (by decide), V₁_of_ne m c main_arg0 (by decide)] at h0
        rw [V₂_of_ne A m c main_arg1 (by decide), V₁_of_ne m c main_arg1 (by decide)] at h1
        rw [V₂_result] at h2
        exact ⟨h0, h1, h2⟩,
      sem_eq_zero hs fun c s hsm => by
        obtain rfl := unscoped_sem s hsm
        exact (h c).2⟩)

end Cert.Proof
-- ==== Proof.Even.lean ====
/- What the precondition says: on each device every destination is one of the four, and each has 512 rows. From it
   come the rows and destinations that the exchange is described by. -/
module

public import proofs.«01_k».proof.Proof.Gen.Pre_even_Kernel
public import proofs.«01_k».proof.Proof.Launch
public import Idealize.ShloMosaic.Lib.IndicatorCount
public import Idealize.ShloMosaic.Lib.StableHlo.Predicate

@[expose] public section

noncomputable section

namespace Cert.Proof

open Idealize.ShloMosaic Idealize.ShloMosaic.TcCoe
open Idealize.SL.Sem

section Count

variable {F : FTy → Type} [FloatOps F]

/-- The rows of a block bound for the destination `w`. -/
def bound (y : IVec ⟨1, ![2048]⟩ 32) (w : BitVec 32) : Finset (Fin 2048) := Finset.univ.filter fun i => y (Shape.Idx.ofFin i) = w

/-- The sum of a vector's hits is how many there are. -/
theorem hits (y z : IVec ⟨1, ![2048]⟩ 32) (w : BitVec 32) (hz : ∀ i, z i = w) (hw : 1 < 32)
    (h : (⟨1, ![2048]⟩ : Shape).ReducesTo [0] ⟨0, ![]⟩) (hu : 0 < (⟨0, ![]⟩ : Shape).numel) (j : (⟨0, ![]⟩ : Shape).Idx) :
    Host.reduce IntOp.addi (extui 32 (cmpi .eq y z) hw) (constantI ⟨0, ![]⟩ 32 0#32) h hu j = BitVec.ofNat 32 (bound y w).card := by
  rw [Host.reduce_eq_fold]
  refine (IndicatorCount.fold_addi_setWidth_eq_card (w := 32) (fun i : (⟨1, ![2048]⟩ : Shape).Idx => cmpi .eq y z i) _).trans ?_
  refine congrArg (BitVec.ofNat 32) ?_
  refine Finset.card_bij (fun i _ => i 0) (fun i hi => ?_) (fun a _ b _ hab => ?_) fun i hi => ?_
  · have h1 := StableHlo.Predicate.cmpi_eq_iff.mp (Finset.mem_filter.mp hi).2
    refine Finset.mem_filter.mpr ⟨Finset.mem_univ _, ?_⟩
    exact (congrArg y (Shape.Idx.eq_ofFin i)).symm.trans (h1.trans (hz i))
  · exact (Shape.Idx.eq_ofFin a).trans ((congrArg Shape.Idx.ofFin hab).trans (Shape.Idx.eq_ofFin b).symm)
  · refine ⟨Shape.Idx.ofFin i, Finset.mem_filter.mpr ⟨Finset.mem_filter.mpr ⟨Finset.mem_univ _, funext fun b => b.elim0⟩, ?_⟩, rfl⟩
    exact StableHlo.Predicate.cmpi_eq_iff.mpr ((Finset.mem_filter.mp hi).2.trans (hz _).symm)

theorem card_of_word {y : IVec ⟨1, ![2048]⟩ 32} {w : BitVec 32} (h : BitVec.ofNat 32 (bound y w).card = 512#32) :
    (bound y w).card = 512 := by
  have h1 : (bound y w).card ≤ 2048 := (Finset.card_le_univ _).trans (le_of_eq (Fintype.card_fin _))
  have h2 := congrArg BitVec.toNat h
  rw [BitVec.toNat_ofNat, Nat.mod_eq_of_lt (by omega)] at h2
  exact h2

open Cert.Pre_even_Kernel Cert.Pre_even_Kernel.Gen

/-- The four numbers, all found to be 512. -/
theorem four_of_part {a b c d : IVec S_ 32} (h : fn_part1 (F := F) a b c d = fun _ => 1#1) (j : S_.Idx) :
    a j = 512#32 ∧ b j = 512#32 ∧ c j = 512#32 ∧ d j = 512#32 := by
  have hj : ∀ (v : IVec S_ 32) (k : S_.Idx), v k = v j := fun v k => congrArg v (funext fun b => b.elim0)
  have h1 : ∀ i : Fin 4, fn_part1 (F := F) a b c d (Shape.Idx.ofFin i) = 1#1 := fun i => congrFun h _
  have h0 := StableHlo.Predicate.cmpi_eq_iff.mp (h1 0)
  have h2 := StableHlo.Predicate.cmpi_eq_iff.mp (h1 1)
  have h3 := StableHlo.Predicate.cmpi_eq_iff.mp (h1 2)
  have h4 := StableHlo.Predicate.cmpi_eq_iff.mp (h1 3)
  exact ⟨(hj a _).symm.trans h0, (hj b _).symm.trans h2, (hj c _).symm.trans h3, (hj d _).symm.trans h4⟩

/-- An evenly spread block has 512 rows for each of the four. -/
theorem even_card {x : FVec F ⟨2, ![2048, 1024]⟩ .f32} {y : IVec ⟨1, ![2048]⟩ 32}
    (h : Cert.Pre_even_Kernel.fn (F := F) x y = fun _ => 1#1) (r : Fin 4) : (bound y (BitVec.ofNat 32 r.val)).card = 512 := by
  unfold Cert.Pre_even_Kernel.fn at h
  obtain ⟨h0, h1, h2, h3⟩ := four_of_part h (Shape.Idx.first h_S_)
  refine card_of_word ?_
  have e : ∀ w : BitVec 32, Host.reduce IntOp.addi (extui 32 (cmpi .eq y (broadcastInDim S2048 ![] bcast_S_S2048 (constantI S_ 32 w))) natLt_1_32)
      (constantI S_ 32 0#32) reducesTo_S2048_S_d0 h_S_ (Shape.Idx.first h_S_) = BitVec.ofNat 32 (bound y w).card :=
    fun w => hits y _ w (fun _ => rfl) natLt_1_32 reducesTo_S2048_S_d0 h_S_ _
  fin_cases r
  · exact (e 0#32).symm.trans h0
  · exact (e 1#32).symm.trans h1
  · exact (e 2#32).symm.trans h2
  · exact (e 3#32).symm.trans h3

end Count

theorem word_inj {a b : Fin 4} (h : BitVec.ofNat 32 a.val = BitVec.ofNat 32 b.val) : a = b := by
  have h1 := congrArg BitVec.toNat h
  have ha := a.isLt
  have hb := b.isLt
  rw [BitVec.toNat_ofNat, BitVec.toNat_ofNat, Nat.mod_eq_of_lt (by omega), Nat.mod_eq_of_lt (by omega)] at h1
  exact Fin.ext h1

/-- Then every row is bound for one of the four. -/
theorem exists_dest {y : IVec ⟨1, ![2048]⟩ 32} (h : ∀ r : Fin 4, (bound y (BitVec.ofNat 32 r.val)).card = 512) (i : Fin 2048) :
    ∃ r : Fin 4, y (Shape.Idx.ofFin i) = BitVec.ofNat 32 r.val := by
  have hall : (Finset.univ.biUnion fun r : Fin 4 => bound y (BitVec.ofNat 32 r.val)) = Finset.univ := by
    refine Finset.eq_univ_of_card _ ?_
    have hd : ∀ a ∈ (Finset.univ : Finset (Fin 4)), ∀ b ∈ (Finset.univ : Finset (Fin 4)), a ≠ b →
        Disjoint (bound y (BitVec.ofNat 32 a.val)) (bound y (BitVec.ofNat 32 b.val)) := fun a _ b _ hab =>
      Finset.disjoint_filter.mpr fun i _ (h1 : _ = _) (h2 : _ = _) => hab (word_inj (h1.symm.trans h2))
    rw [Finset.card_biUnion hd, Finset.sum_congr rfl fun r _ => h r]
    simp
  obtain ⟨r, _, hr⟩ := Finset.mem_biUnion.mp (hall ▸ Finset.mem_univ i)
  exact ⟨r, (Finset.mem_filter.mp hr).2⟩

section Given

open Cert.KernelIdeal Cert.KernelIdeal.Gen

variable {F : FTy → Type} [FloatOps F]

/-- Every device's block is evenly spread. -/
def Spread (m : (ℓ : Loc nD τ sig) → Buf (Elt F) ℓ) : Prop :=
  ∀ c : Dev nD, Cert.Pre_even_Kernel.fn (F := F) (m ((c.tc : Thread nD τ).loc main_arg0)) (m ((c.tc : Thread nD τ).loc main_arg1))
    = fun _ => 1#1

variable {m : (ℓ : Loc nD τ sig) → Buf (Elt F) ℓ}

/-- The destination of each row of a device. -/
def destOf (h : Spread m) (c : Dev nD) (i : Fin 2048) : Fin 4 :=
  (exists_dest (y := m ((c.tc : Thread nD τ).loc main_arg1)) (even_card (h c)) i).choose

theorem destOf_word (h : Spread m) (c : Dev nD) (i : Fin 2048) :
    (m ((c.tc : Thread nD τ).loc main_arg1) : S2048.Idx → BitVec 32) (Shape.Idx.ofFin i) = BitVec.ofNat 32 (destOf h c i).val :=
  (exists_dest (y := m ((c.tc : Thread nD τ).loc main_arg1)) (even_card (h c)) i).choose_spec

theorem destOf_balanced (h : Spread m) (c : Dev nD) : (grp (destOf h) c).Balanced := by
  intro r
  have hs : ∀ s : Fin 4, (grp (destOf h) c).cnt s r 2048 = 512 := by
    intro s
    rw [Dest.cnt_all, ← even_card (h (peer c s)) r]
    refine congrArg Finset.card (Finset.ext fun i => ?_)
    unfold bound grp
    simp only [Finset.mem_filter, Finset.mem_univ, _root_.true_and]
    exact ⟨fun e => e ▸ destOf_word h (peer c s) i, fun e => word_inj ((destOf_word h (peer c s) i).symm.trans e)⟩
  rw [Finset.sum_congr rfl fun s _ => hs s]
  simp

/-- What the exchange starts from. -/
def given (h : Spread m) : Inp F where
  X c := m ((c.tc : Thread nD τ).loc main_arg0)
  D := destOf h
  bal := destOf_balanced h

theorem given_fits (h : Spread m) : (given h).Fits m where
  rows _ := rfl
  dest c i := (congrArg (m ((c.tc : Thread nD τ).loc main_arg1) : S2048.Idx → BitVec 32) (Shape.Idx.eq_ofFin i)).trans
    (destOf_word h c (i 0))

end Given

end Cert.Proof
-- ==== Proof.Rank.lean ====
/- Sorting by destination, and where it puts a row. A stable sort lists the positions so that the keys go up and, for
   one key, the positions go up too; so the place of a position is the number of positions ahead of it. For the rows
   of four senders laid end to end and sorted by destination, that number is 2048 times the destination plus the
   place the exchange gives the row. -/
module

public import proofs.«01_k».proof.Proof.Counts
public import Idealize.ShloMosaic.Lib.SortFacts

@[expose] public section

namespace Cert.Proof

open Idealize.ShloMosaic

/-! ## The stable order -/

section Order

variable {n : ℕ} (key : Fin n → ℕ)

/-- Position `a` comes before position `b`: a lower key, or the same key and an earlier position. -/
def ahead (a b : Fin n) : Prop := key a < key b ∨ key a = key b ∧ a < b

instance (a b : Fin n) : Decidable (ahead key a b) := by unfold ahead; infer_instance

variable {key}

theorem ahead_trans {a b c : Fin n} (h : ahead key a b) (h' : ahead key b c) : ahead key a c := by
  unfold ahead at *
  omega

theorem ahead_irrefl (a : Fin n) : ¬ ahead key a a := by
  unfold ahead
  omega

/-- Inserting a position that is earlier than all those of an ordered list keeps the list ordered. -/
theorem ordered_insert (R : Fin n → Fin n → Bool) (hR : ∀ a b, R a b = true ↔ key a < key b) (a : Fin n) (l : List (Fin n))
    (hl : l.Pairwise (ahead key)) (ha : ∀ b ∈ l, a < b) : (insertBefore R a l).Pairwise (ahead key) := by
  induction l with
  | nil => exact List.pairwise_singleton _ _
  | cons b l ih =>
    obtain ⟨h1, h2⟩ := List.pairwise_cons.mp hl
    unfold insertBefore
    split
    · next hb =>
      refine List.pairwise_cons.mpr ⟨fun x hx => ?_, ih h2 fun x hx => ha x (List.mem_cons_of_mem _ hx)⟩
      rcases List.mem_cons.mp ((perm_insertBefore R a l).mem_iff.mp hx) with rfl | hx
      · exact Or.inl ((hR b x).mp hb)
      · exact h1 x hx
    · next hb =>
      have hab : ahead key a b := by
        have hk : ¬ key b < key a := fun h => hb ((hR b a).mpr h)
        have := ha b (List.mem_cons_self ..)
        unfold ahead
        omega
      refine List.pairwise_cons.mpr ⟨fun x hx => ?_, hl⟩
      rcases List.mem_cons.mp hx with rfl | hx
      · exact hab
      · exact ahead_trans hab (h1 x hx)

theorem ordered_sort (R : Fin n → Fin n → Bool) (hR : ∀ a b, R a b = true ↔ key a < key b) (l : List (Fin n))
    (hl : l.Pairwise (· < ·)) : (stableSort R l).Pairwise (ahead key) := by
  induction l with
  | nil => exact List.Pairwise.nil
  | cons a l ih =>
    obtain ⟨h1, h2⟩ := List.pairwise_cons.mp hl
    unfold stableSort
    exact ordered_insert R hR a _ (ih h2) fun b hb => h1 b ((perm_stableSort R l).mem_iff.mp hb)

theorem sortedFrom_ahead (R : Fin n → Fin n → Bool) (hR : ∀ a b, R a b = true ↔ key a < key b) {i j : Fin n} (h : i < j) :
    ahead key (sortedFrom R i) (sortedFrom R j) :=
  List.pairwise_iff_get.mp (ordered_sort (key := key) R hR (List.finRange n) (List.pairwise_lt_finRange n)) _ _ h

/-- How many positions are ahead of one. -/
def rank (key : Fin n → ℕ) (a : Fin n) : ℕ := (Finset.univ.filter fun b => ahead key b a).card

/-- What the sort puts at `k` has `k` positions ahead of it. -/
theorem rank_sortedFrom (R : Fin n → Fin n → Bool) (hR : ∀ a b, R a b = true ↔ key a < key b) (k : Fin n) :
    rank key (sortedFrom R k) = k.val := by
  have h : (Finset.univ.filter fun b => ahead key b (sortedFrom R k)) = (Finset.Iio k).image (sortedFrom R) := by
    ext b
    simp only [Finset.mem_filter, Finset.mem_univ, true_and, Finset.mem_image, Finset.mem_Iio]
    constructor
    · intro hb
      obtain ⟨j, rfl⟩ := sortedFrom_surjective R b
      refine ⟨j, ?_, rfl⟩
      rcases lt_trichotomy j k with h | h | h
      · exact h
      · exact absurd (h ▸ hb) (ahead_irrefl _)
      · exact absurd (ahead_trans hb (sortedFrom_ahead R hR h)) (ahead_irrefl _)
    · rintro ⟨j, hj, rfl⟩
      exact sortedFrom_ahead R hR hj
  unfold rank
  rw [h, Finset.card_image_of_injective _ (sortedFrom_injective R), Fin.card_Iio]

/-- A position with `k` positions ahead of it is the one that the sort puts at `k`. -/
theorem sortedFrom_of_rank (R : Fin n → Fin n → Bool) (hR : ∀ a b, R a b = true ↔ key a < key b) (k a : Fin n)
    (h : rank key a = k.val) : sortedFrom R k = a := by
  obtain ⟨j, rfl⟩ := sortedFrom_surjective R a
  rw [rank_sortedFrom R hR] at h
  rw [Fin.ext h]

end Order

/-! ## Four senders laid end to end -/

/-- Row `i` of sender `s` among all the rows. -/
def flat (s : Fin 4) (i : Fin 2048) : Fin 8192 := ⟨s.val * 2048 + i.val, by
  have := s.isLt
  have := i.isLt
  omega⟩

/-- Which sender, and which of its rows, a row of all is. -/
def unflat : Fin 8192 ≃ Fin 4 × Fin 2048 where
  toFun a := (⟨a.val / 2048, by have := a.isLt; omega⟩, ⟨a.val % 2048, by omega⟩)
  invFun q := flat q.1 q.2
  left_inv a := by
    refine Fin.ext ?_
    show a.val / 2048 * 2048 + a.val % 2048 = a.val
    omega
  right_inv q := by
    have := q.2.isLt
    refine Prod.ext (Fin.ext ?_) (Fin.ext ?_)
    · show (q.1.val * 2048 + q.2.val) / 2048 = q.1.val
      omega
    · show (q.1.val * 2048 + q.2.val) % 2048 = q.2.val
      omega

/-- The destination of each row of all. -/
def Dest.key (D : Dest) (a : Fin 8192) : ℕ := (D (unflat a).1 (unflat a).2).val

theorem Dest.key_flat (D : Dest) (s : Fin 4) (i : Fin 2048) : D.key (flat s i) = (D s i).val := by
  unfold Dest.key
  rw [show unflat (flat s i) = (s, i) from unflat.right_inv (s, i)]

/-- The rows bound for an earlier receiver, counted. -/
theorem Dest.card_below {D : Dest} (hB : D.Balanced) (r : Fin 4) :
    (Finset.univ.filter fun q : Fin 4 × Fin 2048 => D q.1 q.2 < r).card = r.val * 2048 := by
  rw [Finset.card_eq_sum_card_fiberwise (f := fun q : Fin 4 × Fin 2048 => D q.1 q.2) (t := Finset.Iio r)
    (fun q hq => Finset.mem_coe.mpr (Finset.mem_Iio.mpr (Finset.mem_filter.mp (Finset.mem_coe.mp hq)).2))]
  rw [Finset.sum_congr rfl fun u hu => ?_, Finset.sum_const, Fin.card_Iio, smul_eq_mul]
  refine Eq.trans (congrArg Finset.card (Finset.ext fun q => ?_)) ((D.card_rowsTo u).trans (hB u))
  rw [D.mem_rowsTo, Finset.mem_filter, Finset.mem_filter]
  constructor
  · exact fun h => h.2
  · exact fun h => ⟨⟨Finset.mem_univ _, h.trans_lt (Finset.mem_Iio.mp hu)⟩, h⟩

/-- The rows of one receiver that are ahead of a row of it, counted. -/
theorem Dest.card_ahead (D : Dest) (s : Fin 4) (i : Fin 2048) :
    (Finset.univ.filter fun q : Fin 4 × Fin 2048 => D q.1 q.2 = D s i ∧ flat q.1 q.2 < flat s i).card = D.pos s i := by
  rw [Finset.card_filter, Fintype.sum_prod_type]
  have h : ∀ t : Fin 4, (∑ j : Fin 2048, if D t j = D s i ∧ flat t j < flat s i then 1 else 0)
      = (if t < s then D.cnt t (D s i) 2048 else 0) + if t = s then D.cnt s (D s i) i.val else 0 := by
    intro t
    rw [← Finset.card_filter]
    have hv : ∀ j : Fin 2048, flat t j < flat s i ↔ t.val * 2048 + j.val < s.val * 2048 + i.val := fun j => Iff.rfl
    rcases lt_trichotomy t s with hts | hts | hts
    · rw [if_pos hts, if_neg (ne_of_lt hts), Nat.add_zero, D.cnt_all]
      refine congrArg Finset.card (Finset.ext fun j => ?_)
      simp only [Finset.mem_filter, Finset.mem_univ, _root_.true_and]
      refine ⟨fun h => h.1, fun h => ⟨h, (hv j).mpr ?_⟩⟩
      have := j.isLt
      have : t.val < s.val := hts
      omega
    · subst hts
      rw [if_neg (lt_irrefl t), if_pos rfl, Nat.zero_add]
      unfold Dest.cnt
      refine congrArg Finset.card (Finset.ext fun j => ?_)
      simp only [Finset.mem_filter, Finset.mem_univ, _root_.true_and]
      rw [hv j]
      constructor
      · exact fun h => ⟨by omega, h.1⟩
      · exact fun h => ⟨h.2, by omega⟩
    · rw [if_neg (not_lt_of_gt hts), if_neg (ne_of_gt hts)]
      refine Finset.card_eq_zero.mpr (Finset.filter_eq_empty_iff.mpr fun j _ h => ?_)
      have h2 := (hv j).mp h.2
      have := i.isLt
      have : s.val < t.val := hts
      omega
  rw [Finset.sum_congr rfl fun t _ => h t, Finset.sum_add_distrib, Finset.sum_ite_eq' Finset.univ s, if_pos (Finset.mem_univ s)]
  rfl

/-- The place of a row in the sort of all the rows. -/
theorem Dest.rank_flat {D : Dest} (hB : D.Balanced) (s : Fin 4) (i : Fin 2048) :
    rank D.key (flat s i) = (D s i).val * 2048 + D.pos s i := by
  unfold rank
  have h : (Finset.univ.filter fun b : Fin 8192 => ahead D.key b (flat s i)).card
      = (Finset.univ.filter fun q : Fin 4 × Fin 2048 => D q.1 q.2 < D s i ∨ D q.1 q.2 = D s i ∧ flat q.1 q.2 < flat s i).card := by
    refine Finset.card_bij (fun b _ => unflat b) (fun b hb => ?_) (fun a _ b _ h => unflat.injective h) fun q hq => ?_
    · have h := (Finset.mem_filter.mp hb).2
      refine Finset.mem_filter.mpr ⟨Finset.mem_univ _, ?_⟩
      rw [show flat (unflat b).1 (unflat b).2 = b from unflat.left_inv b]
      unfold ahead at h
      rw [D.key_flat] at h
      exact h.imp (fun h => h) fun h => ⟨Fin.ext h.1, h.2⟩
    · have h := (Finset.mem_filter.mp hq).2
      refine ⟨flat q.1 q.2, Finset.mem_filter.mpr ⟨Finset.mem_univ _, ?_⟩, unflat.right_inv q⟩
      unfold ahead
      rw [D.key_flat, D.key_flat]
      exact h.imp (fun h => h) fun h => ⟨congrArg Fin.val h.1, h.2⟩
  rw [h, Finset.filter_or, Finset.card_union_of_disjoint, D.card_ahead, Dest.card_below hB]
  exact Finset.disjoint_filter.mpr fun q _ h1 h2 => absurd h2.1 (ne_of_lt h1)

/-- What the sort puts at place `p` of receiver `r`'s stretch is the row that the exchange brings there. -/
theorem Dest.sorted_src {D : Dest} (hB : D.Balanced) (R : Fin 8192 → Fin 8192 → Bool)
    (hR : ∀ a b, R a b = true ↔ D.key a < D.key b) (r : Fin 4) (p : Fin 2048) :
    sortedFrom R (flat r p) = flat (Dest.src hB r p).1 (Dest.src hB r p).2 := by
  refine sortedFrom_of_rank R hR _ _ ?_
  rw [Dest.rank_flat hB, Dest.dest_src hB r p, Dest.pos_src hB r p]
  rfl

end Cert.Proof
-- ==== Proof.RefRun.lean ====
/- The reference: what it computes. Its run holds the gather of the rows at the sorted positions. -/
module

public import proofs.«01_k».proof.Proof.Gen.ReferenceIdeal
public import proofs.«01_k».proof.Proof.Rank
public import Idealize.ShloMosaic.Lib.Claim
public import Idealize.ShloMosaic.Lib.Quiescent
public import Idealize.ShloMosaic.Lib.StableHlo.Predicate

@[expose] public section

noncomputable section

namespace Cert.Proof.Ref

open Idealize.ShloMosaic Idealize.ShloMosaic.TcCoe
open Idealize.SL.Sem
open Cert.ReferenceIdeal Cert.ReferenceIdeal.Gen

variable {F : FTy → Type} [FloatOps F]

/-- The sorted positions, as words. -/
def order (y : IVec S8192 32) : IVec S8192 32 := (Host.sort2 S8192 0 comparator_i32_i32_d0 y (iotaInDim S8192 32 0)).2

/-- The positions as the gather takes them: a negative one would count from the end. -/
def picks (y : IVec S8192 32) : IVec S8192x1 32 :=
  broadcastInDim S8192x1 ![0] bcast_S8192_S8192x1_0
    (select (cmpi .slt (order y) (broadcastInDim S8192 ![] bcast_S_S8192 (constantI S_ 32 0#32)))
      (addi (order y) (broadcastInDim S8192 ![] bcast_S_S8192 (constantI S_ 32 8192#32))) (order y))

/-- The result of the reference. -/
def result (x : S8192x1024.Idx → F .f32) (y : IVec S8192 32) : S8192x1024.Idx → F .f32 :=
  Host.gather gather_S8192x1024_S8192x1_S8192x1024_1_0_n_n_0_1_11024 x (picks y)

theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v7)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine θ_run_mono (Q := fun r => ∀ c : Dev nD, r.2.mem ((c.tc : Thread nD τ).loc main_v7)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ?_
    fun r h => ⟨h, sem_eq_zero_of_no_sems rfl _⟩
  unfold main fn_argsort.body
  hlo_run
  rfl

/-- Whether the sort takes position `a` before position `b`. -/
def before (y : IVec S8192 32) (a b : Fin 8192) : Bool :=
  IntOp.cmpi .slt (y (Shape.Idx.ofFin a)) (y (Shape.Idx.ofFin b)) == 1#1

theorem before_iff (y : IVec S8192 32) (key : Fin 8192 → ℕ)
    (hy : ∀ a : Fin 8192, y (Shape.Idx.ofFin a) = BitVec.ofNat 32 (key a)) (hk : ∀ a, key a < 4) (a b : Fin 8192) :
    before y a b = true ↔ key a < key b := by
  have ha := hk a
  have hb := hk b
  unfold before
  rw [hy, hy, beq_iff_eq]
  refine (StableHlo.Predicate.slt_iff_toNat (by rw [BitVec.toNat_ofNat]; omega) (by rw [BitVec.toNat_ofNat]; omega)).trans ?_
  rw [BitVec.toNat_ofNat, BitVec.toNat_ofNat, Nat.mod_eq_of_lt (by omega), Nat.mod_eq_of_lt (by omega)]

/-- A two-operand sort of a vector whose second operand counts up: what it carries to each place. -/
theorem carried {n : ℕ} (cmp : BitVec 32 × BitVec 32 → BitVec 32 × BitVec 32 → BitVec 1) (y : IVec ⟨1, ![n]⟩ 32) (k : Fin n) :
    (Host.sort2 ⟨1, ![n]⟩ 0 cmp y (iotaInDim ⟨1, ![n]⟩ 32 0)).2 (Shape.Idx.ofFin k)
      = BitVec.ofNat 32 (sortedFrom (fun a b : Fin n => cmp (y (Shape.Idx.ofFin a), BitVec.ofNat 32 a.val)
          (y (Shape.Idx.ofFin b), BitVec.ofNat 32 b.val) == 1#1) k).val := by
  have e : ∀ (j : (⟨1, ![n]⟩ : Shape).Idx) (a : Fin n), j.along (0 : Fin 1) a = Shape.Idx.ofFin a :=
    fun j a => Shape.Idx.along_rank1 j a
  unfold Host.sort2
  rw [dif_pos (show 0 < (⟨1, ![n]⟩ : Shape).rank from Nat.one_pos)]
  refine (congrArg (iotaInDim (⟨1, ![n]⟩ : Shape) 32 0) (e (Shape.Idx.ofFin k) _)).trans ?_
  refine congrArg (fun R : Fin n → Fin n → Bool => BitVec.ofNat 32 (sortedFrom R k).val) (funext fun a => funext fun b => ?_)
  exact congrArg₂ (fun u v => cmp (y u, iotaInDim (⟨1, ![n]⟩ : Shape) 32 0 u) (y v, iotaInDim (⟨1, ![n]⟩ : Shape) 32 0 v) == 1#1)
    (e _ a) (e _ b)

theorem order_apply (y : IVec S8192 32) (k : Fin 8192) :
    order y (Shape.Idx.ofFin k) = BitVec.ofNat 32 (sortedFrom (before y) k).val :=
  carried comparator_i32_i32_d0 y k

/-- A choice whose test fails. -/
theorem chosen {s : Shape} (w z v : IVec s 32) (i : s.Idx) (h : ¬ IntOp.cmpi .slt (w i) (z i) = 1#1) :
    select (cmpi .slt w z) v w i = w i :=
  if_neg h

theorem picks_apply (y : IVec S8192 32) (k : Fin 8192) :
    picks y (StableHlo.Predicate.ixP k) = BitVec.ofNat 32 (sortedFrom (before y) k).val := by
  unfold picks
  refine (StableHlo.Predicate.bcast_col1 bcast_S8192_S8192x1_0 _ k).trans ?_
  refine (chosen _ _ _ _ ?_).trans (order_apply y k)
  rw [order_apply]
  have := (sortedFrom (before y) k).isLt
  exact fun h => Nat.not_lt_zero _ ((StableHlo.Predicate.slt_iff_toNat (b := 0#32)
    (by rw [BitVec.toNat_ofNat]; omega) (by decide)).mp h)

/-- The reference reads, for each place, the row that the sort puts there. -/
theorem result_apply (x : S8192x1024.Idx → F .f32) (y : IVec S8192 32) (i : S8192x1024.Idx) :
    result x y i = x (StableHlo.Predicate.ij (sortedFrom (before y) (i 0)) (i 1)) := by
  unfold result Host.gather
  refine congrArg x (funext fun a => Fin.ext ?_)
  match a with
  | ⟨0, h0⟩ =>
    have hv : picks y (gather_S8192x1024_S8192x1_S8192x1024_1_0_n_n_0_1_11024.siIdx i ⟨0, by decide⟩)
        = BitVec.ofNat 32 (sortedFrom (before y) (i 0)).val := by
      refine Eq.trans (congrArg (picks y) (funext fun b => ?_)) (picks_apply y (i 0))
      match b with
      | ⟨0, _⟩ => rfl
      | ⟨1, _⟩ => rfl
    show min (picks y (gather_S8192x1024_S8192x1_S8192x1024_1_0_n_n_0_1_11024.siIdx i ⟨0, by decide⟩)).toInt.toNat (8192 - 1) + 0 + 0
      = (sortedFrom (before y) (i 0)).val
    have := (sortedFrom (before y) (i 0)).isLt
    rw [hv, StableHlo.Predicate.toInt_ofNat_small _ (by omega)]
    rw [Int.toNat_natCast]
    omega
  | ⟨1, h1⟩ =>
    show 0 + 0 + (i 1).val = (i 1).val
    omega

end Cert.Proof.Ref
-- ==== Proof.Agree.lean ====
/- What the devices end with is their part of what the reference ends with. -/
module

public import proofs.«01_k».proof.Proof.Even
public import proofs.«01_k».proof.Proof.RefRun
public import Idealize.ShloMosaic.Lib.Layout

@[expose] public section

noncomputable section

namespace Cert.Proof

open Idealize.ShloMosaic Idealize.ShloMosaic.TcCoe
open Idealize.SL.Sem
open Cert.KernelIdeal Cert.KernelIdeal.Gen

variable {F : FTy → Type} [FloatOps F]

/-- A device's part of an array of rows. -/
def part2 {α : Type} (c : Dev nD) (v : (⟨2, ![8192, 1024]⟩ : Shape).Idx → α) : (⟨2, ![2048, 1024]⟩ : Shape).Idx → α :=
  Layout.blockN ⟨2, ![2048, 1024]⟩ ⟨2, ![8192, 1024]⟩ (Layout.meshBlock [2, 2, 4] ![[2], []] c) v

/-- A device's part of a vector. -/
def part1 {α : Type} (c : Dev nD) (v : (⟨1, ![8192]⟩ : Shape).Idx → α) : (⟨1, ![2048]⟩ : Shape).Idx → α :=
  Layout.blockN ⟨1, ![2048]⟩ ⟨1, ![8192]⟩ (Layout.meshBlock [2, 2, 4] ![[2]] c) v

/-- Which part a device has: that of its place among its four. -/
theorem lin_zr (c : Dev nD) : Layout.meshLin [2, 2, 4] c.val [2] = (zr c).val := by
  show c.val / 1 % 4 * 1 + 0 = c.val % 4
  omega

theorem part2_apply {α : Type} (c : Dev nD) (v : (⟨2, ![8192, 1024]⟩ : Shape).Idx → α) (i : (⟨2, ![2048, 1024]⟩ : Shape).Idx) :
    part2 c v i = v (StableHlo.Predicate.ij (flat (zr c) (i 0)) (i 1)) := by
  unfold part2
  rw [Layout.blockN_apply]
  refine congrArg v (funext fun b => Fin.ext ?_)
  rw [Layout.TilesN.idx_val]
  match b with
  | ⟨0, _⟩ => exact congrArg (fun n => n * 2048 + (i 0).val) (lin_zr c)
  | ⟨1, _⟩ =>
    show 0 * 1024 + (i 1).val = (i 1).val
    omega

theorem part1_apply {α : Type} (c : Dev nD) (v : (⟨1, ![8192]⟩ : Shape).Idx → α) (i : Fin 2048) :
    part1 c v (Shape.Idx.ofFin i) = v (Shape.Idx.ofFin (flat (zr c) i)) := by
  unfold part1
  rw [Layout.blockN_apply]
  refine congrArg v (funext fun b => Fin.ext ?_)
  rw [Layout.TilesN.idx_val]
  match b with
  | ⟨0, _⟩ => exact congrArg (fun n => n * 2048 + i.val) (lin_zr c)

variable {m : (ℓ : Loc nD τ sig) → Buf (Elt F) ℓ}

/-- Each device's rows in the end are its part of the reference's rows. All that is asked of the destinations is that
    each of the four receives 2048 rows in all, which is part of `Inp`. -/
theorem agree (A : Inp F) (hA : A.Fits m) (x : (⟨2, ![8192, 1024]⟩ : Shape).Idx → F .f32) (y : IVec ⟨1, ![8192]⟩ 32)
    (hx : ∀ c : Dev nD, m ((c.tc : Thread nD τ).loc main_arg0) = part2 c x)
    (hy : ∀ c : Dev nD, m ((c.tc : Thread nD τ).loc main_arg1) = part1 c y) (c : Dev nD) :
    A.G c = part2 c (Ref.result x y) := by
  have hD : ∀ a : Fin 8192, y (Shape.Idx.ofFin a) = BitVec.ofNat 32 ((grp A.D c).key a) := by
    intro a
    have h1 := hA.dest (peer c (unflat a).1) (Shape.Idx.ofFin (unflat a).2)
    rw [hy] at h1
    refine Eq.trans ?_ ((part1_apply _ y _).symm.trans h1)
    rw [zr_peer]
    exact congrArg (fun a => y (Shape.Idx.ofFin a)) (unflat.left_inv a).symm
  have hR := Ref.before_iff y _ hD fun a => Fin.isLt _
  funext i
  rw [part2_apply, Ref.result_apply]
  have hs := Dest.sorted_src (A.bal c) (Ref.before y) hR (zr c) (i 0)
  generalize hd : Dest.src (A.bal c) (zr c) (i 0) = d at hs
  have hG : A.G c i = m (((peer c d.1).tc : Thread nD τ).loc main_arg0) (at2 d.2 (i 1)) := by
    unfold Inp.G
    rw [hd, hA.rows]
  rw [hG, hx]
  refine (part2_apply _ x _).trans ?_
  rw [zr_peer]
  exact congrArg (fun a => x (StableHlo.Predicate.ij a (i 1))) hs.symm

/-- The kernel's run against the reference's result, for any destinations of which each of the four receives 2048 rows
    in all: blocks need not be evenly spread one by one. -/
theorem run_balanced (A : Inp F) (hA : A.Fits m) (g : Dev nD → PrngReg) (x : (⟨2, ![8192, 1024]⟩ : Shape).Idx → F .f32)
    (y : IVec ⟨1, ![8192]⟩ 32) (hx : ∀ c : Dev nD, m ((c.tc : Thread nD τ).loc main_arg0) = part2 c x)
    (hy : ∀ c : Dev nD, m ((c.tc : Thread nD τ).loc main_arg1) = part1 c y) :
    θ_run (defs (F := F)) (onTc (τ := τ) (main (F := F))) ⟨m, fun _ => 0, g⟩ (fun r => ∀ c : Dev nD,
      r.2.mem ((c.tc : Thread nD τ).loc main_v2) = part2 c (Ref.result x y)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run_main A m g hA) fun _ hr c => ⟨(hr.1 c).2.2.trans (agree A hA x y hx hy c), (hr.1 c).1, (hr.1 c).2.1⟩

end Cert.Proof
-- ==== Proof.lean ====
/- The claim, put together: both programs run, leave their arguments as they were and every counter at zero, and each
   device ends with its part of what the reference ends with. -/
module

public import proofs.«01_k».proof.Defs
public import proofs.«01_k».proof.Proof.Gen.Kernel
public import proofs.«01_k».proof.Proof.Gen.Pre_even_ReferenceIdeal
public import proofs.«01_k».proof.Proof.Agree

@[expose] public section

noncomputable section

namespace Cert.Proof

open Idealize.ShloMosaic Idealize.ShloMosaic.TcCoe
open Idealize.SL.Sem

/-- At any numbers, the program runs from evenly spread blocks. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) (h : Spread m) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  θ_run_mono (run_main (given h) m g (given_fits h)) fun _ hr => ⟨fun c => ⟨(hr.1 c).1, (hr.1 c).2.1⟩, hr.2⟩

theorem frame_ideal : Cert.quiescent_KernelIdeal := fun m g h => frame_any (F := Ideal) m g h

/-- The kernel's body is the same text in both readings. -/
theorem same_body {F : FTy → Type} [FloatOps F] : Cert.Kernel.cc0_body (F := F) = Cert.KernelIdeal.cc0_body (F := F) := rfl

theorem same_defs₀ {F : FTy → Type} [FloatOps F] : Cert.Kernel.defs₀ (F := F) = Cert.KernelIdeal.defs₀ (F := F) := by
  funext p ℓ a
  match p, ℓ, a with
  | .tc, 0, (_, _) => rfl
  | .scScalar _, _, _ => rfl
  | .scVector _ _, _, _ => rfl

theorem same_defs {F : FTy → Type} [FloatOps F] : Cert.Kernel.defs (F := F) = Cert.KernelIdeal.defs (F := F) :=
  congrArg (Pipeline.defs Cert.KernelIdeal.pcfgs) same_defs₀

theorem same_main {F : FTy → Type} [FloatOps F] : Cert.Kernel.main (F := F) = Cert.KernelIdeal.main (F := F) := rfl

theorem frame_kernel : Cert.quiescent_Kernel := fun m g h => by
  have hr := frame_any (F := Bits) m g h
  rw [← same_defs, ← same_main] at hr
  exact hr

theorem frame_reference : Cert.quiescent_ReferenceIdeal := fun m g _ =>
  θ_run_mono (Ref.run m g) fun _ hr => ⟨fun c => (hr.1 c).2, hr.2⟩

theorem frame_reference_even : Cert.quiescent_ReferenceIdeal_pre_even_ReferenceIdeal := fun m g _ =>
  θ_run_mono (Ref.run m g) fun _ hr => ⟨fun c => (hr.1 c).2, hr.2⟩

theorem same_values : Cert.algebraic_KernelIdeal_ReferenceIdeal := fun m g m' g' h hin =>
  ⟨_, run_balanced (F := Ideal) (given (m := m) h) (given_fits (m := m) h) g _ _ (fun c => (hin c).1) (fun c => (hin c).2),
    θ_run_mono (Ref.run m' g') fun _ hr => hr.1 0⟩

theorem claim : Cert.Claim :=
  ⟨Cert.Kernel.Gen.facts, Cert.KernelIdeal.Gen.facts, Cert.ReferenceIdeal.Gen.facts, Cert.Pre_even_Kernel.Gen.facts,
    Cert.Pre_even_ReferenceIdeal.Gen.facts, frame_kernel, frame_ideal, frame_reference, frame_reference_even, trivial, same_values⟩

end Cert.Proof
